-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v405) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Proj_ProjIdeal : Prop :=
  IdealRules.named_const.Statement Cert.ProjIdeal.κ "q_scale" .f32 0x3E38AA3B#32 (((8 * (Real.log 2))⁻¹ : ℝ) : EReal)

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v10_0)) (v1 : (c : Dev Cert.ProjIdeal.nD) → Buf (Elt Ideal) ((c.tc : Thread Cert.ProjIdeal.nD Cert.ProjIdeal.τ).loc Cert.ProjIdeal.main_v10_1)) (v2 : (c : Dev Cert.ProjIdeal.nD) → Buf (Elt Ideal) ((c.tc : Thread Cert.ProjIdeal.nD Cert.ProjIdeal.τ).loc Cert.ProjIdeal.main_v10_2)) (v3 : (c : Dev Cert.ProjIdeal.nD) → Buf (Elt Ideal) ((c.tc : Thread Cert.ProjIdeal.nD Cert.ProjIdeal.τ).loc Cert.ProjIdeal.main_v10_3)) (v4 : (c : Dev Cert.ProjIdeal.nD) → Buf (Elt Ideal) ((c.tc : Thread Cert.ProjIdeal.nD Cert.ProjIdeal.τ).loc Cert.ProjIdeal.main_v10_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10_0) = v0 c
          ∧ r.2.mem ((c.tc : Thread Cert.ProjIdeal.nD Cert.ProjIdeal.τ).loc Cert.ProjIdeal.main_v10_1) = v1 c
          ∧ r.2.mem ((c.tc : Thread Cert.ProjIdeal.nD Cert.ProjIdeal.τ).loc Cert.ProjIdeal.main_v10_2) = v2 c
          ∧ r.2.mem ((c.tc : Thread Cert.ProjIdeal.nD Cert.ProjIdeal.τ).loc Cert.ProjIdeal.main_v10_3) = v3 c
          ∧ r.2.mem ((c.tc : Thread Cert.ProjIdeal.nD Cert.ProjIdeal.τ).loc Cert.ProjIdeal.main_v10_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v53) = v0 c
          ∧ r.2.mem ((c.tc : Thread Cert.ProjReferenceIdeal.nD Cert.ProjReferenceIdeal.τ).loc Cert.ProjReferenceIdeal.main_v54) = v1 c
          ∧ r.2.mem ((c.tc : Thread Cert.ProjReferenceIdeal.nD Cert.ProjReferenceIdeal.τ).loc Cert.ProjReferenceIdeal.main_v57) = v2 c
          ∧ r.2.mem ((c.tc : Thread Cert.ProjReferenceIdeal.nD Cert.ProjReferenceIdeal.τ).loc Cert.ProjReferenceIdeal.main_v65) = v3 c
          ∧ r.2.mem ((c.tc : Thread Cert.ProjReferenceIdeal.nD Cert.ProjReferenceIdeal.τ).loc Cert.ProjReferenceIdeal.main_v70) = v4 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hOut : Cert.Out.Facts) (hOutIdeal : Cert.OutIdeal.Facts) (hOutReferenceIdeal : Cert.OutReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Out (hOut := hOut)
    ∧ quiescent_OutIdeal (hOutIdeal := hOutIdeal)
    ∧ quiescent_OutReferenceIdeal (hOutReferenceIdeal := hOutReferenceIdeal)
    ∧ preserves_Kernel_KernelIdeal
    ∧ algebraic_KernelIdeal_ReferenceIdeal (hKernelIdeal := hKernelIdeal) (hReferenceIdeal := hReferenceIdeal)
    ∧ preserves_Proj_ProjIdeal
    ∧ algebraic_ProjIdeal_ProjReferenceIdeal (hProjIdeal := hProjIdeal) (hProjReferenceIdeal := hProjReferenceIdeal)
    ∧ preserves_Out_OutIdeal
    ∧ algebraic_OutIdeal_OutReferenceIdeal (hOutIdeal := hOutIdeal) (hOutReferenceIdeal := hOutReferenceIdeal)
-- ==== Kernel.lean ====
abbrev S4x4096x1024 : Shape := ⟨3, ![4, 4096, 1024]⟩
abbrev S1024 : Shape := ⟨1, ![1024]⟩
abbrev S1024x5120 : Shape := ⟨2, ![1024, 5120]⟩
abbrev S4x256x256 : Shape := ⟨3, ![4, 256, 256]⟩
abbrev S31x1024 : Shape := ⟨2, ![31, 1024]⟩
abbrev S2048x1024 : Shape := ⟨2, ![2048, 1024]⟩
abbrev S256x256 : Shape := ⟨2, ![256, 256]⟩
abbrev S_ : Shape := ⟨0, ![]⟩
abbrev S1x256x256 : Shape := ⟨3, ![1, 256, 256]⟩
abbrev S2x256x256 : Shape := ⟨3, ![2, 256, 256]⟩
abbrev S1x1024 : Shape := ⟨2, ![1, 1024]⟩
abbrev S1x256x1024 : Shape := ⟨3, ![1, 256, 1024]⟩
abbrev S512x1024 : Shape := ⟨2, ![512, 1024]⟩
abbrev S256x1024 : Shape := ⟨2, ![256, 1024]⟩
abbrev S256x4096 : Shape := ⟨2, ![256, 4096]⟩
abbrev S256x2048 : Shape := ⟨2, ![256, 2048]⟩
abbrev S256x1 : Shape := ⟨2, ![256, 1]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩
abbrev S1024x256 : Shape := ⟨2, ![1024, 256]⟩
abbrev S64x256 : Shape := ⟨2, ![64, 256]⟩
abbrev S1x256 : Shape := ⟨2, ![1, 256]⟩
abbrev S64x1 : Shape := ⟨2, ![64, 1]⟩
abbrev S1024x1024 : Shape := ⟨2, ![1024, 1024]⟩

abbrev nBuf : Space → Nat
  | .hbm => 76
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5120, .f32⟩
  | .hbm, ⟨3, _⟩ => ⟨S4x256x256, .f32⟩
  | .hbm, ⟨4, _⟩ => ⟨S1024, .f32⟩
  | .hbm, ⟨5, _⟩ => ⟨S31x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S2048x1024, .f32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S_, .i32⟩
  | .hbm, ⟨24, _⟩ => ⟨S256x256, .i32⟩
  | .hbm, ⟨25, _⟩ => ⟨S256x256, .i1⟩
  | .hbm, ⟨26, _⟩ => ⟨S_, .i32⟩
  | .hbm, ⟨27, _⟩ => ⟨S_, .i1⟩
  | .hbm, ⟨28, _⟩ => ⟨S256x256, .i1⟩
  | .hbm, ⟨29, _⟩ => ⟨S256x256, .i1⟩
  | .hbm, ⟨30, _⟩ => ⟨S256x256, .i1⟩
  | .hbm, ⟨31, _⟩ => ⟨S256x256, .i32⟩
  | .hbm, ⟨32, _⟩ => ⟨S256x256, .i32⟩
  | .hbm, ⟨33, _⟩ => ⟨S256x256, .i32⟩
  | .hbm, ⟨34, _⟩ => ⟨S_, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S_, .i32⟩
  | .hbm, ⟨39, _⟩ => ⟨S256x256, .i32⟩
  | .hbm, ⟨40, _⟩ => ⟨S256x256, .i32⟩
  | .hbm, ⟨41, _⟩ => ⟨S256x256, .i32⟩
  | .hbm, ⟨42, _⟩ => ⟨S_, .i32⟩
  | .hbm, ⟨43, _⟩ => ⟨S256x256, .i32⟩
  | .hbm, ⟨44, _⟩ => ⟨S256x256, .i1⟩
  | .hbm, ⟨45, _⟩ => ⟨S256x256, .i32⟩
  | .hbm, ⟨46, _⟩ => ⟨S256x256, .i32⟩
  | .hbm, ⟨47, _⟩ => ⟨S_, .i32⟩
  | .hbm, ⟨48, _⟩ => ⟨S256x256, .i32⟩
  | .hbm, ⟨49, _⟩ => ⟨S256x256, .i1⟩
  | .hbm, ⟨50, _⟩ => ⟨S256x256, .i1⟩
  | .hbm, ⟨51, _⟩ => ⟨S_, .i32⟩
  | .hbm, ⟨52, _⟩ => ⟨S256x256, .i32⟩
  | .hbm, ⟨53, _⟩ => ⟨S256x256, .i32⟩
  | .hbm, ⟨54, _⟩ => ⟨S256x256, .i32⟩
  | .hbm, ⟨55, _⟩ => ⟨S256x256, .i32⟩
  | .hbm, ⟨56, _⟩ => ⟨S256x256, .i1⟩
  | .hbm, ⟨57, _⟩ => ⟨S_, .f32⟩
  | .hbm, ⟨58, _⟩ => ⟨S_, .f32⟩
  | .hbm, ⟨59, _⟩ => ⟨S256x256, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S1x256x256, .f32⟩
  | .hbm, ⟨64, _⟩ => ⟨S1x256x256, .f32⟩
  | .hbm, ⟨65, _⟩ => ⟨S2x256x256, .f32⟩
  | .hbm, ⟨66, _⟩ => ⟨S2x256x256, .bf16⟩
  | .hbm, ⟨67, _⟩ => ⟨S1x1024, .f32⟩
  | .hbm, ⟨68, _⟩ => ⟨S1024x5120, .bf16⟩
  | .hbm, ⟨69, _⟩ => ⟨S4x256x256, .bf16⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S2048x1024, .bf16⟩
  | .hbm, ⟨75, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S2x256x256, .bf16⟩
  | .local _ .vmem, ⟨3, _⟩ => ⟨S1x1024, .f32⟩
  | .local _ .vmem, ⟨4, _⟩ => ⟨S1024x5120, .bf16⟩
  | .local _ .vmem, ⟨5, _⟩ => ⟨S4x256x256, .bf16⟩
  | .local _ .vmem, ⟨6, _⟩ => ⟨S1x1024, .f32⟩
  | .local _ .vmem, ⟨7, _⟩ => ⟨S31x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S2048x1024, .bf16⟩
  | .local _ .vmem, ⟨12, _⟩ => ⟨S1x256x1024, .f32⟩
  | .local _ .vmem, ⟨13, _⟩ => ⟨S1x256x1024, .f32⟩
  | .local _ .vmem, ⟨14, _⟩ => ⟨S512x1024, .f32⟩
  | .local _ .vmem, ⟨15, _⟩ => ⟨S512x1024, .f32⟩
  | .local _ .vmem, ⟨16, _⟩ => ⟨S256x1024, .bf16⟩
  | .local _ .vmem, ⟨17, _⟩ => ⟨S256x1024, .bf16⟩
  | .local _ .vmem, ⟨18, _⟩ => ⟨S256x4096, .f32⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x2048, .bf16⟩
  | .local _ .vmem, ⟨23, _⟩ => ⟨S256x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v2 : Ref sig .tc := ⟨.hbm, 33, rfl⟩
abbrev main_c_0 : Ref sig .tc := ⟨.hbm, 34, rfl⟩
abbrev main_v3 : Ref sig .tc := ⟨.hbm, 35, rfl⟩
abbrev main_v4 : Ref sig .tc := ⟨.hbm, 36, rfl⟩
abbrev main_c_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_cst : Ref sig .tc := ⟨.hbm, 57, rfl⟩
abbrev main_cst_2 : Ref sig .tc := ⟨.hbm, 58, rfl⟩
abbrev main_call2_v0 : Ref sig .tc := ⟨.hbm, 59, rfl⟩
abbrev main_call2_v1 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x4096x1024 : Shape := ⟨3, ![4, 4096, 1024]⟩
abbrev S1024 : Shape := ⟨1, ![1024]⟩
abbrev S1024x5120 : Shape := ⟨2, ![1024, 5120]⟩
abbrev S4x256x256 : Shape := ⟨3, ![4, 256, 256]⟩
abbrev S31x1024 : Shape := ⟨2, ![31, 1024]⟩
abbrev S2048x1024 : Shape := ⟨2, ![2048, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5120 : Shape := ⟨3, ![4, 4096, 5120]⟩
abbrev S4x4096x2048 : Shape := ⟨3, ![4, 4096, 2048]⟩
abbrev S4096 : Shape := ⟨1, ![4096]⟩
abbrev S4x4096x256 : Shape := ⟨3, ![4, 4096, 256]⟩
abbrev S1x4096x1 : Shape := ⟨3, ![1, 4096, 1]⟩
abbrev S4x4097x256 : Shape := ⟨3, ![4, 4097, 256]⟩
abbrev S4x4099x256 : Shape := ⟨3, ![4, 4099, 256]⟩
abbrev S4x4103x256 : Shape := ⟨3, ![4, 4103, 256]⟩
abbrev S4x4111x256 : Shape := ⟨3, ![4, 4111, 256]⟩
abbrev S1x256x256 : Shape := ⟨3, ![1, 256, 256]⟩
abbrev S256x256 : Shape := ⟨2, ![256, 256]⟩
abbrev S4x4126x1024 : Shape := ⟨3, ![4, 4126, 1024]⟩
abbrev S1x1024 : Shape := ⟨2, ![1, 1024]⟩

abbrev nBuf : Space → Nat
  | .hbm => 449
  | .vmem => 0
  | .smem => 0
  | _ => 0

abbrev hbmTy0_0 (i : Nat) : BufTy := match i % 128 with
  | 0 => ⟨S4x4096x1024, .f32⟩
  | 1 => ⟨S1024, .f32⟩
  | 2 => ⟨S1024x5120, .f32⟩
  | 3 => ⟨S4x256x256, .f32⟩
  | 4 => ⟨S1024, .f32⟩
  | 5 => ⟨S31x1024, .f32⟩
  | 6 => ⟨S1024, .f32⟩
  | 7 => ⟨S1024, .f32⟩
  | 8 => ⟨S1024, .f32⟩
  | 9 => ⟨S2048x1024, .f32⟩
  | 10 => ⟨S4x4096x1024, .f32⟩
  | 11 => ⟨S_, .f32⟩
  | 12 => ⟨S4x4096, .f32⟩
  | 13 => ⟨S4x4096x1, .f32⟩
  | 14 => ⟨S_, .f32⟩
  | 15 => ⟨S4x4096x1, .f32⟩
  | 16 => ⟨S4x4096x1, .f32⟩
  | 17 => ⟨S_, .f32⟩
  | 18 => ⟨S4x4096x1, .f32⟩
  | 19 => ⟨S4x4096x1, .f32⟩
  | 20 => ⟨S4x4096x1, .f32⟩
  | 21 => ⟨S4x4096x1024, .f32⟩
  | 22 => ⟨S4x4096x1024, .f32⟩
  | 23 => ⟨S1x1x1024, .f32⟩
  | 24 => ⟨S4x4096x1024, .f32⟩
  | 25 => ⟨S4x4096x1024, .f32⟩
  | 26 => ⟨S4x4096x5120, .f32⟩
  | 27 => ⟨S4x4096x1024, .f32⟩
  | 28 => ⟨S4x4096x1024, .f32⟩
  | 29 => ⟨S4x4096x1024, .f32⟩
  | 30 => ⟨S4x4096x2048, .f32⟩
  | 31 => ⟨S4096, .i32⟩
  | 32 => ⟨S4x4096x256, .f32⟩
  | 33 => ⟨S_, .i32⟩
  | 34 => ⟨S4096, .i32⟩
  | 35 => ⟨S4096, .i32⟩
  | 36 => ⟨S_, .i32⟩
  | 37 => ⟨S4096, .i32⟩
  | 38 => ⟨S4096, .i32⟩
  | 39 => ⟨S4096, .f32⟩
  | 40 => ⟨S1x4096x1, .f32⟩
  | 41 => ⟨S_, .i32⟩
  | 42 => ⟨S_, .f32⟩
  | 43 => ⟨S4x4097x256, .f32⟩
  | 44 => ⟨S4x4096x256, .f32⟩
  | 45 => ⟨S4x4096x256, .f32⟩
  | 46 => ⟨S4x4096x256, .f32⟩
  | 47 => ⟨S4x4096x256, .f32⟩
  | 48 => ⟨S4x4096x256, .f32⟩
  | 49 => ⟨S4x4096x256, .f32⟩
  | 50 => ⟨S4x4096x256, .f32⟩
  | 51 => ⟨S_, .i32⟩
  | 52 => ⟨S4096, .i32⟩
  | 53 => ⟨S4096, .i32⟩
  | 54 => ⟨S_, .i32⟩
  | 55 => ⟨S4096, .i32⟩
  | 56 => ⟨S4096, .i32⟩
  | 57 => ⟨S4096, .f32⟩
  | 58 => ⟨S1x4096x1, .f32⟩
  | 59 => ⟨S_, .i32⟩
  | 60 => ⟨S_, .f32⟩
  | 61 => ⟨S4x4099x256, .f32⟩
  | 62 => ⟨S4x4096x256, .f32⟩
  | 63 => ⟨S4x4096x256, .f32⟩
  | 64 => ⟨S4x4096x256, .f32⟩
  | 65 => ⟨S4x4096x256, .f32⟩
  | 66 => ⟨S4x4096x256, .f32⟩
  | 67 => ⟨S4x4096x256, .f32⟩
  | 68 => ⟨S4x4096x256, .f32⟩
  | 69 => ⟨S4x4096x256, .f32⟩
  | 70 => ⟨S4x4096x256, .f32⟩
  | 71 => ⟨S4x4096x256, .f32⟩
  | 72 => ⟨S4x4096x256, .f32⟩
  | 73 => ⟨S_, .i32⟩
  | 74 => ⟨S4096, .i32⟩
  | 75 => ⟨S4096, .i32⟩
  | 76 => ⟨S_, .i32⟩
  | 77 => ⟨S4096, .i32⟩
  | 78 => ⟨S4096, .i32⟩
  | 79 => ⟨S4096, .f32⟩
  | 80 => ⟨S1x4096x1, .f32⟩
  | 81 => ⟨S_, .i32⟩
  | 82 => ⟨S_, .f32⟩
  | 83 => ⟨S4x4103x256, .f32⟩
  | 84 => ⟨S4x4096x256, .f32⟩
  | 85 => ⟨S4x4096x256, .f32⟩
  | 86 => ⟨S4x4096x256, .f32⟩
  | 87 => ⟨S4x4096x256, .f32⟩
  | 88 => ⟨S4x4096x256, .f32⟩
  | 89 => ⟨S4x4096x256, .f32⟩
  | 90 => ⟨S4x4096x256, .f32⟩
  | 91 => ⟨S4x4096x256, .f32⟩
  | 92 => ⟨S4x4096x256, .f32⟩
  | 93 => ⟨S4x4096x256, .f32⟩
  | 94 => ⟨S4x4096x256, .f32⟩
  | 95 => ⟨S4x4096x256, .f32⟩
  | 96 => ⟨S4x4096x256, .f32⟩
  | 97 => ⟨S4x4096x256, .f32⟩
  | 98 => ⟨S4x4096x256, .f32⟩
  | 99 => ⟨S4x4096x256, .f32⟩
  | 100 => ⟨S4x4096x256, .f32⟩
  | 101 => ⟨S4x4096x256, .f32⟩
  | 102 => ⟨S4x4096x256, .f32⟩
  | 103 => ⟨S_, .i32⟩
  | 104 => ⟨S4096, .i32⟩
  | 105 => ⟨S4096, .i32⟩
  | 106 => ⟨S_, .i32⟩
  | 107 => ⟨S4096, .i32⟩
  | 108 => ⟨S4096, .i32⟩
  | 109 => ⟨S4096, .f32⟩
  | 110 => ⟨S1x4096x1, .f32⟩
  | 111 => ⟨S_, .i32⟩
  | 112 => ⟨S_, .f32⟩
  | 113 => ⟨S4x4111x256, .f32⟩
  | 114 => ⟨S4x4096x256, .f32⟩
  | 115 => ⟨S4x4096x256, .f32⟩
  | 116 => ⟨S4x4096x256, .f32⟩
  | 117 => ⟨S4x4096x256, .f32⟩
  | 118 => ⟨S4x4096x256, .f32⟩
  | 119 => ⟨S4x4096x256, .f32⟩
  | 120 => ⟨S4x4096x256, .f32⟩
  | 121 => ⟨S4x4096x256, .f32⟩
  | 122 => ⟨S4x4096x256, .f32⟩
  | 123 => ⟨S4x4096x256, .f32⟩
  | 124 => ⟨S4x4096x256, .f32⟩
  | 125 => ⟨S4x4096x256, .f32⟩
  | 126 => ⟨S4x4096x256, .f32⟩
  | 127 => ⟨S4x4096x256, .f32⟩
  | _ => ⟨S4x4096x1024, .f32⟩

abbrev hbmTy0_1 (i : Nat) : BufTy := match i % 128 with
  | 0 => ⟨S4x4096x256, .f32⟩
  | 1 => ⟨S4x4096x256, .f32⟩
  | 2 => ⟨S4x4096x256, .f32⟩
  | 3 => ⟨S4x4096x256, .f32⟩
  | 4 => ⟨S4x4096x256, .f32⟩
  | 5 => ⟨S4x4096x256, .f32⟩
  | 6 => ⟨S4x4096x256, .f32⟩
  | 7 => ⟨S4x4096x256, .f32⟩
  | 8 => ⟨S4x4096x256, .f32⟩
  | 9 => ⟨S4x4096x256, .f32⟩
  | 10 => ⟨S4x4096x256, .f32⟩
  | 11 => ⟨S4x4096x256, .f32⟩
  | 12 => ⟨S4x4096x256, .f32⟩
  | 13 => ⟨S4x4096x256, .f32⟩
  | 14 => ⟨S4x4096x256, .f32⟩
  | 15 => ⟨S4x4096x256, .f32⟩
  | 16 => ⟨S4x4096x256, .f32⟩
  | 17 => ⟨S4x4096x256, .f32⟩
  | 18 => ⟨S4x4096x256, .f32⟩
  | 19 => ⟨S4x4096x256, .f32⟩
  | 20 => ⟨S1x256x256, .f32⟩
  | 21 => ⟨S256x256, .f32⟩
  | 22 => ⟨S4x4096x256, .f32⟩
  | 23 => ⟨S1x256x256, .f32⟩
  | 24 => ⟨S256x256, .f32⟩
  | 25 => ⟨S4x4096x256, .f32⟩
  | 26 => ⟨S1x256x256, .f32⟩
  | 27 => ⟨S256x256, .f32⟩
  | 28 => ⟨S4x4096x256, .f32⟩
  | 29 => ⟨S1x256x256, .f32⟩
  | 30 => ⟨S256x256, .f32⟩
  | 31 => ⟨S4x4096x256, .f32⟩
  | 32 => ⟨S4x4096x1024, .f32⟩
  | 33 => ⟨S1x1x1024, .f32⟩
  | 34 => ⟨S4x4096x1024, .f32⟩
  | 35 => ⟨S4x4096x1024, .f32⟩
  | 36 => ⟨S4x4096x1024, .f32⟩
  | 37 => ⟨S4x4096x1024, .f32⟩
  | 38 => ⟨S_, .f32⟩
  | 39 => ⟨S4x4096x1024, .f32⟩
  | 40 => ⟨S4x4096x1024, .f32⟩
  | 41 => ⟨S_, .f32⟩
  | 42 => ⟨S4x4096x1024, .f32⟩
  | 43 => ⟨S4x4096x1024, .f32⟩
  | 44 => ⟨S4x4096x1024, .f32⟩
  | 45 => ⟨S_, .i32⟩
  | 46 => ⟨S_, .f32⟩
  | 47 => ⟨S4x4126x1024, .f32⟩
  | 48 => ⟨S4x4096x1024, .f32⟩
  | 49 => ⟨S4x4096x1024, .f32⟩
  | 50 => ⟨S4x4096x1024, .f32⟩
  | 51 => ⟨S4x4096x1024, .f32⟩
  | 52 => ⟨S4x4096x1024, .f32⟩
  | 53 => ⟨S4x4096x1024, .f32⟩
  | 54 => ⟨S4x4096x1024, .f32⟩
  | 55 => ⟨S4x4096x1024, .f32⟩
  | 56 => ⟨S4x4096x1024, .f32⟩
  | 57 => ⟨S4x4096x1024, .f32⟩
  | 58 => ⟨S4x4096x1024, .f32⟩
  | 59 => ⟨S4x4096x1024, .f32⟩
  | 60 => ⟨S4x4096x1024, .f32⟩
  | 61 => ⟨S4x4096x1024, .f32⟩
  | 62 => ⟨S4x4096x1024, .f32⟩
  | 63 => ⟨S4x4096x1024, .f32⟩
  | 64 => ⟨S4x4096x1024, .f32⟩
  | 65 => ⟨S4x4096x1024, .f32⟩
  | 66 => ⟨S4x4096x1024, .f32⟩
  | 67 => ⟨S4x4096x1024, .f32⟩
  | 68 => ⟨S4x4096x1024, .f32⟩
  | 69 => ⟨S4x4096x1024, .f32⟩
  | 70 => ⟨S4x4096x1024, .f32⟩
  | 71 => ⟨S4x4096x1024, .f32⟩
  | 72 => ⟨S4x4096x1024, .f32⟩
  | 73 => ⟨S4x4096x1024, .f32⟩
  | 74 => ⟨S4x4096x1024, .f32⟩
  | 75 => ⟨S4x4096x1024, .f32⟩
  | 76 => ⟨S4x4096x1024, .f32⟩
  | 77 => ⟨S4x4096x1024, .f32⟩
  | 78 => ⟨S4x4096x1024, .f32⟩
  | 79 => ⟨S1x1024, .f32⟩
  | 80 => ⟨S1024, .f32⟩
  | 81 => ⟨S1x1x1024, .f32⟩
  | 82 => ⟨S4x4096x1024, .f32⟩
  | 83 => ⟨S4x4096x1024, .f32⟩
  | 84 => ⟨S_, .f32⟩
  | 85 => ⟨S4x4096x1024, .f32⟩
  | 86 => ⟨S4x4096x1024, .f32⟩
  | 87 => ⟨S1x1024, .f32⟩
  | 88 => ⟨S1024, .f32⟩
  | 89 => ⟨S1x1x1024, .f32⟩
  | 90 => ⟨S4x4096x1024, .f32⟩
  | 91 => ⟨S4x4096x1024, .f32⟩
  | 92 => ⟨S4x4096x1024, .f32⟩
  | 93 => ⟨S1x1024, .f32⟩
  | 94 => ⟨S1024, .f32⟩
  | 95 => ⟨S1x1x1024, .f32⟩
  | 96 => ⟨S4x4096x1024, .f32⟩
  | 97 => ⟨S4x4096x1024, .f32⟩
  | 98 => ⟨S4x4096x1024, .f32⟩
  | 99 => ⟨S1x1024, .f32⟩
  | 100 => ⟨S1024, .f32⟩
  | 101 => ⟨S1x1x1024, .f32⟩
  | 102 => ⟨S4x4096x1024, .f32⟩
  | 103 => ⟨S4x4096x1024, .f32⟩
  | 104 => ⟨S4x4096x1024, .f32⟩
  | 105 => ⟨S1x1024, .f32⟩
  | 106 => ⟨S1024, .f32⟩
  | 107 => ⟨S1x1x1024, .f32⟩
  | 108 => ⟨S4x4096x1024, .f32⟩
  | 109 => ⟨S4x4096x1024, .f32⟩
  | 110 => ⟨S4x4096x1024, .f32⟩
  | 111 => ⟨S1x1024, .f32⟩
  | 112 => ⟨S1024, .f32⟩
  | 113 => ⟨S1x1x1024, .f32⟩
  | 114 => ⟨S4x4096x1024, .f32⟩
  | 115 => ⟨S4x4096x1024, .f32⟩
  | 116 => ⟨S4x4096x1024, .f32⟩
  | 117 => ⟨S1x1024, .f32⟩
  | 118 => ⟨S1024, .f32⟩
  | 119 => ⟨S1x1x1024, .f32⟩
  | 120 => ⟨S4x4096x1024, .f32⟩
  | 121 => ⟨S4x4096x1024, .f32⟩
  | 122 => ⟨S4x4096x1024, .f32⟩
  | 123 => ⟨S1x1024, .f32⟩
  | 124 => ⟨S1024, .f32⟩
  | 125 => ⟨S1x1x1024, .f32⟩
  | 126 => ⟨S4x4096x1024, .f32⟩
  | 127 => ⟨S4x4096x1024, .f32⟩
  | _ => ⟨S4x4096x1024, .f32⟩

abbrev hbmTy0_2 (i : Nat) : BufTy := match i % 128 with
  | 0 => ⟨S4x4096x1024, .f32⟩
  | 1 => ⟨S1x1024, .f32⟩
  | 2 => ⟨S1024, .f32⟩
  | 3 => ⟨S1x1x1024, .f32⟩
  | 4 => ⟨S4x4096x1024, .f32⟩
  | 5 => ⟨S4x4096x1024, .f32⟩
  | 6 => ⟨S4x4096x1024, .f32⟩
  | 7 => ⟨S1x1024, .f32⟩
  | 8 => ⟨S1024, .f32⟩
  | 9 => ⟨S1x1x1024, .f32⟩
  | 10 => ⟨S4x4096x1024, .f32⟩
  | 11 => ⟨S4x4096x1024, .f32⟩
  | 12 => ⟨S4x4096x1024, .f32⟩
  | 13 => ⟨S1x1024, .f32⟩
  | 14 => ⟨S1024, .f32⟩
  | 15 => ⟨S1x1x1024, .f32⟩
  | 16 => ⟨S4x4096x1024, .f32⟩
  | 17 => ⟨S4x4096x1024, .f32⟩
  | 18 => ⟨S4x4096x1024, .f32⟩
  | 19 => ⟨S1x1024, .f32⟩
  | 20 => ⟨S1024, .f32⟩
  | 21 => ⟨S1x1x1024, .f32⟩
  | 22 => ⟨S4x4096x1024, .f32⟩
  | 23 => ⟨S4x4096x1024, .f32⟩
  | 24 => ⟨S4x4096x1024, .f32⟩
  | 25 => ⟨S1x1024, .f32⟩
  | 26 => ⟨S1024, .f32⟩
  | 27 => ⟨S1x1x1024, .f32⟩
  | 28 => ⟨S4x4096x1024, .f32⟩
  | 29 => ⟨S4x4096x1024, .f32⟩
  | 30 => ⟨S4x4096x1024, .f32⟩
  | 31 => ⟨S1x1024, .f32⟩
  | 32 => ⟨S1024, .f32⟩
  | 33 => ⟨S1x1x1024, .f32⟩
  | 34 => ⟨S4x4096x1024, .f32⟩
  | 35 => ⟨S4x4096x1024, .f32⟩
  | 36 => ⟨S4x4096x1024, .f32⟩
  | 37 => ⟨S1x1024, .f32⟩
  | 38 => ⟨S1024, .f32⟩
  | 39 => ⟨S1x1x1024, .f32⟩
  | 40 => ⟨S4x4096x1024, .f32⟩
  | 41 => ⟨S4x4096x1024, .f32⟩
  | 42 => ⟨S4x4096x1024, .f32⟩
  | 43 => ⟨S1x1024, .f32⟩
  | 44 => ⟨S1024, .f32⟩
  | 45 => ⟨S1x1x1024, .f32⟩
  | 46 => ⟨S4x4096x1024, .f32⟩
  | 47 => ⟨S4x4096x1024, .f32⟩
  | 48 => ⟨S4x4096x1024, .f32⟩
  | 49 => ⟨S1x1024, .f32⟩
  | 50 => ⟨S1024, .f32⟩
  | 51 => ⟨S1x1x1024, .f32⟩
  | 52 => ⟨S4x4096x1024, .f32⟩
  | 53 => ⟨S4x4096x1024, .f32⟩
  | 54 => ⟨S4x4096x1024, .f32⟩
  | 55 => ⟨S1x1024, .f32⟩
  | 56 => ⟨S1024, .f32⟩
  | 57 => ⟨S1x1x1024, .f32⟩
  | 58 => ⟨S4x4096x1024, .f32⟩
  | 59 => ⟨S4x4096x1024, .f32⟩
  | 60 => ⟨S4x4096x1024, .f32⟩
  | 61 => ⟨S1x1024, .f32⟩
  | 62 => ⟨S1024, .f32⟩
  | 63 => ⟨S1x1x1024, .f32⟩
  | 64 => ⟨S4x4096x1024, .f32⟩
  | 65 => ⟨S4x4096x1024, .f32⟩
  | 66 => ⟨S4x4096x1024, .f32⟩
  | 67 => ⟨S1x1024, .f32⟩
  | 68 => ⟨S1024, .f32⟩
  | 69 => ⟨S1x1x1024, .f32⟩
  | 70 => ⟨S4x4096x1024, .f32⟩
  | 71 => ⟨S4x4096x1024, .f32⟩
  | 72 => ⟨S4x4096x1024, .f32⟩
  | 73 => ⟨S1x1024, .f32⟩
  | 74 => ⟨S1024, .f32⟩
  | 75 => ⟨S1x1x1024, .f32⟩
  | 76 => ⟨S4x4096x1024, .f32⟩
  | 77 => ⟨S4x4096x1024, .f32⟩
  | 78 => ⟨S4x4096x1024, .f32⟩
  | 79 => ⟨S1x1024, .f32⟩
  | 80 => ⟨S1024, .f32⟩
  | 81 => ⟨S1x1x1024, .f32⟩
  | 82 => ⟨S4x4096x1024, .f32⟩
  | 83 => ⟨S4x4096x1024, .f32⟩
  | 84 => ⟨S4x4096x1024, .f32⟩
  | 85 => ⟨S1x1024, .f32⟩
  | 86 => ⟨S1024, .f32⟩
  | 87 => ⟨S1x1x1024, .f32⟩
  | 88 => ⟨S4x4096x1024, .f32⟩
  | 89 => ⟨S4x4096x1024, .f32⟩
  | 90 => ⟨S4x4096x1024, .f32⟩
  | 91 => ⟨S1x1024, .f32⟩
  | 92 => ⟨S1024, .f32⟩
  | 93 => ⟨S1x1x1024, .f32⟩
  | 94 => ⟨S4x4096x1024, .f32⟩
  | 95 => ⟨S4x4096x1024, .f32⟩
  | 96 => ⟨S4x4096x1024, .f32⟩
  | 97 => ⟨S1x1024, .f32⟩
  | 98 => ⟨S1024, .f32⟩
  | 99 => ⟨S1x1x1024, .f32⟩
  | 100 => ⟨S4x4096x1024, .f32⟩
  | 101 => ⟨S4x4096x1024, .f32⟩
  | 102 => ⟨S4x4096x1024, .f32⟩
  | 103 => ⟨S1x1024, .f32⟩
  | 104 => ⟨S1024, .f32⟩
  | 105 => ⟨S1x1x1024, .f32⟩
  | 106 => ⟨S4x4096x1024, .f32⟩
  | 107 => ⟨S4x4096x1024, .f32⟩
  | 108 => ⟨S4x4096x1024, .f32⟩
  | 109 => ⟨S1x1024, .f32⟩
  | 110 => ⟨S1024, .f32⟩
  | 111 => ⟨S1x1x1024, .f32⟩
  | 112 => ⟨S4x4096x1024, .f32⟩
  | 113 => ⟨S4x4096x1024, .f32⟩
  | 114 => ⟨S4x4096x1024, .f32⟩
  | 115 => ⟨S1x1024, .f32⟩
  | 116 => ⟨S1024, .f32⟩
  | 117 => ⟨S1x1x1024, .f32⟩
  | 118 => ⟨S4x4096x1024, .f32⟩
  | 119 => ⟨S4x4096x1024, .f32⟩
  | 120 => ⟨S4x4096x1024, .f32⟩
  | 121 => ⟨S1x1024, .f32⟩
  | 122 => ⟨S1024, .f32⟩
  | 123 => ⟨S1x1x1024, .f32⟩
  | 124 => ⟨S4x4096x1024, .f32⟩
  | 125 => ⟨S4x4096x1024, .f32⟩
  | 126 => ⟨S4x4096x1024, .f32⟩
  | 127 => ⟨S1x1024, .f32⟩
  | _ => ⟨S4x4096x1024, .f32⟩

abbrev hbmTy0_3 (i : Nat) : BufTy := match i % 128 with
  | 0 => ⟨S1024, .f32⟩
  | 1 => ⟨S1x1x1024, .f32⟩
  | 2 => ⟨S4x4096x1024, .f32⟩
  | 3 => ⟨S4x4096x1024, .f32⟩
  | 4 => ⟨S4x4096x1024, .f32⟩
  | 5 => ⟨S1x1024, .f32⟩
  | 6 => ⟨S1024, .f32⟩
  | 7 => ⟨S1x1x1024, .f32⟩
  | 8 => ⟨S4x4096x1024, .f32⟩
  | 9 => ⟨S4x4096x1024, .f32⟩
  | 10 => ⟨S4x4096x1024, .f32⟩
  | 11 => ⟨S1x1x1024, .f32⟩
  | 12 => ⟨S4x4096x1024, .f32⟩
  | 13 => ⟨S4x4096x1024, .f32⟩
  | 14 => ⟨S_, .f32⟩
  | 15 => ⟨S4x4096, .f32⟩
  | 16 => ⟨S4x4096x1, .f32⟩
  | 17 => ⟨S_, .f32⟩
  | 18 => ⟨S4x4096x1, .f32⟩
  | 19 => ⟨S4x4096x1, .f32⟩
  | 20 => ⟨S4x4096x1024, .f32⟩
  | 21 => ⟨S4x4096x1024, .f32⟩
  | 22 => ⟨S4x4096x1024, .f32⟩
  | 23 => ⟨S_, .f32⟩
  | 24 => ⟨S4x4096, .f32⟩
  | 25 => ⟨S4x4096x1, .f32⟩
  | 26 => ⟨S_, .f32⟩
  | 27 => ⟨S4x4096x1, .f32⟩
  | 28 => ⟨S4x4096x1, .f32⟩
  | 29 => ⟨S4x4096x1024, .f32⟩
  | 30 => ⟨S4x4096x1024, .f32⟩
  | 31 => ⟨S_, .f32⟩
  | 32 => ⟨S4x4096x1, .f32⟩
  | 33 => ⟨S4x4096x1, .f32⟩
  | 34 => ⟨S4x4096x1, .f32⟩
  | 35 => ⟨S4x4096x1024, .f32⟩
  | 36 => ⟨S4x4096x1024, .f32⟩
  | 37 => ⟨S1x1x1024, .f32⟩
  | 38 => ⟨S4x4096x1024, .f32⟩
  | 39 => ⟨S4x4096x1024, .f32⟩
  | 40 => ⟨S1x1x1024, .f32⟩
  | 41 => ⟨S4x4096x1024, .f32⟩
  | 42 => ⟨S4x4096x1024, .f32⟩
  | 43 => ⟨S4x4096x1024, .f32⟩
  | 44 => ⟨S4x4096x1024, .f32⟩
  | 45 => ⟨S_, .f32⟩
  | 46 => ⟨S4x4096x1024, .f32⟩
  | 47 => ⟨S4x4096x1024, .f32⟩
  | 48 => ⟨S_, .f32⟩
  | 49 => ⟨S4x4096x1024, .f32⟩
  | 50 => ⟨S4x4096x1024, .f32⟩
  | 51 => ⟨S4x4096x1024, .f32⟩
  | 52 => ⟨S4x4096x2048, .f32⟩
  | 53 => ⟨S4x4096x2048, .f32⟩
  | 54 => ⟨S4x4096x2048, .f32⟩
  | 55 => ⟨S_, .f32⟩
  | 56 => ⟨S4x4096x2048, .f32⟩
  | 57 => ⟨S4x4096x2048, .f32⟩
  | 58 => ⟨S_, .f32⟩
  | 59 => ⟨S4x4096x2048, .f32⟩
  | 60 => ⟨S4x4096x2048, .f32⟩
  | 61 => ⟨S4x4096x2048, .f32⟩
  | 62 => ⟨S4x4096x2048, .f32⟩
  | 63 => ⟨S4x4096x1024, .f32⟩
  | 64 => ⟨S4x4096x1024, .f32⟩
  | _ => ⟨S4x4096x1024, .f32⟩

abbrev hbmTy (i : Nat) : BufTy := match i / 128 with
  | 0 => hbmTy0_0 i
  | 1 => hbmTy0_1 i
  | 2 => hbmTy0_2 i
  | 3 => hbmTy0_3 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_call0_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_c_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_call1_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_v52 : Ref sig .tc := ⟨.hbm, 74, rfl⟩
abbrev main_v53 : Ref sig .tc := ⟨.hbm, 75, rfl⟩
abbrev main_c_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_call2_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_10 : Ref sig .tc := ⟨.hbm, 103, rfl⟩
abbrev main_v78 : Ref sig .tc := ⟨.hbm, 104, rfl⟩
abbrev main_v79 : Ref sig .tc := ⟨.hbm, 105, rfl⟩
abbrev main_c_11 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_12 : Ref sig .tc := ⟨.hbm, 111, rfl⟩
abbrev main_call3_v0 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_cst_13 : Ref sig .tc := ⟨.hbm, 166, rfl⟩
abbrev main_v137 : Ref sig .tc := ⟨.hbm, 167, rfl⟩
abbrev main_v138 : Ref sig .tc := ⟨.hbm, 168, rfl⟩
abbrev main_cst_14 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_c_15 : Ref sig .tc := ⟨.hbm, 173, rfl⟩
abbrev main_call4_v0 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_cst_16 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_v305 : Ref sig .tc := ⟨.hbm, 339, rfl⟩
abbrev main_v306 : Ref sig .tc := ⟨.hbm, 340, rfl⟩
abbrev main_v307 : Ref sig .tc := ⟨.hbm, 341, rfl⟩
abbrev main_v308 : Ref sig .tc := ⟨.hbm, 342, rfl⟩
abbrev main_v309 : Ref sig .tc := ⟨.hbm, 343, rfl⟩
abbrev main_v310 : Ref sig .tc := ⟨.hbm, 344, rfl⟩
abbrev main_v311 : Ref sig .tc := ⟨.hbm, 345, rfl⟩
abbrev main_v312 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_v322 : Ref sig .tc := ⟨.hbm, 356, rfl⟩
abbrev main_v323 : Ref sig .tc := ⟨.hbm, 357, rfl⟩
abbrev main_v324 : Ref sig .tc := ⟨.hbm, 358, rfl⟩
abbrev main_v325 : Ref sig .tc := ⟨.hbm, 359, rfl⟩
abbrev main_v326 : Ref sig .tc := ⟨.hbm, 360, rfl⟩
abbrev main_v327 : Ref sig .tc := ⟨.hbm, 361, rfl⟩
abbrev main_v328 : Ref sig .tc := ⟨.hbm, 362, rfl⟩
abbrev main_v329 : Ref sig .tc := ⟨.hbm, 363, rfl⟩
abbrev main_v330 : Ref sig .tc := ⟨.hbm, 364, rfl⟩
abbrev main_v331 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_v336 : Ref sig .tc := ⟨.hbm, 370, rfl⟩
abbrev main_v337 : Ref sig .tc := ⟨.hbm, 371, rfl⟩
abbrev main_v338 : Ref sig .tc := ⟨.hbm, 372, rfl⟩
abbrev main_v339 : Ref sig .tc := ⟨.hbm, 373, rfl⟩
abbrev main_v340 : Ref sig .tc := ⟨.hbm, 374, rfl⟩
abbrev main_v341 : Ref sig .tc := ⟨.hbm, 375, rfl⟩
abbrev main_v342 : Ref sig .tc := ⟨.hbm, 376, rfl⟩
abbrev main_v343 : Ref sig .tc := ⟨.hbm, 377, rfl⟩
abbrev main_v344 : Ref sig .tc := ⟨.hbm, 378, rfl⟩
abbrev main_v345 : Ref sig .tc := ⟨.hbm, 379, rfl⟩
abbrev main_v346 : Ref sig .tc := ⟨.hbm, 380, rfl⟩
abbrev main_v347 : Ref sig .tc := ⟨.hbm, 381, rfl⟩
abbrev main_v348 : Ref sig .tc := ⟨.hbm, 382, rfl⟩
abbrev main_v349 : Ref sig .tc := ⟨.hbm, 383, rfl⟩
abbrev main_v350 : Ref sig .tc := ⟨.hbm, 384, rfl⟩
abbrev main_v351 : Ref sig .tc := ⟨.hbm, 385, rfl⟩
abbrev main_v352 : Ref sig .tc := ⟨.hbm, 386, rfl⟩
abbrev main_v353 : Ref sig .tc := ⟨.hbm, 387, rfl⟩
abbrev main_v354 : Ref sig .tc := ⟨.hbm, 388, rfl⟩
abbrev main_v355 : Ref sig .tc := ⟨.hbm, 389, rfl⟩
abbrev main_v356 : Ref sig .tc := ⟨.hbm, 390, rfl⟩
abbrev main_v357 : Ref sig .tc := ⟨.hbm, 391, rfl⟩
abbrev main_v358 : Ref sig .tc := ⟨.hbm, 392, rfl⟩
abbrev main_v359 : Ref sig .tc := ⟨.hbm, 393, rfl⟩
abbrev main_v360 : Ref sig .tc := ⟨.hbm, 394, rfl⟩
abbrev main_v361 : Ref sig .tc := ⟨.hbm, 395, rfl⟩
abbrev main_v362 : Ref sig .tc := ⟨.hbm, 396, rfl⟩
abbrev main_v363 : Ref sig .tc := ⟨.hbm, 397, rfl⟩
abbrev main_cst_17 : Ref sig .tc := ⟨.hbm, 398, rfl⟩
abbrev main_v364 : Ref sig .tc := ⟨.hbm, 399, rfl⟩
abbrev main_v365 : Ref sig .tc := ⟨.hbm, 400, rfl⟩
abbrev main_cst_18 : Ref sig .tc := ⟨.hbm, 401, rfl⟩
abbrev main_v366 : Ref sig .tc := ⟨.hbm, 402, rfl⟩
abbrev main_v367 : Ref sig .tc := ⟨.hbm, 403, rfl⟩
abbrev main_v368 : Ref sig .tc := ⟨.hbm, 404, rfl⟩
abbrev main_v369 : Ref sig .tc := ⟨.hbm, 405, rfl⟩
abbrev main_v370 : Ref sig .tc := ⟨.hbm, 406, rfl⟩
abbrev main_cst_19 : Ref sig .tc := ⟨.hbm, 407, rfl⟩
abbrev main_v371 : Ref sig .tc := ⟨.hbm, 408, rfl⟩
abbrev main_v372 : Ref sig .tc := ⟨.hbm, 409, rfl⟩
abbrev main_cst_20 : Ref sig .tc := ⟨.hbm, 410, rfl⟩
abbrev main_v373 : Ref sig .tc := ⟨.hbm, 411, rfl⟩
abbrev main_v374 : Ref sig .tc := ⟨.hbm, 412, rfl⟩
abbrev main_v375 : Ref sig .tc := ⟨.hbm, 413, rfl⟩
abbrev main_v376 : Ref sig .tc := ⟨.hbm, 414, rfl⟩
abbrev main_cst_21 : Ref sig .tc := ⟨.hbm, 415, rfl⟩
abbrev main_v377 : Ref sig .tc := ⟨.hbm, 416, rfl⟩
abbrev main_v378 : Ref sig .tc := ⟨.hbm, 417, rfl⟩
abbrev main_v379 : Ref sig .tc := ⟨.hbm, 418, rfl⟩
abbrev main_v380 : Ref sig .tc := ⟨.hbm, 419, rfl⟩
abbrev main_v381 : Ref sig .tc := ⟨.hbm, 420, rfl⟩
abbrev main_v382 : Ref sig .tc := ⟨.hbm, 421, rfl⟩
abbrev main_v383 : Ref sig .tc := ⟨.hbm, 422, rfl⟩
abbrev main_v384 : Ref sig .tc := ⟨.hbm, 423, rfl⟩
abbrev main_v385 : Ref sig .tc := ⟨.hbm, 424, rfl⟩
abbrev main_v386 : Ref sig .tc := ⟨.hbm, 425, rfl⟩
abbrev main_v387 : Ref sig .tc := ⟨.hbm, 426, rfl⟩
abbrev main_v388 : Ref sig .tc := ⟨.hbm, 427, rfl⟩
abbrev main_v389 : Ref sig .tc := ⟨.hbm, 428, rfl⟩
abbrev main_cst_22 : Ref sig .tc := ⟨.hbm, 429, rfl⟩
abbrev main_v390 : Ref sig .tc := ⟨.hbm, 430, rfl⟩
abbrev main_v391 : Ref sig .tc := ⟨.hbm, 431, rfl⟩
abbrev main_cst_23 : Ref sig .tc := ⟨.hbm, 432, rfl⟩
abbrev main_v392 : Ref sig .tc := ⟨.hbm, 433, rfl⟩
abbrev main_v393 : Ref sig .tc := ⟨.hbm, 434, rfl⟩
abbrev main_v394 : Ref sig .tc := ⟨.hbm, 435, rfl⟩
abbrev main_v395 : Ref sig .tc := ⟨.hbm, 436, rfl⟩
abbrev main_v396 : Ref sig .tc := ⟨.hbm, 437, rfl⟩
abbrev main_v397 : Ref sig .tc := ⟨.hbm, 438, rfl⟩
abbrev main_cst_24 : Ref sig .tc := ⟨.hbm, 439, rfl⟩
abbrev main_v398 : Ref sig .tc := ⟨.hbm, 440, rfl⟩
abbrev main_v399 : Ref sig .tc := ⟨.hbm, 441, rfl⟩
abbrev main_cst_25 : Ref sig .tc := ⟨.hbm, 442, rfl⟩
abbrev main_v400 : Ref sig .tc := ⟨.hbm, 443, rfl⟩
abbrev main_v401 : Ref sig .tc := ⟨.hbm, 444, rfl⟩
abbrev main_v402 : Ref sig .tc := ⟨.hbm, 445, rfl⟩
abbrev main_v403 : Ref sig .tc := ⟨.hbm, 446, rfl⟩
abbrev main_v404 : Ref sig .tc := ⟨.hbm, 447, rfl⟩
abbrev main_v405 : Ref sig .tc := ⟨.hbm, 448, rfl⟩

abbrev nD : Nat := 1
abbrev τ : Topo := Topo.v7x

variable {F : FTy → Type} [FloatOps F]
-- ==== Proj.lean ====
abbrev S4x4096x1024 : Shape := ⟨3, ![4, 4096, 1024]⟩
abbrev S1024 : Shape := ⟨1, ![1024]⟩
abbrev S1024x4096 : Shape := ⟨2, ![1024, 4096]⟩
abbrev S64 : Shape := ⟨1, ![64]⟩
abbrev S1x1024 : Shape := ⟨2, ![1, 1024]⟩
abbrev S1x64 : Shape := ⟨2, ![1, 64]⟩
abbrev S16x64 : Shape := ⟨2, ![16, 64]⟩
abbrev S4x16x1024x256 : Shape := ⟨4, ![4, 16, 1024, 256]⟩
abbrev S4x16x1x1024 : Shape := ⟨4, ![4, 16, 1, 1024]⟩
abbrev S1x1024x1024 : Shape := ⟨3, ![1, 1024, 1024]⟩
abbrev S1x4x1024x256 : Shape := ⟨4, ![1, 4, 1024, 256]⟩
abbrev S1x4x1x1024 : Shape := ⟨4, ![1, 4, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S1x128 : Shape := ⟨2, ![1, 128]⟩
abbrev S256x128 : Shape := ⟨2, ![256, 128]⟩
abbrev S1x256x128 : Shape := ⟨3, ![1, 256, 128]⟩
abbrev S128 : Shape := ⟨1, ![128]⟩
abbrev S1x1x1x128 : Shape := ⟨4, ![1, 1, 1, 128]⟩
abbrev S1024x256 : Shape := ⟨2, ![1024, 256]⟩
abbrev S1x1x1024x256 : Shape := ⟨4, ![1, 1, 1024, 256]⟩

abbrev nBuf : Space → Nat
  | .hbm => 20
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4096, .f32⟩
  | .hbm, ⟨3, _⟩ => ⟨S64, .f32⟩
  | .hbm, ⟨4, _⟩ => ⟨S64, .f32⟩
  | .hbm, ⟨5, _⟩ => ⟨S1x1024, .f32⟩
  | .hbm, ⟨6, _⟩ => ⟨S1024x4096, .bf16⟩
  | .hbm, ⟨7, _⟩ => ⟨S1x64, .f32⟩
  | .hbm, ⟨8, _⟩ => ⟨S16x64, .f32⟩
  | .hbm, ⟨9, _⟩ => ⟨S1024, .f32⟩
  | .hbm, ⟨10, _⟩ => ⟨S1x1024, .f32⟩
  | .hbm, ⟨11, _⟩ => ⟨S1x64, .f32⟩
  | .hbm, ⟨12, _⟩ => ⟨S16x64, .f32⟩
  | .hbm, ⟨13, _⟩ => ⟨S1024, .f32⟩
  | .hbm, ⟨14, _⟩ => ⟨S1x1024, .f32⟩
  | .hbm, ⟨15, _⟩ => ⟨S4x4096x1024, .bf16⟩
  | .hbm, ⟨16, _⟩ => ⟨S4x4096x1024, .bf16⟩
  | .hbm, ⟨17, _⟩ => ⟨S4x16x1024x256, .bf16⟩
  | .hbm, ⟨18, _⟩ => ⟨S4x4096x1024, .bf16⟩
  | .hbm, ⟨19, _⟩ => ⟨S4x16x1x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x4x1024x256, .bf16⟩
  | .local _ .vmem, ⟨11, _⟩ => ⟨S1x4x1024x256, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x4x1x1024, .f32⟩
  | .local _ .vmem, ⟨15, _⟩ => ⟨S1x4x1x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjIdeal.lean ====
variable {F : FTy → Type} [FloatOps F] [Named F]
def κ : String → Option EReal := fun
  | "q_scale" => some (((8 * (Real.log 2))⁻¹ : ℝ) : EReal)
  | _ => none
-- ==== ProjReferenceIdeal.lean ====
abbrev S4x4096x1024 : Shape := ⟨3, ![4, 4096, 1024]⟩
abbrev S1024 : Shape := ⟨1, ![1024]⟩
abbrev S1024x4096 : Shape := ⟨2, ![1024, 4096]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S4x16x256x1024 : Shape := ⟨4, ![4, 16, 256, 1024]⟩
abbrev S4x16x1024x256 : Shape := ⟨4, ![4, 16, 1024, 256]⟩
abbrev S4x16x1024 : Shape := ⟨3, ![4, 16, 1024]⟩
abbrev S4x16x1x1024 : Shape := ⟨4, ![4, 16, 1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4096, .f32⟩
  | .hbm, ⟨3, _⟩ => ⟨S64, .f32⟩
  | .hbm, ⟨4, _⟩ => ⟨S64, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x4096, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x16x64, .f32⟩
  | .hbm, ⟨27, _⟩ => ⟨S4x4096x16x64, .f32⟩
  | .hbm, ⟨28, _⟩ => ⟨S_, .f32⟩
  | .hbm, ⟨29, _⟩ => ⟨S4x4096x16, .f32⟩
  | .hbm, ⟨30, _⟩ => ⟨S4x4096x16x1, .f32⟩
  | .hbm, ⟨31, _⟩ => ⟨S_, .f32⟩
  | .hbm, ⟨32, _⟩ => ⟨S4x4096x16x1, .f32⟩
  | .hbm, ⟨33, _⟩ => ⟨S4x4096x16x1, .f32⟩
  | .hbm, ⟨34, _⟩ => ⟨S_, .f32⟩
  | .hbm, ⟨35, _⟩ => ⟨S4x4096x16x1, .f32⟩
  | .hbm, ⟨36, _⟩ => ⟨S4x4096x16x1, .f32⟩
  | .hbm, ⟨37, _⟩ => ⟨S4x4096x16x1, .f32⟩
  | .hbm, ⟨38, _⟩ => ⟨S4x4096x16x64, .f32⟩
  | .hbm, ⟨39, _⟩ => ⟨S4x4096x16x64, .f32⟩
  | .hbm, ⟨40, _⟩ => ⟨S1x1x1x64, .f32⟩
  | .hbm, ⟨41, _⟩ => ⟨S4x4096x16x64, .f32⟩
  | .hbm, ⟨42, _⟩ => ⟨S4x4096x16x64, .f32⟩
  | .hbm, ⟨43, _⟩ => ⟨S_, .f32⟩
  | .hbm, ⟨44, _⟩ => ⟨S4x4096x16x64, .f32⟩
  | .hbm, ⟨45, _⟩ => ⟨S4x4096x16x64, .f32⟩
  | .hbm, ⟨46, _⟩ => ⟨S_, .f32⟩
  | .hbm, ⟨47, _⟩ => ⟨S_, .f32⟩
  | .hbm, ⟨48, _⟩ => ⟨S4x4096x16x64, .f32⟩
  | .hbm, ⟨49, _⟩ => ⟨S4x4096x16x64, .f32⟩
  | .hbm, ⟨50, _⟩ => ⟨S4x4096x16x64, .f32⟩
  | .hbm, ⟨51, _⟩ => ⟨S4x4096x16x64, .f32⟩
  | .hbm, ⟨52, _⟩ => ⟨S_, .f32⟩
  | .hbm, ⟨53, _⟩ => ⟨S4x4096x16, .f32⟩
  | .hbm, ⟨54, _⟩ => ⟨S4x4096x16x1, .f32⟩
  | .hbm, ⟨55, _⟩ => ⟨S_, .f32⟩
  | .hbm, ⟨56, _⟩ => ⟨S4x4096x16x1, .f32⟩
  | .hbm, ⟨57, _⟩ => ⟨S4x4096x16x1, .f32⟩
  | .hbm, ⟨58, _⟩ => ⟨S_, .f32⟩
  | .hbm, ⟨59, _⟩ => ⟨S4x4096x16x1, .f32⟩
  | .hbm, ⟨60, _⟩ => ⟨S4x4096x16x1, .f32⟩
  | .hbm, ⟨61, _⟩ => ⟨S4x4096x16x1, .f32⟩
  | .hbm, ⟨62, _⟩ => ⟨S4x4096x16x64, .f32⟩
  | .hbm, ⟨63, _⟩ => ⟨S4x4096x16x64, .f32⟩
  | .hbm, ⟨64, _⟩ => ⟨S1x1x1x64, .f32⟩
  | .hbm, ⟨65, _⟩ => ⟨S4x4096x16x64, .f32⟩
  | .hbm, ⟨66, _⟩ => ⟨S4x4096x16x64, .f32⟩
  | .hbm, ⟨67, _⟩ => ⟨S4x4096x1024, .f32⟩
  | .hbm, ⟨68, _⟩ => ⟨S4x4096x1024, .f32⟩
  | .hbm, ⟨69, _⟩ => ⟨S4x4096x1024, .bf16⟩
  | .hbm, ⟨70, _⟩ => ⟨S4x4096x1024, .bf16⟩
  | .hbm, ⟨71, _⟩ => ⟨S4x16x256x1024, .f32⟩
  | .hbm, ⟨72, _⟩ => ⟨S4x16x1024x256, .f32⟩
  | .hbm, ⟨73, _⟩ => ⟨S4x16x1024x256, .bf16⟩
  | .hbm, ⟨74, _⟩ => ⟨S4x4096x1024, .f32⟩
  | .hbm, ⟨75, _⟩ => ⟨S4x4096x1024, .f32⟩
  | .hbm, ⟨76, _⟩ => ⟨S_, .f32⟩
  | .hbm, ⟨77, _⟩ => ⟨S4x4096x1024, .f32⟩
  | .hbm, ⟨78, _⟩ => ⟨S4x4096x1024, .f32⟩
  | .hbm, ⟨79, _⟩ => ⟨S_, .f32⟩
  | .hbm, ⟨80, _⟩ => ⟨S4x4096x1024, .f32⟩
  | .hbm, ⟨81, _⟩ => ⟨S4x4096x1024, .f32⟩
  | .hbm, ⟨82, _⟩ => ⟨S4x4096x1024, .f32⟩
  | .hbm, ⟨83, _⟩ => ⟨S4x4096x1024, .bf16⟩
  | .hbm, ⟨84, _⟩ => ⟨S4x16x256x1024, .f32⟩
  | .hbm, ⟨85, _⟩ => ⟨S_, .f32⟩
  | .hbm, ⟨86, _⟩ => ⟨S4x16x1024, .f32⟩
  | .hbm, ⟨87, _⟩ => ⟨S4x16x1x1024, .f32⟩
  | .hbm, ⟨88, _⟩ => ⟨S_, .f32⟩
  | .hbm, ⟨89, _⟩ => ⟨S4x16x1x1024, .f32⟩
  | .hbm, ⟨90, _⟩ => ⟨S4x16x1x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_10 : Ref sig .tc := ⟨.hbm, 76, rfl⟩
abbrev main_v60 : Ref sig .tc := ⟨.hbm, 77, rfl⟩
abbrev main_v61 : Ref sig .tc := ⟨.hbm, 78, rfl⟩
abbrev main_cst_11 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_12 : Ref sig .tc := ⟨.hbm, 85, rfl⟩
abbrev main_v67 : Ref sig .tc := ⟨.hbm, 86, rfl⟩
abbrev main_v68 : Ref sig .tc := ⟨.hbm, 87, rfl⟩
abbrev main_cst_13 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Out.lean ====
abbrev S4x4096x1024 : Shape := ⟨3, ![4, 4096, 1024]⟩
abbrev S4x2048x1024 : Shape := ⟨3, ![4, 2048, 1024]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S4 : Shape := ⟨1, ![4]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S4x2048x1024, .bf16⟩
  | .hbm, ⟨2, _⟩ => ⟨S4x2048x1024, .bf16⟩
  | .hbm, ⟨3, _⟩ => ⟨S1024x1024, .f32⟩
  | .hbm, ⟨4, _⟩ => ⟨S1024x1024, .bf16⟩
  | .hbm, ⟨5, _⟩ => ⟨S4x4096x1024, .f32⟩
  | .local _ .vmem, ⟨0, _⟩ => ⟨S1024x1024, .bf16⟩
  | .local _ .vmem, ⟨1, _⟩ => ⟨S1x1024x1024, .f32⟩
  | .local _ .vmem, ⟨2, _⟩ => ⟨S1x1024x1024, .f32⟩
  | .local _ .vmem, ⟨3, _⟩ => ⟨S4x1024x1024, .f32⟩
  | .local _ .vmem, ⟨4, _⟩ => ⟨S4x1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_46 : BitVec 32) : Fin 3 → Nat :=
  let c0_i32_49 : BitVec 32 := 0#32
  let c1_i32_47 : BitVec 32 := 1#32
  let v86 : BitVec 32 := Scalar.minsi c0_i32_46 c1_i32_47
  let c1024_i32_48 : BitVec 32 := 1024#32
  let v87 : BitVec 32 := Scalar.muli v86 c1024_i32_48
  let c0_i32_54 : BitVec 32 := 0#32
  ![0, v87.toNat, 0]
def k0_off2 (c0_i32_77 : BitVec 32) : Fin 3 → Nat :=
  let c0_i32_80 : BitVec 32 := 0#32
  let c0_i32_78 : BitVec 32 := 0#32
  let v114 : BitVec 32 := Scalar.maxsi c0_i32_77 c0_i32_78
  let c1024_i32_79 : BitVec 32 := 1024#32
  let v115 : BitVec 32 := Scalar.muli v114 c1024_i32_79
  let c0_i32_85 : BitVec 32 := 0#32
  ![0, v115.toNat, 0]
def k0_off3 (i : grid0.Coords) : Fin 1 → Nat :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off4 (i : grid0.Coords) : Fin 3 → Nat :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_18 : BitVec 32 := 0#32
  let c0_i32_19 : BitVec 32 := 0#32
  ![v12.toNat, 0, 0]
def k0_off5 (i : grid0.Coords) : Fin 3 → Nat :=
  let arg0 : BitVec 32 := BitVec.ofNat 32 (i 0).val
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c4_i32_5 : BitVec 32 := 4#32
  let c0_i32_8 : BitVec 32 := 0#32
  let v19 : BitVec 1 := Scalar.cmpi .sgt c4_i32_5 c0_i32_8
  let v20 : BitVec 32 := Scalar.extui v19
  let c0_i32_9 : BitVec 32 := 0#32
  let v21 : BitVec 1 := Scalar.cmpi .slt c4_i32_5 c0_i32_9
  let v22 : BitVec 32 := Scalar.extui v21
  let v23 : BitVec 32 := Scalar.subi v20 v22
  let v24 : BitVec 1 := Scalar.cmpi .ne v18 v23
  let v25 : BitVec 32 := Scalar.remsi arg0 c4_i32_5
  let c0_i32_10 : BitVec 32 := 0#32
  let v26 : BitVec 1 := Scalar.cmpi .ne v25 c0_i32_10
  let v27 : BitVec 1 := Scalar.andi v24 v26
  let v13 : BitVec 32 := Scalar.divsi arg0 c4_i32_5
  let c1_i32_11 : BitVec 32 := 1#32
  let v28 : BitVec 32 := Scalar.subi v13 c1_i32_11
  let v29 : BitVec 32 := Scalar.select v27 v28 v13
  let c4_i32_12 : BitVec 32 := 4#32
  let c0_i32_13 : BitVec 32 := 0#32
  let v30 : BitVec 1 := Scalar.cmpi .eq c4_i32_12 c0_i32_13
  let c1_i32_14 : BitVec 32 := 1#32
  let v31 : BitVec 32 := Scalar.select v30 c1_i32_14 c4_i32_12
  let v32 : BitVec 32 := Scalar.remsi arg0 v31
  let c0_i32_16 : BitVec 32 := 0#32
  let v34 : BitVec 1 := Scalar.cmpi .slt v32 c0_i32_16
  let c0_i32_17 : BitVec 32 := 0#32
  let v35 : BitVec 1 := Scalar.cmpi .slt v31 c0_i32_17
  let v36 : BitVec 1 := Scalar.xori v34 v35
  let c0_i32_15 : BitVec 32 := 0#32
  let v33 : BitVec 1 := Scalar.cmpi .ne v32 c0_i32_15
  let v37 : BitVec 1 := Scalar.andi v36 v33
  let v38 : BitVec 32 := Scalar.addi v32 v31
  let v39 : BitVec 32 := Scalar.select v37 v38 v32
  let c1024_i32 : BitVec 32 := 1024#32
  let v40 : BitVec 32 := Scalar.muli v39 c1024_i32
  let c0_i32_20 : BitVec 32 := 0#32
  ![v29.toNat, v40.toNat, 0]
def k0_cond2 (i : grid0.Coords) : BitVec 1 :=
  let arg0 : BitVec 32 := BitVec.ofNat 32 (i 0).val
  let c4_i32_21 : BitVec 32 := 4#32
  let c0_i32_22 : BitVec 32 := 0#32
  let v47 : BitVec 1 := Scalar.cmpi .eq c4_i32_21 c0_i32_22
  let c1_i32_23 : BitVec 32 := 1#32
  let v48 : BitVec 32 := Scalar.select v47 c1_i32_23 c4_i32_21
  let v49 : BitVec 32 := Scalar.remsi arg0 v48
  let c0_i32_25 : BitVec 32 := 0#32
  let v51 : BitVec 1 := Scalar.cmpi .slt v49 c0_i32_25
  let c0_i32_26 : BitVec 32 := 0#32
  let v52 : BitVec 1 := Scalar.cmpi .slt v48 c0_i32_26
  let v53 : BitVec 1 := Scalar.xori v51 v52
  let c0_i32_24 : BitVec 32 := 0#32
  let v50 : BitVec 1 := Scalar.cmpi .ne v49 c0_i32_24
  let v54 : BitVec 1 := Scalar.andi v53 v50
  let v55 : BitVec 32 := Scalar.addi v49 v48
  let v56 : BitVec 32 := Scalar.select v54 v55 v49
  let c2_i32 : BitVec 32 := 2#32
  let v57 : BitVec 1 := Scalar.cmpi .sge v56 c2_i32
  let v_true : BitVec 1 := 1#1
  let v58 : BitVec 1 := Scalar.xori v57 v_true
  let v59 : BitVec 32 := Scalar.extui v58
  let c0_i32_27 : BitVec 32 := 0#32
  let v60 : BitVec 1 := Scalar.cmpi .ne v59 c0_i32_27
  v60

def k0_off6 (i : grid0.Coords) : Fin 1 → Nat :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off7 (i : grid0.Coords) : Fin 3 → Nat :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_54 : BitVec 32 := 0#32
  let c0_i32_55 : BitVec 32 := 0#32
  ![v12.toNat, 0, 0]
def k0_off8 (i : grid0.Coords) : Fin 3 → Nat :=
  let arg0 : BitVec 32 := BitVec.ofNat 32 (i 0).val
  let c0_i32_40 : BitVec 32 := 0#32
  let v81 : BitVec 1 := Scalar.cmpi .sgt arg0 c0_i32_40
  let v82 : BitVec 32 := Scalar.extui v81
  let c0_i32_41 : BitVec 32 := 0#32
  let v83 : BitVec 1 := Scalar.cmpi .slt arg0 c0_i32_41
  let v84 : BitVec 32 := Scalar.extui v83
  let v85 : BitVec 32 := Scalar.subi v82 v84
  let c4_i32_39 : BitVec 32 := 4#32
  let c0_i32_42 : BitVec 32 := 0#32
  let v86 : BitVec 1 := Scalar.cmpi .sgt c4_i32_39 c0_i32_42
  let v87 : BitVec 32 := Scalar.extui v86
  let c0_i32_43 : BitVec 32 := 0#32
  let v88 : BitVec 1 := Scalar.cmpi .slt c4_i32_39 c0_i32_43
  let v89 : BitVec 32 := Scalar.extui v88
  let v90 : BitVec 32 := Scalar.subi v87 v89
  let v91 : BitVec 1 := Scalar.cmpi .ne v85 v90
  let v92 : BitVec 32 := Scalar.remsi arg0 c4_i32_39
  let c0_i32_44 : BitVec 32 := 0#32
  let v93 : BitVec 1 := Scalar.cmpi .ne v92 c0_i32_44
  let v94 : BitVec 1 := Scalar.andi v91 v93
  let v80 : BitVec 32 := Scalar.divsi arg0 c4_i32_39
  let c1_i32_45 : BitVec 32 := 1#32
  let v95 : BitVec 32 := Scalar.subi v80 c1_i32_45
  let v96 : BitVec 32 := Scalar.select v94 v95 v80
  let c4_i32_46 : BitVec 32 := 4#32
  let c0_i32_47 : BitVec 32 := 0#32
  let v97 : BitVec 1 := Scalar.cmpi .eq c4_i32_46 c0_i32_47
  let c1_i32_48 : BitVec 32 := 1#32
  let v98 : BitVec 32 := Scalar.select v97 c1_i32_48 c4_i32_46
  let v99 : BitVec 32 := Scalar.remsi arg0 v98
  let c0_i32_50 : BitVec 32 := 0#32
  let v101 : BitVec 1 := Scalar.cmpi .slt v99 c0_i32_50
  let c0_i32_51 : BitVec 32 := 0#32
  let v102 : BitVec 1 := Scalar.cmpi .slt v98 c0_i32_51
  let v103 : BitVec 1 := Scalar.xori v101 v102
  let c0_i32_49 : BitVec 32 := 0#32
  let v100 : BitVec 1 := Scalar.cmpi .ne v99 c0_i32_49
  let v104 : BitVec 1 := Scalar.andi v103 v100
  let v105 : BitVec 32 := Scalar.addi v99 v98
  let v106 : BitVec 32 := Scalar.select v104 v105 v99
  let c1_i32_52 : BitVec 32 := 1#32
  let v107 : BitVec 32 := Scalar.minsi v106 c1_i32_52
  let c1024_i32_53 : BitVec 32 := 1024#32
  let v108 : BitVec 32 := Scalar.muli v107 c1024_i32_53
  let c0_i32_56 : BitVec 32 := 0#32
  ![v96.toNat, v108.toNat, 0]
def k0_cond3 (i : grid0.Coords) : BitVec 1 :=
  let arg0 : BitVec 32 := BitVec.ofNat 32 (i 0).val
  let c4_i32_21 : BitVec 32 := 4#32
  let c0_i32_22 : BitVec 32 := 0#32
  let v47 : BitVec 1 := Scalar.cmpi .eq c4_i32_21 c0_i32_22
  let c1_i32_23 : BitVec 32 := 1#32
  let v48 : BitVec 32 := Scalar.select v47 c1_i32_23 c4_i32_21
  let v49 : BitVec 32 := Scalar.remsi arg0 v48
  let c0_i32_25 : BitVec 32 := 0#32
  let v51 : BitVec 1 := Scalar.cmpi .slt v49 c0_i32_25
  let c0_i32_26 : BitVec 32 := 0#32
  let v52 : BitVec 1 := Scalar.cmpi .slt v48 c0_i32_26
  let v53 : BitVec 1 := Scalar.xori v51 v52
  let c0_i32_24 : BitVec 32 := 0#32
  let v50 : BitVec 1 := Scalar.cmpi .ne v49 c0_i32_24
  let v54 : BitVec 1 := Scalar.andi v53 v50
  let v55 : BitVec 32 := Scalar.addi v49 v48
  let v56 : BitVec 32 := Scalar.select v54 v55 v49
  let c2_i32 : BitVec 32 := 2#32
  let v57 : BitVec 1 := Scalar.cmpi .sge v56 c2_i32
  let v61 : BitVec 32 := Scalar.extui v57
  let c0_i32_28 : BitVec 32 := 0#32
  let v62 : BitVec 1 := Scalar.cmpi .ne v61 c0_i32_28
  v62

def k0_off9 (i : grid0.Coords) : Fin 1 → Nat :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off10 (i : grid0.Coords) : Fin 3 → Nat :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_55 : BitVec 32 := 0#32
  let c0_i32_56 : BitVec 32 := 0#32
  ![v12.toNat, 0, 0]
def k0_off11 (i : grid0.Coords) : Fin 3 → Nat :=
  let arg0 : BitVec 32 := BitVec.ofNat 32 (i 0).val
  let c0_i32_40 : BitVec 32 := 0#32
  let v81 : BitVec 1 := Scalar.cmpi .sgt arg0 c0_i32_40
  let v82 : BitVec 32 := Scalar.extui v81
  let c0_i32_41 : BitVec 32 := 0#32
  let v83 : BitVec 1 := Scalar.cmpi .slt arg0 c0_i32_41
  let v84 : BitVec 32 := Scalar.extui v83
  let v85 : BitVec 32 := Scalar.subi v82 v84
  let c4_i32_39 : BitVec 32 := 4#32
  let c0_i32_42 : BitVec 32 := 0#32
  let v86 : BitVec 1 := Scalar.cmpi .sgt c4_i32_39 c0_i32_42
  let v87 : BitVec 32 := Scalar.extui v86
  let c0_i32_43 : BitVec 32 := 0#32
  let v88 : BitVec 1 := Scalar.cmpi .slt c4_i32_39 c0_i32_43
  let v89 : BitVec 32 := Scalar.extui v88
  let v90 : BitVec 32 := Scalar.subi v87 v89
  let v91 : BitVec 1 := Scalar.cmpi .ne v85 v90
  let v92 : BitVec 32 := Scalar.remsi arg0 c4_i32_39
  let c0_i32_44 : BitVec 32 := 0#32
  let v93 : BitVec 1 := Scalar.cmpi .ne v92 c0_i32_44
  let v94 : BitVec 1 := Scalar.andi v91 v93
  let v80 : BitVec 32 := Scalar.divsi arg0 c4_i32_39
  let c1_i32_45 : BitVec 32 := 1#32
  let v95 : BitVec 32 := Scalar.subi v80 c1_i32_45
  let v96 : BitVec 32 := Scalar.select v94 v95 v80
  let c4_i32_46 : BitVec 32 := 4#32
  let c0_i32_47 : BitVec 32 := 0#32
  let v97 : BitVec 1 := Scalar.cmpi .eq c4_i32_46 c0_i32_47
  let c1_i32_48 : BitVec 32 := 1#32
  let v98 : BitVec 32 := Scalar.select v97 c1_i32_48 c4_i32_46
  let v99 : BitVec 32 := Scalar.remsi arg0 v98
  let c0_i32_50 : BitVec 32 := 0#32
  let v101 : BitVec 1 := Scalar.cmpi .slt v99 c0_i32_50
  let c0_i32_51 : BitVec 32 := 0#32
  let v102 : BitVec 1 := Scalar.cmpi .slt v98 c0_i32_51
  let v103 : BitVec 1 := Scalar.xori v101 v102
  let c0_i32_49 : BitVec 32 := 0#32
  let v100 : BitVec 1 := Scalar.cmpi .ne v99 c0_i32_49
  let v104 : BitVec 1 := Scalar.andi v103 v100
  let v105 : BitVec 32 := Scalar.addi v99 v98
  let v106 : BitVec 32 := Scalar.select v104 v105 v99
  let c2_i32_52 : BitVec 32 := 2#32
  let v107 : BitVec 32 := Scalar.subi v106 c2_i32_52
  let c0_i32_53 : BitVec 32 := 0#32
  let v108 : BitVec 32 := Scalar.maxsi v107 c0_i32_53
  let c1024_i32_54 : BitVec 32 := 1024#32
  let v109 : BitVec 32 := Scalar.muli v108 c1024_i32_54
  let c0_i32_57 : BitVec 32 := 0#32
  ![v96.toNat, v109.toNat, 0]
def k0_off12 (i : grid0.Coords) : Fin 3 → Nat :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v63 : Index := Scalar.indexCast v12
  let c0 : Index := 0#32
  let c0_29 : Index := 0#32
  ![v63.toNat, 0, 0]
def k0_cond4 (i : grid0.Coords) : BitVec 1 :=
  let arg0 : BitVec 32 := BitVec.ofNat 32 (i 0).val
  let c4_i32_37 : BitVec 32 := 4#32
  let v76 : BitVec 32 := Scalar.addi arg0 c4_i32_37
  let c16_i32 : BitVec 32 := 16#32
  let v77 : BitVec 1 := Scalar.cmpi .slt v76 c16_i32
  let v78 : BitVec 32 := Scalar.extui v77
  let c0_i32_38 : BitVec 32 := 0#32
  let v79 : BitVec 1 := Scalar.cmpi .ne v78 c0_i32_38
  v79

def k0_off13 (i : grid0.Coords) : Fin 1 → Nat :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off14 (i : grid0.Coords) : Fin 3 → Nat :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_54 : BitVec 32 := 0#32
  let c0_i32_55 : BitVec 32 := 0#32
  ![v12.toNat, 0, 0]
def k0_off15 (i : grid0.Coords) : Fin 3 → Nat :=
  let arg0 : BitVec 32 := BitVec.ofNat 32 (i 0).val
  let c4_i32_39 : BitVec 32 := 4#32
  let v80 : BitVec 32 := Scalar.addi arg0 c4_i32_39
  let c0_i32_41 : BitVec 32 := 0#32
  let v82 : BitVec 1 := Scalar.cmpi .sgt v80 c0_i32_41
  let v83 : BitVec 32 := Scalar.extui v82
  let c0_i32_42 : BitVec 32 := 0#32
  let v84 : BitVec 1 := Scalar.cmpi .slt v80 c0_i32_42
  let v85 : BitVec 32 := Scalar.extui v84
  let v86 : BitVec 32 := Scalar.subi v83 v85
  let c4_i32_40 : BitVec 32 := 4#32
  let c0_i32_43 : BitVec 32 := 0#32
  let v87 : BitVec 1 := Scalar.cmpi .sgt c4_i32_40 c0_i32_43
  let v88 : BitVec 32 := Scalar.extui v87
  let c0_i32_44 : BitVec 32 := 0#32
  let v89 : BitVec 1 := Scalar.cmpi .slt c4_i32_40 c0_i32_44
  let v90 : BitVec 32 := Scalar.extui v89
  let v91 : BitVec 32 := Scalar.subi v88 v90
  let v92 : BitVec 1 := Scalar.cmpi .ne v86 v91
  let v93 : BitVec 32 := Scalar.remsi v80 c4_i32_40
  let c0_i32_45 : BitVec 32 := 0#32
  let v94 : BitVec 1 := Scalar.cmpi .ne v93 c0_i32_45
  let v95 : BitVec 1 := Scalar.andi v92 v94
  let v81 : BitVec 32 := Scalar.divsi v80 c4_i32_40
  let c1_i32_46 : BitVec 32 := 1#32
  let v96 : BitVec 32 := Scalar.subi v81 c1_i32_46
  let v97 : BitVec 32 := Scalar.select v95 v96 v81
  let c4_i32_47 : BitVec 32 := 4#32
  let c0_i32_48 : BitVec 32 := 0#32
  let v98 : BitVec 1 := Scalar.cmpi .eq c4_i32_47 c0_i32_48
  let c1_i32_49 : BitVec 32 := 1#32
  let v99 : BitVec 32 := Scalar.select v98 c1_i32_49 c4_i32_47
  let v100 : BitVec 32 := Scalar.remsi v80 v99
  let c0_i32_51 : BitVec 32 := 0#32
  let v102 : BitVec 1 := Scalar.cmpi .slt v100 c0_i32_51
  let c0_i32_52 : BitVec 32 := 0#32
  let v103 : BitVec 1 := Scalar.cmpi .slt v99 c0_i32_52
  let v104 : BitVec 1 := Scalar.xori v102 v103
  let c0_i32_50 : BitVec 32 := 0#32
  let v101 : BitVec 1 := Scalar.cmpi .ne v100 c0_i32_50
  let v105 : BitVec 1 := Scalar.andi v104 v101
  let v106 : BitVec 32 := Scalar.addi v100 v99
  let v107 : BitVec 32 := Scalar.select v105 v106 v100
  let c1024_i32_53 : BitVec 32 := 1024#32
  let v108 : BitVec 32 := Scalar.muli v107 c1024_i32_53
  let c0_i32_56 : BitVec 32 := 0#32
  ![v97.toNat, v108.toNat, 0]
def k0_cond5 (i : grid0.Coords) : BitVec 1 :=
  let arg0 : BitVec 32 := BitVec.ofNat 32 (i 0).val
  let c4_i32_39 : BitVec 32 := 4#32
  let v80 : BitVec 32 := Scalar.addi arg0 c4_i32_39
  let c4_i32_57 : BitVec 32 := 4#32
  let c0_i32_58 : BitVec 32 := 0#32
  let v115 : BitVec 1 := Scalar.cmpi .eq c4_i32_57 c0_i32_58
  let c1_i32_59 : BitVec 32 := 1#32
  let v116 : BitVec 32 := Scalar.select v115 c1_i32_59 c4_i32_57
  let v117 : BitVec 32 := Scalar.remsi v80 v116
  let c0_i32_61 : BitVec 32 := 0#32
  let v119 : BitVec 1 := Scalar.cmpi .slt v117 c0_i32_61
  let c0_i32_62 : BitVec 32 := 0#32
  let v120 : BitVec 1 := Scalar.cmpi .slt v116 c0_i32_62
  let v121 : BitVec 1 := Scalar.xori v119 v120
  let c0_i32_60 : BitVec 32 := 0#32
  let v118 : BitVec 1 := Scalar.cmpi .ne v117 c0_i32_60
  let v122 : BitVec 1 := Scalar.andi v121 v118
  let v123 : BitVec 32 := Scalar.addi v117 v116
  let v124 : BitVec 32 := Scalar.select v122 v123 v117
  let c2_i32_63 : BitVec 32 := 2#32
  let v125 : BitVec 1 := Scalar.cmpi .sge v124 c2_i32_63
  let true_64 : BitVec 1 := 1#1
  let v126 : BitVec 1 := Scalar.xori v125 true_64
  let v127 : BitVec 32 := Scalar.extui v126
  let c0_i32_65 : BitVec 32 := 0#32
  let v128 : BitVec 1 := Scalar.cmpi .ne v127 c0_i32_65
  v128

def k0_off16 (i : grid0.Coords) : Fin 1 → Nat :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off17 (i : grid0.Coords) : Fin 3 → Nat :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_82 : BitVec 32 := 0#32
  let c0_i32_83 : BitVec 32 := 0#32
  ![v12.toNat, 0, 0]
def k0_off18 (i : grid0.Coords) : Fin 3 → Nat :=
  let arg0 : BitVec 32 := BitVec.ofNat 32 (i 0).val
  let c4_i32_39 : BitVec 32 := 4#32
  let v80 : BitVec 32 := Scalar.addi arg0 c4_i32_39
  let c0_i32_68 : BitVec 32 := 0#32
  let v132 : BitVec 1 := Scalar.cmpi .sgt v80 c0_i32_68
  let v133 : BitVec 32 := Scalar.extui v132
  let c0_i32_69 : BitVec 32 := 0#32
  let v134 : BitVec 1 := Scalar.cmpi .slt v80 c0_i32_69
  let v135 : BitVec 32 := Scalar.extui v134
  let v136 : BitVec 32 := Scalar.subi v133 v135
  let c4_i32_67 : BitVec 32 := 4#32
  let c0_i32_70 : BitVec 32 := 0#32
  let v137 : BitVec 1 := Scalar.cmpi .sgt c4_i32_67 c0_i32_70
  let v138 : BitVec 32 := Scalar.extui v137
  let c0_i32_71 : BitVec 32 := 0#32
  let v139 : BitVec 1 := Scalar.cmpi .slt c4_i32_67 c0_i32_71
  let v140 : BitVec 32 := Scalar.extui v139
  let v141 : BitVec 32 := Scalar.subi v138 v140
  let v142 : BitVec 1 := Scalar.cmpi .ne v136 v141
  let v143 : BitVec 32 := Scalar.remsi v80 c4_i32_67
  let c0_i32_72 : BitVec 32 := 0#32
  let v144 : BitVec 1 := Scalar.cmpi .ne v143 c0_i32_72
  let v145 : BitVec 1 := Scalar.andi v142 v144
  let v131 : BitVec 32 := Scalar.divsi v80 c4_i32_67
  let c1_i32_73 : BitVec 32 := 1#32
  let v146 : BitVec 32 := Scalar.subi v131 c1_i32_73
  let v147 : BitVec 32 := Scalar.select v145 v146 v131
  let c4_i32_74 : BitVec 32 := 4#32
  let c0_i32_75 : BitVec 32 := 0#32
  let v148 : BitVec 1 := Scalar.cmpi .eq c4_i32_74 c0_i32_75
  let c1_i32_76 : BitVec 32 := 1#32
  let v149 : BitVec 32 := Scalar.select v148 c1_i32_76 c4_i32_74
  let v150 : BitVec 32 := Scalar.remsi v80 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c1_i32_80 : BitVec 32 := 1#32
  let v158 : BitVec 32 := Scalar.minsi v157 c1_i32_80
  let c1024_i32_81 : BitVec 32 := 1024#32
  let v159 : BitVec 32 := Scalar.muli v158 c1024_i32_81
  let c0_i32_84 : BitVec 32 := 0#32
  ![v147.toNat, v159.toNat, 0]
def k0_cond6 (i : grid0.Coords) : BitVec 1 :=
  let arg0 : BitVec 32 := BitVec.ofNat 32 (i 0).val
  let c4_i32_39 : BitVec 32 := 4#32
  let v80 : BitVec 32 := Scalar.addi arg0 c4_i32_39
  let c4_i32_57 : BitVec 32 := 4#32
  let c0_i32_58 : BitVec 32 := 0#32
  let v115 : BitVec 1 := Scalar.cmpi .eq c4_i32_57 c0_i32_58
  let c1_i32_59 : BitVec 32 := 1#32
  let v116 : BitVec 32 := Scalar.select v115 c1_i32_59 c4_i32_57
  let v117 : BitVec 32 := Scalar.remsi v80 v116
  let c0_i32_61 : BitVec 32 := 0#32
  let v119 : BitVec 1 := Scalar.cmpi .slt v117 c0_i32_61
  let c0_i32_62 : BitVec 32 := 0#32
  let v120 : BitVec 1 := Scalar.cmpi .slt v116 c0_i32_62
  let v121 : BitVec 1 := Scalar.xori v119 v120
  let c0_i32_60 : BitVec 32 := 0#32
  let v118 : BitVec 1 := Scalar.cmpi .ne v117 c0_i32_60
  let v122 : BitVec 1 := Scalar.andi v121 v118
  let v123 : BitVec 32 := Scalar.addi v117 v116
  let v124 : BitVec 32 := Scalar.select v122 v123 v117
  let c2_i32_63 : BitVec 32 := 2#32
  let v125 : BitVec 1 := Scalar.cmpi .sge v124 c2_i32_63
  let v129 : BitVec 32 := Scalar.extui v125
  let c0_i32_66 : BitVec 32 := 0#32
  let v130 : BitVec 1 := Scalar.cmpi .ne v129 c0_i32_66
  v130

def k0_off19 (i : grid0.Coords) : Fin 1 → Nat :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off20 (i : grid0.Coords) : Fin 3 → Nat :=
  let arg0 : BitVec 32 := BitVec.ofNat 32 (i 0).val
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_83 : BitVec 32 := 0#32
  let c0_i32_84 : BitVec 32 := 0#32
  ![v12.toNat, 0, 0]
def k0_off21 (i : grid0.Coords) : Fin 3 → Nat :=
  let arg0 : BitVec 32 := BitVec.ofNat 32 (i 0).val
  let c4_i32_39 : BitVec 32 := 4#32
  let v80 : BitVec 32 := Scalar.addi arg0 c4_i32_39
  let c0_i32_68 : BitVec 32 := 0#32
  let v132 : BitVec 1 := Scalar.cmpi .sgt v80 c0_i32_68
  let v133 : BitVec 32 := Scalar.extui v132
  let c0_i32_69 : BitVec 32 := 0#32
  let v134 : BitVec 1 := Scalar.cmpi .slt v80 c0_i32_69
  let v135 : BitVec 32 := Scalar.extui v134
  let v136 : BitVec 32 := Scalar.subi v133 v135
  let c4_i32_67 : BitVec 32 := 4#32
  let c0_i32_70 : BitVec 32 := 0#32
  let v137 : BitVec 1 := Scalar.cmpi .sgt c4_i32_67 c0_i32_70
  let v138 : BitVec 32 := Scalar.extui v137
  let c0_i32_71 : BitVec 32 := 0#32
  let v139 : BitVec 1 := Scalar.cmpi .slt c4_i32_67 c0_i32_71
  let v140 : BitVec 32 := Scalar.extui v139
  let v141 : BitVec 32 := Scalar.subi v138 v140
  let v142 : BitVec 1 := Scalar.cmpi .ne v136 v141
  let v143 : BitVec 32 := Scalar.remsi v80 c4_i32_67
  let c0_i32_72 : BitVec 32 := 0#32
  let v144 : BitVec 1 := Scalar.cmpi .ne v143 c0_i32_72
  let v145 : BitVec 1 := Scalar.andi v142 v144
  let v131 : BitVec 32 := Scalar.divsi v80 c4_i32_67
  let c1_i32_73 : BitVec 32 := 1#32
  let v146 : BitVec 32 := Scalar.subi v131 c1_i32_73
  let v147 : BitVec 32 := Scalar.select v145 v146 v131
  let c4_i32_74 : BitVec 32 := 4#32
  let c0_i32_75 : BitVec 32 := 0#32
  let v148 : BitVec 1 := Scalar.cmpi .eq c4_i32_74 c0_i32_75
  let c1_i32_76 : BitVec 32 := 1#32
  let v149 : BitVec 32 := Scalar.select v148 c1_i32_76 c4_i32_74
  let v150 : BitVec 32 := Scalar.remsi v80 v149
  let c0_i32_78 : BitVec 32 := 0#32
  let v152 : BitVec 1 := Scalar.cmpi .slt v150 c0_i32_78
  let c0_i32_79 : BitVec 32 := 0#32
  let v153 : BitVec 1 := Scalar.cmpi .slt v149 c0_i32_79
  let v154 : BitVec 1 := Scalar.xori v152 v153
  let c0_i32_77 : BitVec 32 := 0#32
  let v151 : BitVec 1 := Scalar.cmpi .ne v150 c0_i32_77
  let v155 : BitVec 1 := Scalar.andi v154 v151
  let v156 : BitVec 32 := Scalar.addi v150 v149
  let v157 : BitVec 32 := Scalar.select v155 v156 v150
  let c2_i32_80 : BitVec 32 := 2#32
  let v158 : BitVec 32 := Scalar.subi v157 c2_i32_80
  let c0_i32_81 : BitVec 32 := 0#32
  let v159 : BitVec 32 := Scalar.maxsi v158 c0_i32_81
  let c1024_i32_82 : BitVec 32 := 1024#32
  let v160 : BitVec 32 := Scalar.muli v159 c1024_i32_82
  let c0_i32_85 : BitVec 32 := 0#32
  ![v147.toNat, v160.toNat, 0]
def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== OutReferenceIdeal.lean ====
abbrev S4x4096x1024 : Shape := ⟨3, ![4, 4096, 1024]⟩
abbrev S4x2048x1024 : Shape := ⟨3, ![4, 2048, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x2048x1024, .bf16⟩
  | .hbm, ⟨2, _⟩ => ⟨S4x2048x1024, .bf16⟩
  | .hbm, ⟨3, _⟩ => ⟨S1024x1024, .f32⟩
  | .hbm, ⟨4, _⟩ => ⟨S4x4096x1024, .bf16⟩
  | .hbm, ⟨5, _⟩ => ⟨S4x4096x1024, .f32⟩
  | .hbm, ⟨6, _⟩ => ⟨S4x4096x1024, .f32⟩
  | .hbm, ⟨7, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Kit.lean ====
/- What a buffer written piece by piece holds, and where the rows of a tile stand. -/
module

public import Idealize.ShloMosaic.Lib.Pipeline.FrameBody
public import Idealize.ShloMosaic.Lib.WholeRead
public import Idealize.ShloMosaic.Lib.Pointwise

@[expose] public section

noncomputable section

namespace Cert.PoolConv

open Idealize.ShloMosaic

variable {Val : EltTy → Type} [∀ e, Nonempty (Val e)] {s : Shape} {e : EltTy}

/-- The stores `L` (newest first) leave the value `G y` at every index `y` that satisfies `P`. -/
def Reads (L : List (View.Piece Val s e)) (P : s.Idx → Prop) (G : s.Idx → Val e) : Prop :=
  ∀ y, P y → View.canon L y = G y

/-- One more store: it must agree with `G` inside its rectangle; outside, the earlier stores must. -/
theorem Reads.cons {p : View.Piece Val s e} {L : List (View.Piece Val s e)} {P : s.Idx → Prop} {G : s.Idx → Val e}
    (hp : ∀ x : p.1.shape.Idx, P (p.1.idx x) → p.2 x = G (p.1.idx x))
    (hL : Reads L (fun y => P y ∧ y ∉ p.1.set) G) : Reads (p :: L) P G := by
  intro y hy
  by_cases hm : y ∈ p.1.set
  · obtain ⟨x, rfl⟩ := p.1.exists_idx_of_mem hm
    rw [show p.1.idx x = p.1.emb x from rfl, View.canon_cons_emb]
    exact hp x hy
  · rw [View.canon_cons_of_not_mem _ _ hm]
    exact hL y ⟨hy, hm⟩

/-- Nothing is left to read. -/
theorem Reads.done {L : List (View.Piece Val s e)} {P : s.Idx → Prop} {G : s.Idx → Val e} (h : ∀ y, ¬P y) : Reads L P G :=
  fun y hy => absurd hy (h y)

/-- Fewer indices are read. -/
theorem Reads.mono {L : List (View.Piece Val s e)} {P Q : s.Idx → Prop} {G : s.Idx → Val e} (h : Reads L P G)
    (hq : ∀ y, Q y → P y) : Reads L Q G :=
  fun y hy => h y (hq y hy)

/-- A load of the box `B` after the stores `L`, at its index `j`. -/
theorem Reads.ld {L : List (View.Piece Val s e)} {P : s.Idx → Prop} {G : s.Idx → Val e} (h : Reads L P G)
    {sig : RefSig} {κ : Kind} {sp : Space} (v : View sig κ sp s e) (B : LoadRect s) (j : B.shape.Idx) (hj : P (B.idx j)) :
    v.readCov L B j = G (B.idx j) := by
  rw [View.readCov_eq_canon']
  exact h _ hj

/-- The place in time, within a tile of 256 rows, of the row `r` of the interleaved order. -/
def natRow (r : ℕ) : ℕ := r % 8 * 32 + r / 8

end Cert.PoolConv

end
-- ==== Proof.Spec.lean ====
/- The layer on one sequence, as functions of the position and the column. -/
module

public import Idealize.ShloMosaic.Lib.Pointwise

@[expose] public section

noncomputable section

namespace Cert.PoolConv

open Idealize.ShloMosaic

/-- One sequence (`x t k` at position `t`) and the layer's weights. -/
structure Par where
  x : ℕ → Fin 1024 → EReal
  ng : Fin 1024 → EReal
  win : Fin 1024 → Fin 5120 → EReal
  pw : Fin 4 → Fin 256 → Fin 256 → EReal
  ps : Fin 1024 → EReal
  cw : ℕ → Fin 1024 → EReal
  cb : Fin 1024 → EReal
  cg : Fin 1024 → EReal
  cbeta : Fin 1024 → EReal
  wout : Fin 2048 → Fin 1024 → EReal

/-- The number of columns, as the constant's bits give it. -/
def cN : EReal := Ideal.ofBits .f32 0x44800000#32

/-- The number under the square roots. -/
def cEps : EReal := Ideal.ofBits .f32 0x358637BD#32

/-- The logistic function and `z · logistic z`. -/
def logi (z : EReal) : EReal := Ideal.div 1 (1 + Ideal.exp (-z))

/-- The gate `z · logistic z`. -/
def silu (z : EReal) : EReal := z * logi z

/-- A sequence with 32 zeros put in front. -/
def back (f : ℕ → Fin 1024 → EReal) (n : ℕ) (c : Fin 1024) : EReal := if n < 32 then 0 else f (n - 32) c

variable (p : Par)

/-- The input after its root mean square normalisation. -/
def H (t : ℕ) (k : Fin 1024) : EReal :=
  p.x t k * Ideal.rsqrt (Ideal.div (∑ j, p.x t j * p.x t j) cN + cEps) * p.ng k

/-- The input projection, 5120 columns wide. -/
def proj (t : ℕ) (j : Fin 5120) : EReal := ∑ k, H p t k * p.win k j

/-- What the pool reads: the first 1024 columns. -/
def A (t : ℕ) (c : Fin 1024) : EReal := proj p t ⟨c.val, by omega⟩
/-- What the convolution reads: the next 1024 columns, gated by the 1024 after them. -/
def U (t : ℕ) (c : Fin 1024) : EReal := proj p t ⟨1024 + c.val, by omega⟩ * logi (proj p t ⟨2048 + c.val, by omega⟩)
/-- The output gate: the last 2048 columns. -/
def Z (t : ℕ) (j : Fin 2048) : EReal := silu (proj p t ⟨3072 + j.val, by omega⟩)

/-- The width of a column's trailing window: 2, 4, 8 or 16 for the four groups of 256 columns. -/
def width (c : Fin 1024) : ℕ := 2 ^ (c.val / 256 + 1)

/-- The mean of the positions in the trailing window, less the position itself. -/
def pool (t : ℕ) (c : Fin 1024) : EReal :=
  Ideal.div (∑ d ∈ Finset.range (width c), back (A p) (t + 32 - d) c) ((min (t + 1) (width c) : ℕ) : ℝ) - A p t c

/-- The pooled columns mixed within their group. -/
def mix (t : ℕ) (c : Fin 1024) : EReal :=
  ∑ k : Fin 256, pool p t ⟨c.val / 256 * 256 + k.val, by omega⟩ * p.pw ⟨c.val / 256, by omega⟩ k ⟨c.val % 256, by omega⟩

/-- The causal depthwise convolution with 31 taps. -/
def conv (t : ℕ) (c : Fin 1024) : EReal :=
  p.cb c + ∑ k ∈ Finset.range 31, p.cw k c * back (U p) (t + 32 - (30 - k)) c

/-- The convolution's row mean. -/
def mu (t : ℕ) : EReal := Ideal.div (∑ j, conv p t j) cN

/-- The centred value. -/
def cen (t : ℕ) (c : Fin 1024) : EReal := conv p t c - mu p t

/-- The variance. -/
def var (t : ℕ) : EReal := Ideal.div (∑ j, cen p t j * cen p t j) cN

/-- The normalised value. -/
def ln (t : ℕ) (c : Fin 1024) : EReal := cen p t c * Ideal.rsqrt (var p t + cEps) * p.cg c + p.cbeta c

/-- The gated values, the pool's 1024 columns before the convolution's. -/
def y (t : ℕ) (j : Fin 2048) : EReal :=
  if h : j.val < 1024 then mix p t ⟨j.val, h⟩ * p.ps ⟨j.val, h⟩ * Z p t j
  else silu (ln p t ⟨j.val - 1024, by omega⟩) * Z p t j

/-- The layer: the input plus the gated values' projection. -/
def out (t : ℕ) (c : Fin 1024) : EReal := p.x t c + ∑ j, y p t j * p.wout j c

end Cert.PoolConv

end
-- ==== Proof.Tile.lean ====
/- What the kernel's blocks are in terms of the layer's weights, and the sums its body is made of. -/
module

public import proofs.«01_k».proof.Proof.Gen.KernelIdeal.Skeleton
public import proofs.«01_k».proof.Proof.Kit
public import proofs.«01_k».proof.Proof.Spec

@[expose] public section

noncomputable section

namespace Cert.PoolConv

open Idealize.ShloMosaic Cert.KernelIdeal Cert.KernelIdeal.Gen

/-- The blocks of one tile: 256 positions from `T` of the sequence, the two orderings, the weights. -/
structure Ins (p : Par) (T : ℕ) (x0 : Vec Ideal S1x256x1024 .f32) (x1 : Vec Ideal S2x256x256 .bf16)
    (x2 : Vec Ideal S1x1024 .f32) (x3 : Vec Ideal S1024x5120 .bf16) (x4 : Vec Ideal S4x256x256 .bf16)
    (x5 : Vec Ideal S1x1024 .f32) (x6 : Vec Ideal S31x1024 .f32) (x7 x8 x9 : Vec Ideal S1x1024 .f32)
    (x10 : Vec Ideal S2048x1024 .bf16) : Prop where
  x : ∀ (r : Fin 256) k, x0 (ix3 0 r k) = p.x (T + r.val) k
  perm : ∀ r k : Fin 256, x1 (ix3 0 r k) = if k.val = natRow r.val then (1 : EReal) else 0
  unperm : ∀ r k : Fin 256, x1 (ix3 1 r k) = if r.val = natRow k.val then (1 : EReal) else 0
  ng : ∀ k, x2 (ix2 0 k) = p.ng k
  win : ∀ k j, x3 (ix2 k j) = p.win k j
  pw : ∀ g k j, x4 (ix3 g k j) = p.pw g k j
  ps : ∀ k, x5 (ix2 0 k) = p.ps k
  cw : ∀ (k : Fin 31) j, x6 (ix2 k j) = p.cw k.val j
  cb : ∀ k, x7 (ix2 0 k) = p.cb k
  cg : ∀ k, x8 (ix2 0 k) = p.cg k
  cbeta : ∀ k, x9 (ix2 0 k) = p.cbeta k
  wout : ∀ k j, x10 (ix2 k j) = p.wout k j

/-- A row of a 0–1 matrix with a single 1 picks one summand. -/
theorem sum_pick {n : ℕ} (q : Fin n) (f : Fin n → EReal) :
    (∑ k : Fin n, (if k.val = q.val then (1 : EReal) else 0) * f k) = f q := by
  rw [Finset.sum_eq_single q]
  · simp
  · intro b _ hb
    have : b.val ≠ q.val := fun h => hb (Fin.ext h)
    simp [this]
  · simp

/-- The product of a normalised row with a column of the projection's weights. -/
theorem proj_of {p : Par} {t t' : ℕ} {j j' : Fin 5120} (ht : t = t') (hj : j.val = j'.val) :
    (∑ k, H p t k * p.win k j) = proj p t' j' := by
  obtain rfl := ht; obtain rfl := Fin.ext hj; rfl

/-- Equal places hold equal values. -/
theorem back_eq {f : ℕ → Fin 1024 → EReal} {n n' : ℕ} {c c' : Fin 1024} (hn : n = n') (hc : c.val = c'.val) :
    back f n c = back f n' c' := by
  obtain rfl := hn; obtain rfl := Fin.ext hc; rfl

/-- Before the sequence begins there are zeros. -/
theorem back_zero {f : ℕ → Fin 1024 → EReal} {n : ℕ} {c : Fin 1024} (hn : n < 32) : 0 = back f n c := by
  simp [back, hn]

/-- Behind the zeros stands the sequence. -/
theorem back_add {f : ℕ → Fin 1024 → EReal} {n : ℕ} {c : Fin 1024} (t : ℕ) (hn : n = t + 32) : back f n c = f t c := by
  subst hn; simp [back]

/-- The rows of a tile in the buffer of delayed values: the pool's columns of the projection. -/
theorem cur_A {p : Par} {T r : ℕ} {j : Fin 5120} {c : Fin 1024} (hj : j.val = c.val) :
    (∑ k, H p (T + natRow r) k * p.win k j) = back (A p) (T + natRow (256 + r)) c := by
  rw [back_add (T + natRow r) (by unfold natRow; omega)]
  exact proj_of rfl hj

/-- The same for the convolution's gated columns. -/
theorem cur_U {p : Par} {T r t : ℕ} {j j' : Fin 5120} {c : Fin 1024} (ht : t = T + natRow r) (hj : j.val = 1024 + c.val)
    (hj' : j'.val = 2048 + c.val) :
    proj p t j * Ideal.div 1 (1 + Ideal.exp (0 - proj p t j')) = back (U p) (T + natRow (256 + r)) c := by
  subst ht
  rw [back_add (T + natRow r) (by unfold natRow; omega), zero_sub]
  have hc := c.isLt
  have e : ∀ a (h : a < 5120) (i : Fin 5120), i.val = a → proj p (T + natRow r) i = proj p (T + natRow r) ⟨a, h⟩ :=
    fun a h i hi => by rw [Fin.ext (a := i) (b := ⟨a, h⟩) hi]
  rw [e _ (by omega) j hj, e _ (by omega) j' hj']
  rfl

/-- The convolution's first `m` taps. -/
def convTo (p : Par) (n : ℕ) (c : Fin 1024) (m : ℕ) : EReal :=
  p.cb c + ∑ k ∈ Finset.range m, p.cw k c * back (U p) (n + 32 - (30 - k)) c

/-- The convolution before its first tap: the bias. -/
theorem conv_base {p : Par} {n : ℕ} {c : Fin 1024} {x : EReal} (h : x = p.cb c) : x = convTo p n c 0 := by
  simp [convTo, h]

/-- The next tap. -/
theorem conv_step {p : Par} {n k : ℕ} {c : Fin 1024} {x a b : EReal} (hx : x = convTo p n c k) (ha : a = p.cw k c)
    (hb : b = back (U p) (n + 32 - (30 - k)) c) : x + a * b = convTo p n c (k + 1) := by
  rw [hx, ha, hb, convTo, convTo, Finset.sum_range_succ, add_assoc]

/-- The kernel's test of a row's phase: the remainder of its number by 8, taken as a signed word, is zero. -/
theorem phase_zero : ∀ r : Fin 256,
    IntOp.cmpi CmpIPredicate.eq
      (Scalar.select
        (IntOp.andi
          (IntOp.xori (IntOp.cmpi CmpIPredicate.slt (IntOp.remsi ArithUnit.vector (BitVec.ofNat 32 r.val) 8#32) 0#32)
            0#1)
          (IntOp.cmpi CmpIPredicate.ne (IntOp.remsi ArithUnit.vector (BitVec.ofNat 32 r.val) 8#32) 0#32))
        (IntOp.addi (IntOp.remsi ArithUnit.vector (BitVec.ofNat 32 r.val) 8#32) 8#32)
        (IntOp.remsi ArithUnit.vector (BitVec.ofNat 32 r.val) 8#32)) 0#32 = if r.val % 8 = 0 then 1#1 else 0#1 := by
  decide +kernel

/-- A choice by a decided word. -/
theorem select_ite {α : Type} {q : Prop} [Decidable q] (a b : α) :
    Scalar.select (if q then 1#1 else 0#1) a b = if q then a else b := by
  by_cases h : q <;> simp [h, Scalar.select]

/-- A row stands for a position of its tile. -/
theorem natRow_lt {r : ℕ} (h : r < 256) : natRow r < 256 := by unfold natRow; omega

end Cert.PoolConv

end
-- ==== Proof.Buffer.lean ====
/- The buffers of delayed values: how a tile fills them, 256 columns after 256 columns. -/
module

public import proofs.«01_k».proof.Proof.Tile

@[expose] public section

noncomputable section

namespace Cert.PoolConv

open Idealize.ShloMosaic Cert.KernelIdeal Cert.KernelIdeal.Gen

/-- The stores of a buffer of 512 rows. -/
abbrev Stores : Type := List (View.Piece (Elt Ideal) S512x1024 .f32)

variable {z : Prop} {f : ℕ → Fin 1024 → EReal} {T o : ℕ} {L : Stores}

/-- The first `o` columns hold `f` with 32 zeros in front, row `r` at the time `T + natRow r`; if `z`, the last 256 rows of
the other columns hold zeros. -/
def Buf (z : Prop) (f : ℕ → Fin 1024 → EReal) (T o : ℕ) (L : Stores) : Prop :=
  Reads L (fun y => (y 1).val < o ∨ (z ∧ 256 ≤ (y 0).val))
    (fun y => if (y 1).val < o then back f (T + natRow (y 0).val) (y 1) else 0)

/-- The same with 256 columns more, whose first 256 rows are right in every eighth row only. -/
def BufR (z : Prop) (f : ℕ → Fin 1024 → EReal) (T o : ℕ) (L : Stores) : Prop :=
  Reads L (fun y => ((y 1).val < o ∨ (z ∧ 256 ≤ (y 0).val)) ∨ ((y 1).val < o + 256 ∧ ((y 0).val % 8 = 0 ∨ 256 ≤ (y 0).val)))
    (fun y => if (y 1).val < o + 256 then back f (T + natRow (y 0).val) (y 1) else 0)

/-- Before any store nothing is claimed. -/
theorem Buf.nil : Buf False f T 0 [] := Reads.done fun y hy => by simp at hy

/-- All columns are filled. -/
theorem Buf.full (h : Buf z f T 1024 L) : Reads L (fun _ => True) (fun y => back f (T + natRow (y 0).val) (y 1)) := by
  intro y _
  have hy : (y 1).val < 1024 := (y 1).isLt
  exact (h y (Or.inl hy)).trans (if_pos hy)

/-- The two stores of a pool's 256 columns: the values of the tile, and, in front, those of the tile before it. -/
theorem Buf.roll1 (hL : Buf z f T o L) (ho : o + 256 ≤ 1024) (h1 h2) (cur roll : Vec Ideal S256x256 .f32)
    (hcur : ∀ (r k : Fin 256), cur (ix2 r k) = back f (T + natRow (256 + r.val)) ⟨o + k.val, by omega⟩)
    (hroll : ∀ (r k : Fin 256), r.val % 8 = 0 → roll (ix2 r k) = back f (T + natRow r.val) ⟨o + k.val, by omega⟩) :
    BufR z f T o (⟨Rect.unit ![256, o] S256x256.size h1, cur⟩ :: ⟨Rect.unit ![0, o] S256x256.size h2, roll⟩ :: L) := by
  refine Reads.cons ?_ (Reads.cons ?_ (fun y hy => ?_))
  · intro x _
    idx_vars x
    pointwise [hcur]
    rw [if_pos (by omega)]
  · intro x hx
    idx_vars x
    pointwise at hx
    have h8 : x0.val % 8 = 0 := by by_cases hz : z <;> simp [hz] at hx <;> omega
    pointwise [hroll _ _ h8]
    rw [if_pos (by omega)]
  · refine (hL y ?_).trans ?_ <;> idx_vars y <;> simp only [Rect.mem_set_unit] at hy <;> pointwise at hy <;> pointwise <;>
      by_cases hz : z <;> simp only [hz, true_and, false_and, or_false] at hy ⊢
    · omega
    · omega
    · congr 1
      apply propext
      omega
    · congr 1
      apply propext
      omega

/-- The five stores of the convolution's 256 columns: the values of the tile in four parts, and those of the tile before. -/
theorem Buf.roll4 (hL : Buf z f T o L) (ho : o + 256 ≤ 1024) (h1 h2 h3 h4 h5) (c3 c2 c1 c0 : Vec Ideal S64x256 .f32)
    (roll : Vec Ideal S256x256 .f32)
    (hc3 : ∀ (r : Fin 64) (k : Fin 256), c3 (ix2 r k) = back f (T + natRow (256 + (192 + r.val))) ⟨o + k.val, by omega⟩)
    (hc2 : ∀ (r : Fin 64) (k : Fin 256), c2 (ix2 r k) = back f (T + natRow (256 + (128 + r.val))) ⟨o + k.val, by omega⟩)
    (hc1 : ∀ (r : Fin 64) (k : Fin 256), c1 (ix2 r k) = back f (T + natRow (256 + (64 + r.val))) ⟨o + k.val, by omega⟩)
    (hc0 : ∀ (r : Fin 64) (k : Fin 256), c0 (ix2 r k) = back f (T + natRow (256 + r.val)) ⟨o + k.val, by omega⟩)
    (hroll : ∀ (r k : Fin 256), r.val % 8 = 0 → roll (ix2 r k) = back f (T + natRow r.val) ⟨o + k.val, by omega⟩) :
    BufR z f T o (⟨Rect.unit ![448, o] S64x256.size h1, c3⟩ :: ⟨Rect.unit ![384, o] S64x256.size h2, c2⟩
      :: ⟨Rect.unit ![320, o] S64x256.size h3, c1⟩ :: ⟨Rect.unit ![256, o] S64x256.size h4, c0⟩
      :: ⟨Rect.unit ![0, o] S256x256.size h5, roll⟩ :: L) := by
  refine Reads.cons ?_ (Reads.cons ?_ (Reads.cons ?_ (Reads.cons ?_ (Reads.cons ?_ (fun y hy => ?_)))))
  case refine_5 =>
    intro x hx
    idx_vars x
    pointwise at hx
    have h8 : x0.val % 8 = 0 := by by_cases hz : z <;> simp [hz] at hx <;> omega
    pointwise [hroll _ _ h8]
    rw [if_pos (by omega)]
  case refine_6 =>
    refine (hL y ?_).trans ?_ <;> idx_vars y <;> simp only [Rect.mem_set_unit] at hy <;> pointwise at hy <;> pointwise <;>
      by_cases hz : z <;> simp only [hz, true_and, false_and, or_false] at hy ⊢
    · omega
    · omega
    · congr 1
      apply propext
      omega
    · congr 1
      apply propext
      omega
  all_goals
    intro x _
    idx_vars x
    pointwise [hc3, hc2, hc1, hc0]
    rw [if_pos (by omega)]
    all_goals exact back_eq (by unfold natRow; omega) rfl

/-- The last store of 256 columns: the rows in front that are not every eighth are the tile's own, one row further. -/
theorem BufR.sel (hL : BufR z f T o L) (ho : o + 256 ≤ 1024) (h1 h2 h3) (pay : Vec Ideal S256x256 .f32)
    {sig : RefSig} {κ : Kind} {sp : Space} (v : View sig κ sp S512x1024 .f32)
    (hpay : ∀ (r k : Fin 256), pay (ix2 r k) = if r.val % 8 = 0
      then v.readCov L (Rect.unit (s := S512x1024) ![0, o] S256x256.size h2).toLoadRect (ix2 r k)
      else v.readCov L (Rect.unit (s := S512x1024) ![256, o] S256x256.size h3).toLoadRect (ix2 ⟨(r.val + 256 - 1) % 256, Nat.mod_lt _ (by omega)⟩ k)) :
    Buf z f T (o + 256) (⟨Rect.unit ![0, o] S256x256.size h1, pay⟩ :: L) := by
  refine Reads.cons ?_ (fun y hy => ?_)
  · intro x hx
    idx_vars x
    refine (hpay x0 x1).trans ?_
    by_cases h8 : x0.val % 8 = 0
    · rw [if_pos h8]
      refine (hL.ld _ _ _ (by pointwise; omega)).trans ?_
      pointwise
    · rw [if_neg h8]
      refine (hL.ld _ _ _ (Or.inr (by pointwise; simp))).trans ?_
      pointwise
      rw [if_pos (by omega), if_pos (by omega)]
      have e : (x0.val + 256 - 1) % 256 = x0.val - 1 := by omega
      exact back_eq (by rw [e]; unfold natRow; omega) rfl
  · refine hL y ?_
    idx_vars y
    simp only [Rect.mem_set_unit] at hy
    pointwise at hy
    pointwise
    by_cases hz : z <;> simp only [hz, true_and, false_and, or_false] at hy ⊢ <;> omega

/-- A load of 64 rows and 256 columns. -/
theorem Buf.ld (hL : Buf z f T o L) {sig : RefSig} {κ : Kind} {sp : Space} (v : View sig κ sp S512x1024 .f32)
    {a b : ℕ} (h) (r : Fin 64) (k : Fin 256) {n : ℕ} {c : Fin 1024} (hn : n = T + natRow (a + r.val)) (hc : c.val = b + k.val)
    (hb : b + 256 ≤ o) :
    v.readCov L (Rect.unit (s := S512x1024) ![a, b] S64x256.size h).toLoadRect (ix2 r k) = back f n c := by
  refine (Reads.ld hL v _ _ (by pointwise; omega)).trans ?_
  pointwise
  rw [if_pos (by omega)]
  exact back_eq hn.symm hc.symm

/-- The stores `L` of the projection's buffer hold, in the columns that satisfy `P`, the projection without its first 1024
columns, row `r` at the time `T + natRow r`. -/
def Prj (p : Par) (T : ℕ) (P : ℕ → Prop) (L : List (View.Piece (Elt Ideal) S256x4096 .f32)) : Prop :=
  Reads L (fun y => P (y 1).val)
    (fun y => proj p (T + natRow (y 0).val) ⟨1024 + (y 1).val, by have : (y 1).val < 4096 := (y 1).isLt; omega⟩)

/-- One more store of 256 columns. -/
theorem Prj.cons {p : Par} {P : ℕ → Prop} {L : List (View.Piece (Elt Ideal) S256x4096 .f32)} {o : ℕ} (h)
    {pay : Vec Ideal S256x256 .f32} (hL : Prj p T (fun j => P j ∧ ¬ (o ≤ j ∧ j < o + 256)) L) (ho : o + 256 ≤ 4096)
    (hp : ∀ r k : Fin 256, pay (ix2 r k) = proj p (T + natRow r.val) ⟨1024 + o + k.val, by omega⟩) :
    Prj p T P (⟨Rect.unit ![0, o] S256x256.size h, pay⟩ :: L) := by
  refine Reads.cons ?_ (fun y hy => ?_)
  · intro x _
    idx_vars x
    refine (hp x0 x1).trans ?_
    pointwise
    congr 2
    omega
  · refine hL y ⟨hy.1, fun hj => hy.2 ?_⟩
    idx_vars y
    simp only [Rect.mem_set_unit]
    pointwise at hj
    pointwise
    omega

/-- Before any store no column is known. -/
theorem Prj.nil {p : Par} {P : ℕ → Prop} (h : ∀ j, ¬P j) : Prj p T P [] := Reads.done fun _ => h _

/-- Fewer columns may be claimed. -/
theorem Prj.mono {p : Par} {P Q : ℕ → Prop} {L : List (View.Piece (Elt Ideal) S256x4096 .f32)} (h : Prj p T P L)
    (hq : ∀ j, j < 4096 → Q j → P j) : Prj p T Q L := Reads.mono h fun y => hq _ (y 1).isLt

/-- A load of some rows and columns. -/
theorem Prj.ld {p : Par} {P : ℕ → Prop} {L : List (View.Piece (Elt Ideal) S256x4096 .f32)} (hL : Prj p T P L)
    {sig : RefSig} {κ : Kind} {sp : Space} (v : View sig κ sp S256x4096 .f32) {a b m n : ℕ} (h) (r : Fin m) (k : Fin n)
    (hP : P (b + k.val)) (hb : b + k.val < 4096) :
    v.readCov L (Rect.unit (s := S256x4096) ![a, b] ![m, n] h).toLoadRect (ix2 r k)
      = proj p (T + natRow (a + r.val)) ⟨1024 + (b + k.val), by omega⟩ := by
  refine (Reads.ld hL v _ _ (by pointwise; exact hP)).trans ?_
  pointwise

/-- A gated value from its two loads. -/
theorem glu_of {p : Par} {a b : EReal} {r n : ℕ} {j j' : Fin 5120} {c : Fin 1024} (ha : a = proj p n j)
    (hb : b = proj p n j') (hn : n = T + natRow r) (hj : j.val = 1024 + c.val) (hj' : j'.val = 2048 + c.val) :
    a * Ideal.div 1 (1 + Ideal.exp (0 - b)) = back (U p) (T + natRow (256 + r)) c := by
  rw [ha, hb]; exact cur_U hn hj hj'

end Cert.PoolConv

end
-- ==== Proof.FirstBuffers.lean ====
/- The first tile of a sequence: what the body's buffers hold, step by step. -/
module

public import proofs.«01_k».proof.Proof.Gen.KernelIdeal.Frame.RunA
public import proofs.«01_k».proof.Proof.Buffer

@[expose] public section

set_option maxRecDepth 16384

noncomputable section

namespace Cert.PoolConv.First

open Idealize.ShloMosaic Cert.KernelIdeal Cert.KernelIdeal.Gen

variable {p : Par} {T : ℕ} {c : Dev nD}
  {arg2 : Memref sig .tc .vmem S1x256x1024 .f32} {harg2 : arg2.IsWhole}
  {arg3 : Memref sig .tc .vmem S2x256x256 .bf16} {harg3 : arg3.IsWhole}
  {arg4 : Memref sig .tc .vmem S1x1024 .f32} {harg4 : arg4.IsWhole}
  {arg5 : Memref sig .tc .vmem S1024x5120 .bf16} {harg5 : arg5.IsWhole}
  {arg14 arg15 : Memref sig .tc .vmem S512x1024 .f32}
  {arg16 arg17 : Memref sig .tc .vmem S256x1024 .bf16} {arg18 : Memref sig .tc .vmem S256x4096 .f32}
  {x0 : Vec Ideal S1x256x1024 .f32} {x1 : Vec Ideal S2x256x256 .bf16}
  {x2 : Vec Ideal S1x1024 .f32} {x3 : Vec Ideal S1024x5120 .bf16} {x4 : Vec Ideal S4x256x256 .bf16}
  {x5 : Vec Ideal S1x1024 .f32} {x6 : Vec Ideal S31x1024 .f32} {x7 x8 x9 : Vec Ideal S1x1024 .f32}
  {x10 : Vec Ideal S2048x1024 .bf16}

/-- The rows after their normalisation, in the order of time. -/
theorem h_reads (hI : Ins p T x0 x1 x2 x3 x4 x5 x6 x7 x8 x9 x10) :
    Reads (kernelRun0_A.sl.HS2_8 (F := Ideal) c arg2 harg2 arg4 harg4 x0 x2) (fun _ => True)
      (fun y => H p (T + (y 0).val) (y 1)) := by
  unfold kernelRun0_A.sl.HS2_8
  refine Reads.cons ?_ (Reads.cons ?_ (Reads.cons ?_ (Reads.cons ?_ (Reads.cons ?_ (Reads.cons ?_ (Reads.cons ?_
    (Reads.cons ?_ (Reads.done ?_))))))))
  case refine_9 =>
    intro y hy
    idx_vars y
    simp only [Rect.mem_set_unit] at hy
    pointwise at hy
    omega
  all_goals
    intro x _
    idx_vars x
    sl_unfold_words
    unfold_payloads
    pointwise [Memref.IsWhole.readAt_unread, hI.x, hI.ng, H]
    rfl

/-- The same rows in the interleaved order. -/
theorem hp_reads (hI : Ins p T x0 x1 x2 x3 x4 x5 x6 x7 x8 x9 x10) :
    Reads (kernelRun0_A.sl.HS3_1 (F := Ideal) c arg2 harg2 arg3 harg3 arg4 harg4 arg16 x0 x1 x2) (fun _ => True)
      (fun y => H p (T + natRow (y 0).val) (y 1)) := by
  have hv : ∀ r k, kernelRun0_A.sl.v230 (F := Ideal) c arg2 harg2 arg4 harg4 arg16 x0 x2 (ix2 r k) = H p (T + r.val) k := by
    intro r k
    refine ((h_reads hI).ld _ _ _ trivial).trans ?_
    pointwise
  unfold kernelRun0_A.sl.HS3_1
  refine Reads.cons ?_ (Reads.done ?_)
  · intro x _
    idx_vars x
    unfold_payloads
    pointwise [Memref.IsWhole.readAt_unread, hv, hI.perm]
    exact sum_pick ⟨natRow x0.val, natRow_lt x0.isLt⟩ (fun k => H p (T + k.val) x1)
  · intro y hy
    idx_vars y
    simp only [Rect.mem_set_unit] at hy
    pointwise at hy
    first | omega | simp at hy

/-- A load of them. -/
theorem hp_ld (hI : Ins p T x0 x1 x2 x3 x4 x5 x6 x7 x8 x9 x10) (r : Fin 256) (k : Fin 1024) :
    kernelRun0_A.sl.v236 (F := Ideal) c arg2 harg2 arg3 harg3 arg4 harg4 arg16 arg17 x0 x1 x2 (ix2 r k)
      = H p (T + natRow r.val) k := by
  refine ((hp_reads hI).ld _ _ _ trivial).trans ?_
  pointwise

/-! The projection, as its columns come to be known. -/

/-- The projection after 2 of its 16 column blocks are stored. -/
theorem proj_2 (hI : Ins p T x0 x1 x2 x3 x4 x5 x6 x7 x8 x9 x10) : Prj p T (fun j => j < 256 ∨ 1024 ≤ j ∧ j < 1280)
    (kernelRun0_A.sl.HS4_2 (F := Ideal) c arg2 harg2 arg3 harg3 arg4 harg4 arg5 harg5 arg16 arg17 x0 x1 x2 x3) := by
  unfold kernelRun0_A.sl.HS4_2
  refine Prj.cons _ (Prj.cons _ (Prj.nil (by omega)) (by omega) (fun r k => ?_)) (by omega) (fun r k => ?_)
  all_goals
    unfold_payloads
    pointwise [Memref.IsWhole.readAt_unread, hp_ld hI, hI.win]
    exact proj_of rfl (by first | rfl | (simp only; omega))

/-- The projection after 5 of its 16 column blocks are stored. -/
theorem proj_5 (hI : Ins p T x0 x1 x2 x3 x4 x5 x6 x7 x8 x9 x10) : Prj p T (fun j => j < 768 ∨ 1024 ≤ j ∧ j < 1536)
    (kernelRun0_A.sl.HS4_5 (F := Ideal) c arg2 harg2 arg3 harg3 arg4 harg4 arg5 harg5 arg16 arg17 x0 x1 x2 x3) := by
  unfold kernelRun0_A.sl.HS4_5
  refine Prj.cons _ (Prj.cons _ (Prj.cons _ ((proj_2 hI).mono (by omega)) (by omega) (fun r k => ?_)) (by omega) (fun r k => ?_)) (by omega) (fun r k => ?_)
  all_goals
    unfold_payloads
    pointwise [Memref.IsWhole.readAt_unread, hp_ld hI, hI.win]
    exact proj_of rfl (by first | rfl | (simp only; omega))

/-- The projection after 8 of its 16 column blocks are stored. -/
theorem proj_8 (hI : Ins p T x0 x1 x2 x3 x4 x5 x6 x7 x8 x9 x10) : Prj p T (fun j => j < 2048)
    (kernelRun0_A.sl.HS4_8 (F := Ideal) c arg2 harg2 arg3 harg3 arg4 harg4 arg5 harg5 arg16 arg17 x0 x1 x2 x3) := by
  unfold kernelRun0_A.sl.HS4_8
  refine Prj.cons _ (Prj.cons _ (Prj.cons _ ((proj_5 hI).mono (by omega)) (by omega) (fun r k => ?_)) (by omega) (fun r k => ?_)) (by omega) (fun r k => ?_)
  all_goals
    try simp only [kernelRun0_A.sl.r_57]
    unfold_payloads
    pointwise [Memref.IsWhole.readAt_unread, hp_ld hI, hI.win]
    exact proj_of rfl (by first | rfl | (simp only; omega))

/-- The projection after 11 of its 16 column blocks are stored. -/
theorem proj_11 (hI : Ins p T x0 x1 x2 x3 x4 x5 x6 x7 x8 x9 x10) : Prj p T (fun j => j < 2816)
    (kernelRun0_A.sl.HS4_11 (F := Ideal) c arg2 harg2 arg3 harg3 arg4 harg4 arg5 harg5 arg16 arg17 x0 x1 x2 x3) := by
  unfold kernelRun0_A.sl.HS4_11
  refine Prj.cons _ (Prj.cons _ (Prj.cons _ ((proj_8 hI).mono (by omega)) (by omega) (fun r k => ?_)) (by omega) (fun r k => ?_)) (by omega) (fun r k => ?_)
  all_goals
    unfold_payloads
    pointwise [Memref.IsWhole.readAt_unread, hp_ld hI, hI.win]
    exact proj_of rfl (by first | rfl | (simp only; omega))

/-- The projection after 16 of its 16 column blocks are stored. -/
theorem proj_16 (hI : Ins p T x0 x1 x2 x3 x4 x5 x6 x7 x8 x9 x10) : Prj p T (fun j => True)
    (kernelRun0_A.sl.HS4_16 (F := Ideal) c arg2 harg2 arg3 harg3 arg4 harg4 arg5 harg5 arg16 arg17 x0 x1 x2 x3) := by
  unfold kernelRun0_A.sl.HS4_16
  refine Prj.cons _ (Prj.cons _ (Prj.cons _ (Prj.cons _ (Prj.cons _ ((proj_11 hI).mono (by omega)) (by omega) (fun r k => ?_)) (by omega) (fun r k => ?_)) (by omega) (fun r k => ?_)) (by omega) (fun r k => ?_)) (by omega) (fun r k => ?_)
  all_goals
    try simp only [kernelRun0_A.sl.r_132, kernelRun0_A.sl.cst_2288, kernelRun0_A.sl.r_124]
    unfold_payloads
    pointwise [Memref.IsWhole.readAt_unread, hp_ld hI, hI.win]
    exact proj_of rfl (by first | rfl | (simp only; omega))

/-! The pool's buffer of delayed values. Before a sequence begins there are zeros. -/

/-- The pool's buffer after 1 stores. -/
theorem a_1 : Buf True (A p) T 0 (kernelRun0_A.sl.HS0_1 (F := Ideal)) := by
  unfold kernelRun0_A.sl.HS0_1
  refine Reads.cons ?_ (Reads.done ?_)
  · intro x _
    idx_vars x
    unfold_payloads
    pointwise
    exact (if_neg (by omega)).symm
  · intro y hy
    idx_vars y
    simp only [Rect.mem_set_unit] at hy
    pointwise at hy
    omega

/-- The pool's buffer after 3 stores. -/
theorem a_3 (hT : T = 0) (hI : Ins p T x0 x1 x2 x3 x4 x5 x6 x7 x8 x9 x10) : BufR True (A p) T 0
    (kernelRun0_A.sl.HS0_3 (F := Ideal) c arg2 harg2 arg3 harg3 arg4 harg4 arg5 harg5 arg14 arg16 arg17 x0 x1 x2 x3) := by
  unfold kernelRun0_A.sl.HS0_3
  refine Buf.roll1 a_1 (by omega) _ _ _ _ (fun r k => ?_) (fun r k hr => ?_)
  · unfold_payloads
    pointwise [Memref.IsWhole.readAt_unread, hp_ld hI, hI.win]
    exact cur_A (by first | rfl | (simp only; omega))
  · unfold_payloads
    pointwise
    refine (Reads.ld (a_1 (p := p) (T := T)) _ _ _ (by pointwise; try first | omega | simp)).trans ?_
    pointwise
    exact back_zero (by unfold natRow; omega)

/-- The pool's buffer after 4 stores. -/
theorem a_4 (hT : T = 0) (hI : Ins p T x0 x1 x2 x3 x4 x5 x6 x7 x8 x9 x10) : Buf True (A p) T 256
    (kernelRun0_A.sl.HS0_4 (F := Ideal) c arg2 harg2 arg3 harg3 arg4 harg4 arg5 harg5 arg14 arg16 arg17 x0 x1 x2 x3) := by
  unfold kernelRun0_A.sl.HS0_4
  refine BufR.sel (a_3 hT hI) (by omega) _ inb_S512x1024_S256x256_0_0 inb_S512x1024_S256x256_256_0 _ arg14.view (fun r k => ?_)
  simp only [kernelRun0_A.sl.v16, kernelRun0_A.sl.v12, kernelRun0_A.sl.v6, kernelRun0_A.sl.v15, kernelRun0_A.sl.v5,
      kernelRun0_A.sl.v0, kernelRun0_A.sl.v3, kernelRun0_A.sl.v8, kernelRun0_A.sl.v10]
  unfold_payloads
  pointwise [phase_zero, select_ite]
  rfl

/-- The pool's buffer after 6 stores. -/
theorem a_6 (hT : T = 0) (hI : Ins p T x0 x1 x2 x3 x4 x5 x6 x7 x8 x9 x10) : BufR True (A p) T 256
    (kernelRun0_A.sl.HS0_6 (F := Ideal) c arg2 harg2 arg3 harg3 arg4 harg4 arg5 harg5 arg14 arg16 arg17 x0 x1 x2 x3) := by
  unfold kernelRun0_A.sl.HS0_6
  refine Buf.roll1 (a_4 hT hI) (by omega) _ _ _ _ (fun r k => ?_) (fun r k hr => ?_)
  · unfold_payloads
    pointwise [Memref.IsWhole.readAt_unread, hp_ld hI, hI.win]
    exact cur_A (by first | rfl | (simp only; omega))
  · unfold_payloads
    pointwise
    refine (Reads.ld (a_4 hT hI) _ _ _ (by pointwise; try first | omega | simp)).trans ?_
    pointwise
    exact back_zero (by unfold natRow; omega)

/-- The pool's buffer after 7 stores. -/
theorem a_7 (hT : T = 0) (hI : Ins p T x0 x1 x2 x3 x4 x5 x6 x7 x8 x9 x10) : Buf True (A p) T 512
    (kernelRun0_A.sl.HS0_7 (F := Ideal) c arg2 harg2 arg3 harg3 arg4 harg4 arg5 harg5 arg14 arg16 arg17 x0 x1 x2 x3) := by
  unfold kernelRun0_A.sl.HS0_7
  refine BufR.sel (a_6 hT hI) (by omega) _ inb_S512x1024_S256x256_0_256 inb_S512x1024_S256x256_256_256 _ arg14.view (fun r k => ?_)
  simp only [kernelRun0_A.sl.v16, kernelRun0_A.sl.v12, kernelRun0_A.sl.v6, kernelRun0_A.sl.v15, kernelRun0_A.sl.v5,
      kernelRun0_A.sl.v0, kernelRun0_A.sl.v3, kernelRun0_A.sl.v8, kernelRun0_A.sl.v10]
  unfold_payloads
  pointwise [phase_zero, select_ite]
  rfl

/-- The pool's buffer after 9 stores. -/
theorem a_9 (hT : T = 0) (hI : Ins p T x0 x1 x2 x3 x4 x5 x6 x7 x8 x9 x10) : BufR True (A p) T 512
    (kernelRun0_A.sl.HS0_9 (F := Ideal) c arg2 harg2 arg3 harg3 arg4 harg4 arg5 harg5 arg14 arg16 arg17 x0 x1 x2 x3) := by
  unfold kernelRun0_A.sl.HS0_9
  refine Buf.roll1 (a_7 hT hI) (by omega) _ _ _ _ (fun r k => ?_) (fun r k hr => ?_)
  · unfold_payloads
    pointwise [Memref.IsWhole.readAt_unread, hp_ld hI, hI.win]
    exact cur_A (by first | rfl | (simp only; omega))
  · unfold_payloads
    pointwise
    refine (Reads.ld (a_7 hT hI) _ _ _ (by pointwise; try first | omega | simp)).trans ?_
    pointwise
    exact back_zero (by unfold natRow; omega)

/-- The pool's buffer after 10 stores. -/
theorem a_10 (hT : T = 0) (hI : Ins p T x0 x1 x2 x3 x4 x5 x6 x7 x8 x9 x10) : Buf True (A p) T 768
    (kernelRun0_A.sl.HS0_10 (F := Ideal) c arg2 harg2 arg3 harg3 arg4 harg4 arg5 harg5 arg14 arg16 arg17 x0 x1 x2 x3) := by
  unfold kernelRun0_A.sl.HS0_10
  refine BufR.sel (a_9 hT hI) (by omega) _ inb_S512x1024_S256x256_0_512 inb_S512x1024_S256x256_256_512 _ arg14.view (fun r k => ?_)
  simp only [kernelRun0_A.sl.v16, kernelRun0_A.sl.v12, kernelRun0_A.sl.v6, kernelRun0_A.sl.v15, kernelRun0_A.sl.v5,
      kernelRun0_A.sl.v0, kernelRun0_A.sl.v3, kernelRun0_A.sl.v8, kernelRun0_A.sl.v10]
  unfold_payloads
  pointwise [phase_zero, select_ite]
  rfl

/-- The pool's buffer after 12 stores. -/
theorem a_12 (hT : T = 0) (hI : Ins p T x0 x1 x2 x3 x4 x5 x6 x7 x8 x9 x10) : BufR True (A p) T 768
    (kernelRun0_A.sl.HS0_12 (F := Ideal) c arg2 harg2 arg3 harg3 arg4 harg4 arg5 harg5 arg14 arg16 arg17 x0 x1 x2 x3) := by
  unfold kernelRun0_A.sl.HS0_12
  refine Buf.roll1 (a_10 hT hI) (by omega) _ _ _ _ (fun r k => ?_) (fun r k hr => ?_)
  · unfold_payloads
    pointwise [Memref.IsWhole.readAt_unread, hp_ld hI, hI.win]
    exact cur_A (by first | rfl | (simp only; omega))
  · unfold_payloads
    pointwise
    refine (Reads.ld (a_10 hT hI) _ _ _ (by pointwise; try first | omega | simp)).trans ?_
    pointwise
    exact back_zero (by unfold natRow; omega)

/-- The pool's buffer after 13 stores. -/
theorem a_13 (hT : T = 0) (hI : Ins p T x0 x1 x2 x3 x4 x5 x6 x7 x8 x9 x10) : Buf True (A p) T 1024
    (kernelRun0_A.sl.HS0_13 (F := Ideal) c arg2 harg2 arg3 harg3 arg4 harg4 arg5 harg5 arg14 arg16 arg17 x0 x1 x2 x3) := by
  unfold kernelRun0_A.sl.HS0_13
  refine BufR.sel (a_12 hT hI) (by omega) _ inb_S512x1024_S256x256_0_768 inb_S512x1024_S256x256_256_768 _ arg14.view (fun r k => ?_)
  simp only [kernelRun0_A.sl.v16, kernelRun0_A.sl.v12, kernelRun0_A.sl.v6, kernelRun0_A.sl.v15, kernelRun0_A.sl.v5,
      kernelRun0_A.sl.v0, kernelRun0_A.sl.v3, kernelRun0_A.sl.v8, kernelRun0_A.sl.v10]
  unfold_payloads
  pointwise [phase_zero, select_ite]
  rfl

/-! The convolution's buffer of delayed values. -/

/-- The convolution's buffer after 1 stores. -/
theorem u_1 : Buf True (U p) T 0 (kernelRun0_A.sl.HS1_1 (F := Ideal)) := by
  unfold kernelRun0_A.sl.HS1_1
  refine Reads.cons ?_ (Reads.done ?_)
  · intro x _
    idx_vars x
    unfold_payloads
    pointwise
    exact (if_neg (by omega)).symm
  · intro y hy
    idx_vars y
    simp only [Rect.mem_set_unit] at hy
    pointwise at hy
    omega

/-- The convolution's buffer after 6 stores. -/
theorem u_6 (hT : T = 0) (hI : Ins p T x0 x1 x2 x3 x4 x5 x6 x7 x8 x9 x10) : BufR True (U p) T 0
    (kernelRun0_A.sl.HS1_6 (F := Ideal) c arg2 harg2 arg3 harg3 arg4 harg4 arg5 harg5 arg15 arg16 arg17 arg18 x0 x1 x2 x3) := by
  unfold kernelRun0_A.sl.HS1_6
  refine Buf.roll4 u_1 (by omega) _ _ _ _ _ _ _ _ _ _ (fun r k => ?_) (fun r k => ?_) (fun r k => ?_)
    (fun r k => ?_) (fun r k hr => ?_)
  case refine_5 =>
    unfold_payloads
    pointwise
    refine (Reads.ld (u_1 (p := p) (T := T)) _ _ _ (by pointwise; try first | omega | simp)).trans ?_
    pointwise
    exact back_zero (by unfold natRow; omega)
  all_goals
    try simp only [kernelRun0_A.sl.r_10, kernelRun0_A.sl.r_11]
    unfold_payloads
    pointwise
    exact glu_of ((proj_2 hI).ld _ _ _ _ (by omega) (by omega)) ((proj_2 hI).ld _ _ _ _ (by omega) (by omega))
      (by unfold natRow; omega) (by first | rfl | (simp only; omega)) (by first | rfl | (simp only; omega))

/-- The convolution's buffer after 7 stores. -/
theorem u_7 (hT : T = 0) (hI : Ins p T x0 x1 x2 x3 x4 x5 x6 x7 x8 x9 x10) : Buf True (U p) T 256
    (kernelRun0_A.sl.HS1_7 (F := Ideal) c arg2 harg2 arg3 harg3 arg4 harg4 arg5 harg5 arg15 arg16 arg17 arg18 x0 x1 x2 x3) := by
  unfold kernelRun0_A.sl.HS1_7
  refine BufR.sel (u_6 hT hI) (by omega) _ inb_S512x1024_S256x256_0_0 inb_S512x1024_S256x256_256_0 _ arg15.view (fun r k => ?_)
  simp only [kernelRun0_A.sl.v16, kernelRun0_A.sl.v12, kernelRun0_A.sl.v6, kernelRun0_A.sl.v15, kernelRun0_A.sl.v5,
      kernelRun0_A.sl.v0, kernelRun0_A.sl.v3, kernelRun0_A.sl.v8, kernelRun0_A.sl.v10]
  unfold_payloads
  pointwise [phase_zero, select_ite]
  rfl

/-- The convolution's buffer after 12 stores. -/
theorem u_12 (hT : T = 0) (hI : Ins p T x0 x1 x2 x3 x4 x5 x6 x7 x8 x9 x10) : BufR True (U p) T 256
    (kernelRun0_A.sl.HS1_12 (F := Ideal) c arg2 harg2 arg3 harg3 arg4 harg4 arg5 harg5 arg15 arg16 arg17 arg18 x0 x1 x2 x3) := by
  unfold kernelRun0_A.sl.HS1_12
  refine Buf.roll4 (u_7 hT hI) (by omega) _ _ _ _ _ _ _ _ _ _ (fun r k => ?_) (fun r k => ?_) (fun r k => ?_)
    (fun r k => ?_) (fun r k hr => ?_)
  case refine_5 =>
    unfold_payloads
    pointwise
    refine (Reads.ld (u_7 hT hI) _ _ _ (by pointwise; try first | omega | simp)).trans ?_
    pointwise
    exact back_zero (by unfold natRow; omega)
  all_goals
    try simp only [kernelRun0_A.sl.r_42]
    unfold_payloads
    pointwise
    exact glu_of ((proj_5 hI).ld _ _ _ _ (by omega) (by omega)) ((proj_5 hI).ld _ _ _ _ (by omega) (by omega))
      (by unfold natRow; omega) (by first | rfl | (simp only; omega)) (by first | rfl | (simp only; omega))

/-- The convolution's buffer after 13 stores. -/
theorem u_13 (hT : T = 0) (hI : Ins p T x0 x1 x2 x3 x4 x5 x6 x7 x8 x9 x10) : Buf True (U p) T 512
    (kernelRun0_A.sl.HS1_13 (F := Ideal) c arg2 harg2 arg3 harg3 arg4 harg4 arg5 harg5 arg15 arg16 arg17 arg18 x0 x1 x2 x3) := by
  unfold kernelRun0_A.sl.HS1_13
  refine BufR.sel (u_12 hT hI) (by omega) _ inb_S512x1024_S256x256_0_256 inb_S512x1024_S256x256_256_256 _ arg15.view (fun r k => ?_)
  simp only [kernelRun0_A.sl.v16, kernelRun0_A.sl.v12, kernelRun0_A.sl.v6, kernelRun0_A.sl.v15, kernelRun0_A.sl.v5,
      kernelRun0_A.sl.v0, kernelRun0_A.sl.v3, kernelRun0_A.sl.v8, kernelRun0_A.sl.v10]
  unfold_payloads
  pointwise [phase_zero, select_ite]
  rfl

/-- The convolution's buffer after 18 stores. -/
theorem u_18 (hT : T = 0) (hI : Ins p T x0 x1 x2 x3 x4 x5 x6 x7 x8 x9 x10) : BufR True (U p) T 512
    (kernelRun0_A.sl.HS1_18 (F := Ideal) c arg2 harg2 arg3 harg3 arg4 harg4 arg5 harg5 arg15 arg16 arg17 arg18 x0 x1 x2 x3) := by
  unfold kernelRun0_A.sl.HS1_18
  refine Buf.roll4 (u_13 hT hI) (by omega) _ _ _ _ _ _ _ _ _ _ (fun r k => ?_) (fun r k => ?_) (fun r k => ?_)
    (fun r k => ?_) (fun r k hr => ?_)
  case refine_5 =>
    unfold_payloads
    pointwise
    refine (Reads.ld (u_13 hT hI) _ _ _ (by pointwise; try first | omega | simp)).trans ?_
    pointwise
    exact back_zero (by unfold natRow; omega)
  all_goals
    try simp only [kernelRun0_A.sl.r_73]
    unfold_payloads
    pointwise
    exact glu_of ((proj_8 hI).ld _ _ _ _ (by omega) (by omega)) ((proj_8 hI).ld _ _ _ _ (by omega) (by omega))
      (by unfold natRow; omega) (by first | rfl | (simp only; omega)) (by first | rfl | (simp only; omega))

/-- The convolution's buffer after 19 stores. -/
theorem u_19 (hT : T = 0) (hI : Ins p T x0 x1 x2 x3 x4 x5 x6 x7 x8 x9 x10) : Buf True (U p) T 768
    (kernelRun0_A.sl.HS1_19 (F := Ideal) c arg2 harg2 arg3 harg3 arg4 harg4 arg5 harg5 arg15 arg16 arg17 arg18 x0 x1 x2 x3) := by
  unfold kernelRun0_A.sl.HS1_19
  refine BufR.sel (u_18 hT hI) (by omega) _ inb_S512x1024_S256x256_0_512 inb_S512x1024_S256x256_256_512 _ arg15.view (fun r k => ?_)
  simp only [kernelRun0_A.sl.v16, kernelRun0_A.sl.v12, kernelRun0_A.sl.v6, kernelRun0_A.sl.v15, kernelRun0_A.sl.v5,
      kernelRun0_A.sl.v0, kernelRun0_A.sl.v3, kernelRun0_A.sl.v8, kernelRun0_A.sl.v10]
  unfold_payloads
  pointwise [phase_zero, select_ite]
  rfl

/-- The convolution's buffer after 24 stores. -/
theorem u_24 (hT : T = 0) (hI : Ins p T x0 x1 x2 x3 x4 x5 x6 x7 x8 x9 x10) : BufR True (U p) T 768
    (kernelRun0_A.sl.HS1_24 (F := Ideal) c arg2 harg2 arg3 harg3 arg4 harg4 arg5 harg5 arg15 arg16 arg17 arg18 x0 x1 x2 x3) := by
  unfold kernelRun0_A.sl.HS1_24
  refine Buf.roll4 (u_19 hT hI) (by omega) _ _ _ _ _ _ _ _ _ _ (fun r k => ?_) (fun r k => ?_) (fun r k => ?_)
    (fun r k => ?_) (fun r k hr => ?_)
  case refine_5 =>
    unfold_payloads
    pointwise
    refine (Reads.ld (u_19 hT hI) _ _ _ (by pointwise; try first | omega | simp)).trans ?_
    pointwise
    exact back_zero (by unfold natRow; omega)
  all_goals
    try simp only [kernelRun0_A.sl.r_107, kernelRun0_A.sl.cst_1870]
    unfold_payloads
    pointwise
    exact glu_of ((proj_11 hI).ld _ _ _ _ (by omega) (by omega)) ((proj_11 hI).ld _ _ _ _ (by omega) (by omega))
      (by unfold natRow; omega) (by first | rfl | (simp only; omega)) (by first | rfl | (simp only; omega))

/-- The convolution's buffer after 25 stores. -/
theorem u_25 (hT : T = 0) (hI : Ins p T x0 x1 x2 x3 x4 x5 x6 x7 x8 x9 x10) : Buf True (U p) T 1024
    (kernelRun0_A.sl.HS1_25 (F := Ideal) c arg2 harg2 arg3 harg3 arg4 harg4 arg5 harg5 arg15 arg16 arg17 arg18 x0 x1 x2 x3) := by
  unfold kernelRun0_A.sl.HS1_25
  refine BufR.sel (u_24 hT hI) (by omega) _ inb_S512x1024_S256x256_0_768 inb_S512x1024_S256x256_256_768 _ arg15.view (fun r k => ?_)
  simp only [kernelRun0_A.sl.v16, kernelRun0_A.sl.v12, kernelRun0_A.sl.v6, kernelRun0_A.sl.v15, kernelRun0_A.sl.v5,
      kernelRun0_A.sl.v0, kernelRun0_A.sl.v3, kernelRun0_A.sl.v8, kernelRun0_A.sl.v10]
  unfold_payloads
  pointwise [phase_zero, select_ite]
  rfl

end Cert.PoolConv.First

end
-- ==== Proof.Grid.lean ====
/- Buffers filled part by part in a fixed order. -/
module

public import proofs.«01_k».proof.Proof.Tile

@[expose] public section

noncomputable section

namespace Cert.PoolConv

open Idealize.ShloMosaic Cert.KernelIdeal Cert.KernelIdeal.Gen

variable {e : EltTy} {g : ℕ → Fin 1024 → Elt Ideal e} {g' : ℕ → Fin 2048 → Elt Ideal e} {a b k : ℕ}

/-- The first `k` of the 16 parts of 64 rows and 256 columns hold `g`; the parts with the same columns come together. -/
def Parts64 (g : ℕ → Fin 1024 → Elt Ideal e) (k : ℕ) (L : List (View.Piece (Elt Ideal) S256x1024 e)) : Prop :=
  Reads L (fun y => (y 1).val / 256 * 4 + (y 0).val / 64 < k) (fun y => g (y 0).val (y 1))

/-- Before any store no part is known. -/
theorem Parts64.nil : Parts64 g 0 [] := Reads.done fun y hy => by omega

/-- One more part. -/
theorem Parts64.cons {L : List (View.Piece (Elt Ideal) S256x1024 e)} (h) {pay : Vec Ideal S64x256 e}
    (hL : Parts64 g k L) (ha : a = k % 4 * 64) (hb : b = k / 4 * 256) (hk : k < 16)
    (hp : ∀ (r : Fin 64) (j : Fin 256), pay (ix2 r j) = g (a + r.val) ⟨b + j.val, by omega⟩) :
    Parts64 g (k + 1) (⟨Rect.unit ![a, b] S64x256.size h, pay⟩ :: L) := by
  refine Reads.cons ?_ (fun y hy => hL y ?_)
  · intro x _
    idx_vars x
    refine (hp x0 x1).trans ?_
    pointwise
  · idx_vars y
    simp only [Rect.mem_set_unit] at hy
    pointwise at hy
    pointwise
    omega

/-- A load of rows and columns. -/
theorem Parts64.ld {L : List (View.Piece (Elt Ideal) S256x1024 e)} (hL : Parts64 g k L)
    {sig : RefSig} {κ : Kind} {sp : Space} (v : View sig κ sp S256x1024 e) {m n : ℕ} (h) (r : Fin m) (j : Fin n)
    (hP : (b + j.val) / 256 * 4 + (a + r.val) / 64 < k) (hb : b + j.val < 1024) :
    v.readCov L (Rect.unit (s := S256x1024) ![a, b] ![m, n] h).toLoadRect (ix2 r j) = g (a + r.val) ⟨b + j.val, hb⟩ := by
  refine (Reads.ld hL v _ _ (by pointwise; exact hP)).trans ?_
  pointwise

/-- The first `k` of the 16 parts of 32 rows and 1024 columns hold `g'`; the parts with the same columns come together. -/
def Parts32 (g' : ℕ → Fin 2048 → Elt Ideal e) (k : ℕ) (L : List (View.Piece (Elt Ideal) S256x2048 e)) : Prop :=
  Reads L (fun y => (y 1).val / 1024 * 8 + (y 0).val / 32 < k) (fun y => g' (y 0).val (y 1))

/-- Before any store no part is known. -/
theorem Parts32.nil : Parts32 g' 0 [] := Reads.done fun y hy => by omega

/-- One more part. -/
theorem Parts32.cons {L : List (View.Piece (Elt Ideal) S256x2048 e)} (h) {pay : Vec Ideal S32x1024 e}
    (hL : Parts32 g' k L) (ha : a = k % 8 * 32) (hb : b = k / 8 * 1024) (hk : k < 16)
    (hp : ∀ (r : Fin 32) (j : Fin 1024), pay (ix2 r j) = g' (a + r.val) ⟨b + j.val, by omega⟩) :
    Parts32 g' (k + 1) (⟨Rect.unit ![a, b] S32x1024.size h, pay⟩ :: L) := by
  refine Reads.cons ?_ (fun y hy => hL y ?_)
  · intro x _
    idx_vars x
    refine (hp x0 x1).trans ?_
    pointwise
  · idx_vars y
    simp only [Rect.mem_set_unit] at hy
    pointwise at hy
    pointwise
    omega

end Cert.PoolConv

end
-- ==== Proof.FirstConv.lean ====
/- The first tile of a sequence: the convolution. -/
module

public import proofs.«01_k».proof.Proof.Gen.KernelIdeal.Frame.RunA
public import proofs.«01_k».proof.Proof.FirstBuffers
public import proofs.«01_k».proof.Proof.Grid

@[expose] public section

set_option maxRecDepth 16384

noncomputable section

namespace Cert.PoolConv.First

open Idealize.ShloMosaic Cert.KernelIdeal Cert.KernelIdeal.Gen

variable {p : Par} {T : ℕ} {c : Dev nD}
  {arg2 : Memref sig .tc .vmem S1x256x1024 .f32} {harg2 : arg2.IsWhole}
  {arg3 : Memref sig .tc .vmem S2x256x256 .bf16} {harg3 : arg3.IsWhole}
  {arg4 : Memref sig .tc .vmem S1x1024 .f32} {harg4 : arg4.IsWhole}
  {arg5 : Memref sig .tc .vmem S1024x5120 .bf16} {harg5 : arg5.IsWhole}
  {arg8 : Memref sig .tc .vmem S31x1024 .f32} {harg8 : arg8.IsWhole}
  {arg9 : Memref sig .tc .vmem S1x1024 .f32} {harg9 : arg9.IsWhole}
  {arg14 arg15 : Memref sig .tc .vmem S512x1024 .f32}
  {arg16 arg17 : Memref sig .tc .vmem S256x1024 .bf16} {arg18 : Memref sig .tc .vmem S256x4096 .f32}
  {x0 : Vec Ideal S1x256x1024 .f32} {x1 : Vec Ideal S2x256x256 .bf16}
  {x2 : Vec Ideal S1x1024 .f32} {x3 : Vec Ideal S1024x5120 .bf16} {x4 : Vec Ideal S4x256x256 .bf16}
  {x5 : Vec Ideal S1x1024 .f32} {x6 : Vec Ideal S31x1024 .f32} {x7 x8 x9 : Vec Ideal S1x1024 .f32}
  {x10 : Vec Ideal S2048x1024 .bf16}

set_option maxHeartbeats 4000000 in
/-- Each of the sixteen parts of the convolution's buffer is the sum of its 31 taps. -/
theorem conv_reads (hT : T = 0) (hI : Ins p T x0 x1 x2 x3 x4 x5 x6 x7 x8 x9 x10) :
    Parts64 (fun r j => conv p (T + natRow r) j) 16
      (kernelRun0_A.sl.HS7_16 (F := Ideal) c arg2 harg2 arg3 harg3 arg4 harg4 arg5 harg5 arg8 harg8 arg9 harg9
        arg15 arg16 arg17 arg18 x0 x1 x2 x3 x6 x7) := by
  unfold kernelRun0_A.sl.HS7_16
  refine Parts64.cons _ (Parts64.cons _ (Parts64.cons _ (Parts64.cons _ (Parts64.cons _ (Parts64.cons _ (Parts64.cons _ (Parts64.cons _ (Parts64.cons _ (Parts64.cons _ (Parts64.cons _ (Parts64.cons _ (Parts64.cons _ (Parts64.cons _ (Parts64.cons _ (Parts64.cons _ (Parts64.nil) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)
  case refine_1 | refine_2 | refine_3 | refine_4 =>
    simp only [
      kernelRun0_A.sl.r_19, kernelRun0_A.sl.r_20, kernelRun0_A.sl.r_17, kernelRun0_A.sl.r_18, kernelRun0_A.sl.r_16,
      kernelRun0_A.sl.r_14, kernelRun0_A.sl.r_15, kernelRun0_A.sl.r_12, kernelRun0_A.sl.r_13, kernelRun0_A.sl.r_28,
      kernelRun0_A.sl.r_29, kernelRun0_A.sl.r_26, kernelRun0_A.sl.r_27, kernelRun0_A.sl.r_25, kernelRun0_A.sl.r_23,
      kernelRun0_A.sl.r_24, kernelRun0_A.sl.r_21, kernelRun0_A.sl.r_22, kernelRun0_A.sl.r_35, kernelRun0_A.sl.r_34,
      kernelRun0_A.sl.r_32, kernelRun0_A.sl.r_33, kernelRun0_A.sl.r_31, kernelRun0_A.sl.r_30, kernelRun0_A.sl.r_41,
      kernelRun0_A.sl.r_40, kernelRun0_A.sl.r_38, kernelRun0_A.sl.r_39, kernelRun0_A.sl.r_37, kernelRun0_A.sl.r_36]
    unfold_payloads
    pointwise [Memref.IsWhole.readAt_unread, hI.cw, hI.cb]
    refine (?_ : _ = convTo p _ _ 31)
    iterate 31 refine conv_step ?_ rfl ?_
    refine conv_base rfl
    all_goals refine Buf.ld (u_7 hT hI) _ _ _ _ ?_ ?_ (by omega)
    all_goals first | (unfold natRow; omega) | rfl | exact (Nat.zero_add _).symm
  case refine_5 | refine_6 | refine_7 | refine_8 =>
    simp only [
      kernelRun0_A.sl.r_49, kernelRun0_A.sl.r_50, kernelRun0_A.sl.r_48, kernelRun0_A.sl.r_46, kernelRun0_A.sl.r_47,
      kernelRun0_A.sl.r_44, kernelRun0_A.sl.r_45, kernelRun0_A.sl.r_43, kernelRun0_A.sl.r_56, kernelRun0_A.sl.r_54,
      kernelRun0_A.sl.r_55, kernelRun0_A.sl.r_52, kernelRun0_A.sl.r_53, kernelRun0_A.sl.r_51, kernelRun0_A.sl.r_63,
      kernelRun0_A.sl.r_64, kernelRun0_A.sl.r_61, kernelRun0_A.sl.r_62, kernelRun0_A.sl.r_60, kernelRun0_A.sl.r_58,
      kernelRun0_A.sl.r_59, kernelRun0_A.sl.r_72, kernelRun0_A.sl.r_70, kernelRun0_A.sl.r_71, kernelRun0_A.sl.r_68,
      kernelRun0_A.sl.r_69, kernelRun0_A.sl.r_67, kernelRun0_A.sl.r_65, kernelRun0_A.sl.r_66]
    unfold_payloads
    pointwise [Memref.IsWhole.readAt_unread, hI.cw, hI.cb]
    refine (?_ : _ = convTo p _ _ 31)
    iterate 31 refine conv_step ?_ rfl ?_
    refine conv_base rfl
    all_goals refine Buf.ld (u_13 hT hI) _ _ _ _ ?_ ?_ (by omega)
    all_goals first | (unfold natRow; omega) | rfl | exact (Nat.zero_add _).symm
  case refine_9 | refine_10 | refine_11 | refine_12 =>
    simp only [
      kernelRun0_A.sl.r_80, kernelRun0_A.sl.r_81, kernelRun0_A.sl.r_78, kernelRun0_A.sl.r_79, kernelRun0_A.sl.r_77,
      kernelRun0_A.sl.r_75, kernelRun0_A.sl.r_76, kernelRun0_A.sl.r_74, kernelRun0_A.sl.r_89, kernelRun0_A.sl.r_87,
      kernelRun0_A.sl.r_88, kernelRun0_A.sl.r_85, kernelRun0_A.sl.r_86, kernelRun0_A.sl.r_84, kernelRun0_A.sl.r_82,
      kernelRun0_A.sl.r_83, kernelRun0_A.sl.r_97, kernelRun0_A.sl.r_98, kernelRun0_A.sl.r_95, kernelRun0_A.sl.r_96,
      kernelRun0_A.sl.r_94, kernelRun0_A.sl.r_92, kernelRun0_A.sl.r_93, kernelRun0_A.sl.r_90, kernelRun0_A.sl.r_91,
      kernelRun0_A.sl.r_105, kernelRun0_A.sl.r_106, kernelRun0_A.sl.r_104, kernelRun0_A.sl.r_102, kernelRun0_A.sl.r_103,
      kernelRun0_A.sl.r_100, kernelRun0_A.sl.r_101, kernelRun0_A.sl.r_99]
    unfold_payloads
    pointwise [Memref.IsWhole.readAt_unread, hI.cw, hI.cb]
    refine (?_ : _ = convTo p _ _ 31)
    iterate 31 refine conv_step ?_ rfl ?_
    refine conv_base rfl
    all_goals refine Buf.ld (u_19 hT hI) _ _ _ _ ?_ ?_ (by omega)
    all_goals first | (unfold natRow; omega) | rfl | exact (Nat.zero_add _).symm
  case refine_13 | refine_14 | refine_15 | refine_16 =>
    simp only [
      kernelRun0_A.sl.r_115, kernelRun0_A.sl.r_113, kernelRun0_A.sl.r_114, kernelRun0_A.sl.r_111, kernelRun0_A.sl.r_112,
      kernelRun0_A.sl.r_110, kernelRun0_A.sl.r_108, kernelRun0_A.sl.r_109, kernelRun0_A.sl.r_122, kernelRun0_A.sl.r_123,
      kernelRun0_A.sl.r_120, kernelRun0_A.sl.r_121, kernelRun0_A.sl.r_119, kernelRun0_A.sl.r_117, kernelRun0_A.sl.r_118,
      kernelRun0_A.sl.r_116, kernelRun0_A.sl.r_130, kernelRun0_A.sl.r_131, kernelRun0_A.sl.r_129, kernelRun0_A.sl.r_127,
      kernelRun0_A.sl.r_128, kernelRun0_A.sl.r_125, kernelRun0_A.sl.r_126, kernelRun0_A.sl.r_138, kernelRun0_A.sl.r_136,
      kernelRun0_A.sl.r_137, kernelRun0_A.sl.r_134, kernelRun0_A.sl.r_135, kernelRun0_A.sl.r_133]
    unfold_payloads
    pointwise [Memref.IsWhole.readAt_unread, hI.cw, hI.cb]
    refine (?_ : _ = convTo p _ _ 31)
    iterate 31 refine conv_step ?_ rfl ?_
    refine conv_base rfl
    all_goals refine Buf.ld (u_25 hT hI) _ _ _ _ ?_ ?_ (by omega)
    all_goals first | (unfold natRow; omega) | rfl | exact (Nat.zero_add _).symm

end Cert.PoolConv.First

end
-- ==== Proof.Pool.lean ====
/- The pool's arithmetic: positions and window widths as words, and the trailing sums. -/
module

public import proofs.«01_k».proof.Proof.Tile

@[expose] public section

noncomputable section

namespace Cert.PoolConv

open Idealize.ShloMosaic Cert.KernelIdeal Cert.KernelIdeal.Gen

/-- A row's phase, as the kernel computes it with signed words. -/
theorem phase_word : ∀ r : Fin 256,
    Scalar.select
      (IntOp.andi
        (IntOp.xori (IntOp.cmpi CmpIPredicate.slt (IntOp.remsi ArithUnit.vector (BitVec.ofNat 32 r.val) 8#32) 0#32) 0#1)
        (IntOp.cmpi CmpIPredicate.ne (IntOp.remsi ArithUnit.vector (BitVec.ofNat 32 r.val) 8#32) 0#32))
      (IntOp.addi (IntOp.remsi ArithUnit.vector (BitVec.ofNat 32 r.val) 8#32) 8#32)
      (IntOp.remsi ArithUnit.vector (BitVec.ofNat 32 r.val) 8#32) = BitVec.ofNat 32 (r.val % 8) := by
  decide +kernel

/-- A row's quotient by the number of phases, as the kernel computes it with signed words. -/
theorem quot_word : ∀ r : Fin 256,
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 8#32 0#32))
            (Scalar.extui (Scalar.cmpi CmpIPredicate.slt 8#32 0#32))))
        (IntOp.cmpi CmpIPredicate.ne (IntOp.remsi ArithUnit.vector (BitVec.ofNat 32 r.val) 8#32) 0#32))
      (IntOp.subi (IntOp.divsi ArithUnit.vector (BitVec.ofNat 32 r.val) 8#32) 1#32)
      (IntOp.divsi ArithUnit.vector (BitVec.ofNat 32 r.val) 8#32) = BitVec.ofNat 32 (r.val / 8) := by
  decide +kernel

/-- A row's place in time, from its phase and quotient. -/
theorem pos_word (n : ℕ) (r : ℕ) :
    IntOp.addi (IntOp.addi (Scalar.muli (BitVec.ofNat 32 n) 256#32) (IntOp.muli (BitVec.ofNat 32 (r % 8)) 32#32))
      (BitVec.ofNat 32 (r / 8)) = BitVec.ofNat 32 (256 * n + natRow r) := by
  simp only [IntOp.addi, IntOp.muli, Scalar.muli, ← BitVec.ofNat_mul, ← BitVec.ofNat_add]
  congr 1
  unfold natRow
  omega

/-- The number of positions in a window of width `w`. -/
theorem count_word {n w : ℕ} (hn : n < 4096) (hw : w < 4096) :
    (FloatOps.sitofp (F := Ideal) FTy.f32 (IntOp.minsi (IntOp.addi (BitVec.ofNat 32 n) 1#32) (BitVec.ofNat 32 w)) : EReal)
      = ((min (n + 1) w : ℕ) : ℝ) := by
  have hw' : (BitVec.ofNat 32 w).toInt = w := by rw [BitVec.toInt_ofNat']; simp [Int.bmod]; omega
  have hn' : (BitVec.ofNat 32 (n + 1)).toInt = ((n + 1 : ℕ) : ℤ) := by
    rw [BitVec.toInt_ofNat']; simp [Int.bmod]; omega
  have e : IntOp.addi (BitVec.ofNat 32 n) 1#32 = BitVec.ofNat 32 (n + 1) := by
    simp only [IntOp.addi, ← BitVec.ofNat_add]
  have key : (IntOp.minsi (BitVec.ofNat 32 (n + 1)) (BitVec.ofNat 32 w)).toInt = ((min (n + 1) w : ℕ) : ℤ) := by
    unfold IntOp.minsi
    rw [BitVec.slt_eq_decide, hn', hw']
    split_ifs with h
    · rw [hn']; simp at h; omega
    · rw [hw']; simp at h; omega
  rw [e]
  show (((IntOp.minsi (BitVec.ofNat 32 (n + 1)) (BitVec.ofNat 32 w)).toInt : ℝ) : EReal) = _
  rw [key]
  norm_num

/-- The window width of a column, from its group. -/
theorem width_eq {c : Fin 1024} {q : ℕ} (h : c.val / 256 = q) : width c = 2 ^ (q + 1) := by rw [width, h]

/-- A window's first term. -/
theorem win_base {f : ℕ → Fin 1024 → EReal} {n : ℕ} {c : Fin 1024} {b : EReal} (hb : b = back f (n + 32 - 0) c) :
    b = ∑ d ∈ Finset.range 1, back f (n + 32 - d) c := by simp [hb]

/-- A window's next term. -/
theorem win_step {f : ℕ → Fin 1024 → EReal} {n k : ℕ} {c : Fin 1024} {x b : EReal}
    (hx : x = ∑ d ∈ Finset.range k, back f (n + 32 - d) c) (hb : b = back f (n + 32 - k) c) :
    x + b = ∑ d ∈ Finset.range (k + 1), back f (n + 32 - d) c := by rw [hx, hb, Finset.sum_range_succ]

/-- The pooled value from its sum, its count and the value at the position itself. -/
theorem pool_of {p : Par} {n w m : ℕ} {c : Fin 1024} {s x : EReal} (hw : width c = w) (hm : m = n) (hn : n < 4096)
    (hw' : w < 4096) (hs : s = ∑ d ∈ Finset.range w, back (A p) (n + 32 - d) c) (hx : x = back (A p) (n + 32) c) :
    Ideal.div s (FloatOps.sitofp (F := Ideal) FTy.f32
      (IntOp.minsi (IntOp.addi (BitVec.ofNat 32 m) 1#32) (BitVec.ofNat 32 w)) : EReal) - x = pool p n c := by
  rw [hm, count_word hn hw', hs, hx, back_add n rfl, pool, hw]

/-- A group's mix, from its sum of products. -/
theorem mix_of {p : Par} {n o : ℕ} {g : Fin 4} {j : Fin 256} (ho : o = g.val * 256) {c : Fin 1024} (hc : c.val = o + j.val) :
    (∑ k : Fin 256, pool p n ⟨o + k.val, by omega⟩ * p.pw g k j) = mix p n c := by
  subst ho
  have h1 : c.val / 256 = g.val := by omega
  have h2 : c.val % 256 = j.val := by omega
  unfold mix
  refine Finset.sum_congr rfl fun k _ => ?_
  congr 1
  · congr 1
    exact Fin.ext (by simp only [h1])
  · congr 1
    · rw [show g = (⟨c.val / 256, by omega⟩ : Fin 4) from Fin.ext h1.symm]
    · exact Fin.ext h2.symm

end Cert.PoolConv

end
-- ==== Proof.FirstPool.lean ====
/- The first tile of a sequence: the pool. -/
module

public import proofs.«01_k».proof.Proof.Gen.KernelIdeal.Frame.RunA
public import proofs.«01_k».proof.Proof.FirstBuffers
public import proofs.«01_k».proof.Proof.Grid
public import proofs.«01_k».proof.Proof.Pool

@[expose] public section

set_option maxRecDepth 16384

noncomputable section

namespace Cert.PoolConv.First

open Idealize.ShloMosaic Cert.KernelIdeal Cert.KernelIdeal.Gen

variable {p : Par} {T : ℕ} {c : Dev nD}
  {arg2 : Memref sig .tc .vmem S1x256x1024 .f32} {harg2 : arg2.IsWhole}
  {arg3 : Memref sig .tc .vmem S2x256x256 .bf16} {harg3 : arg3.IsWhole}
  {arg4 : Memref sig .tc .vmem S1x1024 .f32} {harg4 : arg4.IsWhole}
  {arg5 : Memref sig .tc .vmem S1024x5120 .bf16} {harg5 : arg5.IsWhole}
  {arg8 : Memref sig .tc .vmem S31x1024 .f32} {harg8 : arg8.IsWhole}
  {arg9 : Memref sig .tc .vmem S1x1024 .f32} {harg9 : arg9.IsWhole}
  {i : grid0.Coords}
  {arg6 : Memref sig .tc .vmem S4x256x256 .bf16} {harg6 : arg6.IsWhole}
  {arg19 : Memref sig .tc .vmem S256x1024 .bf16}
  {arg14 arg15 : Memref sig .tc .vmem S512x1024 .f32}
  {arg16 arg17 : Memref sig .tc .vmem S256x1024 .bf16} {arg18 : Memref sig .tc .vmem S256x4096 .f32}
  {x0 : Vec Ideal S1x256x1024 .f32} {x1 : Vec Ideal S2x256x256 .bf16}
  {x2 : Vec Ideal S1x1024 .f32} {x3 : Vec Ideal S1024x5120 .bf16} {x4 : Vec Ideal S4x256x256 .bf16}
  {x5 : Vec Ideal S1x1024 .f32} {x6 : Vec Ideal S31x1024 .f32} {x7 x8 x9 : Vec Ideal S1x1024 .f32}
  {x10 : Vec Ideal S2048x1024 .bf16}

/-- The kernel's positions. -/
theorem pos (r : Fin 256) : kernelRun0_A.sl.r i (ix2 r 0) = BitVec.ofNat 32 (256 * (i 1).val + natRow r.val) := by
  sl_unfold_words
  unfold_payloads
  pointwise [phase_word, quot_word, pos_word]

/-! The trailing means, as the parts of their buffer come to be known. -/

/-- The first 11 of the sixteen parts are the pool. -/
theorem pool_11 (hC : T = 256 * (i 1).val) (hT : T = 0) (hI : Ins p T x0 x1 x2 x3 x4 x5 x6 x7 x8 x9 x10) :
    Parts64 (fun r j => pool p (T + natRow r) j) 11
      (kernelRun0_A.sl.HS5_11 (F := Ideal) c i arg2 harg2 arg3 harg3 arg4 harg4 arg5 harg5 arg14 arg16 arg17 x0 x1 x2 x3) := by
  unfold kernelRun0_A.sl.HS5_11
  refine Parts64.cons _ (Parts64.cons _ (Parts64.cons _ (Parts64.cons _ (Parts64.cons _ (Parts64.cons _ (Parts64.cons _ (Parts64.cons _ (Parts64.cons _ (Parts64.cons _ (Parts64.cons _ (Parts64.nil
    ) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)
  all_goals
    try simp only [
      kernelRun0_A.sl.r_144, kernelRun0_A.sl.r_145, kernelRun0_A.sl.r_143, kernelRun0_A.sl.r_141, kernelRun0_A.sl.r_142,
      kernelRun0_A.sl.r_140, kernelRun0_A.sl.r_139]
    unfold_payloads
    pointwise [pos]
  case refine_1 | refine_2 | refine_3 | refine_4 =>
    refine pool_of (w := 2) ((width_eq (q := 0) (by simp only; omega)).trans rfl) (by rw [hC]) (by unfold natRow; omega)
      (by omega) ?_ ?_
    iterate 1 refine win_step ?_ ?_
    refine win_base ?_
    all_goals refine Buf.ld (a_13 hT hI) _ _ _ _ ?_ ?_ (by omega)
    all_goals first | (unfold natRow; omega) | rfl | exact (Nat.zero_add _).symm
  case refine_5 | refine_6 | refine_7 | refine_8 =>
    refine pool_of (w := 4) ((width_eq (q := 1) (by simp only; omega)).trans rfl) (by rw [hC]) (by unfold natRow; omega)
      (by omega) ?_ ?_
    iterate 3 refine win_step ?_ ?_
    refine win_base ?_
    all_goals refine Buf.ld (a_13 hT hI) _ _ _ _ ?_ ?_ (by omega)
    all_goals first | (unfold natRow; omega) | rfl | exact (Nat.zero_add _).symm
  case refine_9 | refine_10 | refine_11 =>
    refine pool_of (w := 8) ((width_eq (q := 2) (by simp only; omega)).trans rfl) (by rw [hC]) (by unfold natRow; omega)
      (by omega) ?_ ?_
    iterate 7 refine win_step ?_ ?_
    refine win_base ?_
    all_goals refine Buf.ld (a_13 hT hI) _ _ _ _ ?_ ?_ (by omega)
    all_goals first | (unfold natRow; omega) | rfl | exact (Nat.zero_add _).symm

/-- The first 13 of the sixteen parts are the pool. -/
theorem pool_13 (hC : T = 256 * (i 1).val) (hT : T = 0) (hI : Ins p T x0 x1 x2 x3 x4 x5 x6 x7 x8 x9 x10) :
    Parts64 (fun r j => pool p (T + natRow r) j) 13
      (kernelRun0_A.sl.HS5_13 (F := Ideal) c i arg2 harg2 arg3 harg3 arg4 harg4 arg5 harg5 arg14 arg16 arg17 x0 x1 x2 x3) := by
  unfold kernelRun0_A.sl.HS5_13
  refine Parts64.cons _ (Parts64.cons _ (pool_11 hC hT hI
    ) rfl rfl (by omega) (fun r j => ?_)) rfl rfl (by omega) (fun r j => ?_)
  all_goals
    try simp only [
      kernelRun0_A.sl.r_149, kernelRun0_A.sl.r_150, kernelRun0_A.sl.r_148]
    unfold_payloads
    pointwise [pos]
  case refine_1 =>
    refine pool_of (w := 8) ((width_eq (q := 2) (by simp only; omega)).trans rfl) (by rw [hC]) (by unfold natRow; omega)
      (by omega) ?_ ?_
    iterate 7 refine win_step ?_ ?_
    refine win_base ?_
    all_goals refine Buf.ld (a_13 hT hI) _ _ _ _ ?_ ?_ (by omega)
    all_goals first | (unfold natRow; omega) | rfl | exact (Nat.zero_add _).symm
  case refine_2 =>
    refine pool_of (w := 16) ((width_eq (q := 3) (by simp only; omega)).trans rfl) (by rw [hC]) (by unfold natRow; omega)
      (by omega) ?_ ?_
    iterate 15 refine win_step ?_ ?_
    refine win_base ?_
    all_goals refine Buf.ld (a_13 hT hI) _ _ _ _ ?_ ?_ (by omega)
    all_goals first | (unfold natRow; omega) | rfl | exact (Nat.zero_add _).symm

/-- The first 15 of the sixteen parts are the pool. -/
theorem pool_15 (hC : T = 256 * (i 1).val) (hT : T = 0) (hI : Ins p T x0 x1 x2 x3 x4 x5 x6 x7 x8 x9 x10) :
    Parts64 (fun r j => pool p (T + natRow r) j) 15
      (kernelRun0_A.sl.HS5_15 (F := Ideal) c i arg2 harg2 arg3 harg3 arg4 harg4 arg5 harg5 arg14 arg16 arg17 x0 x1 x2 x3) := by
  unfold kernelRun0_A.sl.HS5_15
  refine Parts64.cons _ (Parts64.cons _ (pool_13 hC hT hI
    ) rfl rfl (by omega) (fun r j => ?_)) rfl rfl (by omega) (fun r j => ?_)
  all_goals
    try simp only [
      kernelRun0_A.sl.r_153, kernelRun0_A.sl.r_154, kernelRun0_A.sl.r_151, kernelRun0_A.sl.r_152]
    unfold_payloads
    pointwise [pos]
  case refine_1 | refine_2 =>
    refine pool_of (w := 16) ((width_eq (q := 3) (by simp only; omega)).trans rfl) (by rw [hC]) (by unfold natRow; omega)
      (by omega) ?_ ?_
    iterate 15 refine win_step ?_ ?_
    refine win_base ?_
    all_goals refine Buf.ld (a_13 hT hI) _ _ _ _ ?_ ?_ (by omega)
    all_goals first | (unfold natRow; omega) | rfl | exact (Nat.zero_add _).symm

/-- The first 16 of the sixteen parts are the pool. -/
theorem pool_16 (hC : T = 256 * (i 1).val) (hT : T = 0) (hI : Ins p T x0 x1 x2 x3 x4 x5 x6 x7 x8 x9 x10) :
    Parts64 (fun r j => pool p (T + natRow r) j) 16
      (kernelRun0_A.sl.HS5_16 (F := Ideal) c i arg2 harg2 arg3 harg3 arg4 harg4 arg5 harg5 arg14 arg16 arg17 x0 x1 x2 x3) := by
  unfold kernelRun0_A.sl.HS5_16
  refine Parts64.cons _ (pool_15 hC hT hI
    ) rfl rfl (by omega) (fun r j => ?_)
  all_goals
    try simp only [
      kernelRun0_A.sl.r_155]
    unfold_payloads
    pointwise [pos]
  case _ =>
    refine pool_of (w := 16) ((width_eq (q := 3) (by simp only; omega)).trans rfl) (by rw [hC]) (by unfold natRow; omega)
      (by omega) ?_ ?_
    iterate 15 refine win_step ?_ ?_
    refine win_base ?_
    all_goals refine Buf.ld (a_13 hT hI) _ _ _ _ ?_ ?_ (by omega)
    all_goals first | (unfold natRow; omega) | rfl | exact (Nat.zero_add _).symm

/-- The groups' mixes. -/
theorem mix_reads (hC : T = 256 * (i 1).val) (hT : T = 0) (hI : Ins p T x0 x1 x2 x3 x4 x5 x6 x7 x8 x9 x10) :
    Reads (kernelRun0_A.sl.HS6_4 (F := Ideal) c i arg2 harg2 arg3 harg3 arg4 harg4 arg5 harg5 arg6 harg6
        arg14 arg16 arg17 arg19 x0 x1 x2 x3 x4) (fun _ => True) (fun y => mix p (T + natRow (y 0).val) (y 1)) := by
  have h0 : ∀ r k : Fin 256, kernelRun0_A.sl.v3516 (F := Ideal) c i arg2 harg2 arg3 harg3 arg4 harg4 arg5 harg5 arg14 arg16 arg17 arg19 x0 x1 x2 x3
      (ix2 r k) = pool p (T + natRow r.val) ⟨0 + k.val, by omega⟩ := fun r k =>
    ((pool_11 hC hT hI).ld _ _ _ _ (by omega) (by omega)).trans (by rw [Nat.zero_add])
  have h1 : ∀ r k : Fin 256, kernelRun0_A.sl.v3595 (F := Ideal) c i arg2 harg2 arg3 harg3 arg4 harg4 arg5 harg5 arg14 arg16 arg17 arg19 x0 x1 x2 x3
      (ix2 r k) = pool p (T + natRow r.val) ⟨256 + k.val, by omega⟩ := fun r k =>
    ((pool_13 hC hT hI).ld _ _ _ _ (by omega) (by omega)).trans (by rw [Nat.zero_add])
  have h2 : ∀ r k : Fin 256, kernelRun0_A.sl.v3690 (F := Ideal) c i arg2 harg2 arg3 harg3 arg4 harg4 arg5 harg5 arg14 arg16 arg17 arg19 x0 x1 x2 x3
      (ix2 r k) = pool p (T + natRow r.val) ⟨512 + k.val, by omega⟩ := fun r k =>
    ((pool_15 hC hT hI).ld _ _ _ _ (by omega) (by omega)).trans (by rw [Nat.zero_add])
  have h3 : ∀ r k : Fin 256, kernelRun0_A.sl.v3741 (F := Ideal) c i arg2 harg2 arg3 harg3 arg4 harg4 arg5 harg5 arg14 arg16 arg17 arg19 x0 x1 x2 x3
      (ix2 r k) = pool p (T + natRow r.val) ⟨768 + k.val, by omega⟩ := fun r k =>
    ((pool_16 hC hT hI).ld _ _ _ _ (by omega) (by omega)).trans (by rw [Nat.zero_add])
  unfold kernelRun0_A.sl.HS6_4
  refine Reads.cons ?_ (Reads.cons ?_ (Reads.cons ?_ (Reads.cons ?_ (Reads.done ?_))))
  case refine_5 =>
    intro y hy
    idx_vars y
    simp only [Rect.mem_set_unit] at hy
    pointwise at hy
    omega
  all_goals
    intro x _
    idx_vars x
    try simp only [kernelRun0_A.sl.r_156, kernelRun0_A.sl.r_146]
    unfold_payloads
    pointwise [Memref.IsWhole.readAt_unread, h0, h1, h2, h3, hI.pw]
  · exact mix_of (n := T + natRow x0.val) (o := 768) (g := 3) (j := x1) rfl rfl
  · exact mix_of (n := T + natRow x0.val) (o := 512) (g := 2) (j := x1) rfl rfl
  · exact mix_of (n := T + natRow x0.val) (o := 256) (g := 1) (j := x1) rfl rfl
  · have e := mix_of (p := p) (n := T + natRow x0.val) (o := 0) (g := 0) (j := x1) (c := ⟨x1.val, by omega⟩) rfl
      (Nat.zero_add _).symm
    simp only [Nat.zero_add] at e
    exact e

end Cert.PoolConv.First

end
-- ==== Proof.Gate.lean ====
/- The gates, the return to the order of time and the output projection, entry by entry. -/
module

public import proofs.«01_k».proof.Proof.Buffer
public import proofs.«01_k».proof.Proof.Grid

@[expose] public section

noncomputable section

namespace Cert.PoolConv

open Idealize.ShloMosaic Cert.KernelIdeal Cert.KernelIdeal.Gen

variable {p : Par} {T n : ℕ}

/-- A load from a whole buffer of 1024 columns in the kernel's order, `f` at its time. -/
theorem Reads.time {f : ℕ → Fin 1024 → EReal} {L : List (View.Piece (Elt Ideal) S256x1024 .f32)}
    (hL : Reads L (fun _ => True) (fun y => f (T + natRow (y 0).val) (y 1)))
    {sig : RefSig} {κ : Kind} {sp : Space} (v : View sig κ sp S256x1024 .f32) {a b l m : ℕ} (h) (r : Fin l) (k : Fin m)
    {c : Fin 1024} (hn : n = T + natRow (a + r.val)) (hc : c.val = b + k.val) :
    v.readCov L (Rect.unit (s := S256x1024) ![a, b] ![l, m] h).toLoadRect (ix2 r k) = f n c := by
  refine (Reads.ld hL v _ _ trivial).trans ?_
  subst hn
  pointwise
  congr 1
  exact Fin.ext hc.symm

/-- The sixteen parts are the whole buffer. -/
theorem Parts64.all {e : EltTy} {g : ℕ → Fin 1024 → Elt Ideal e} {L : List (View.Piece (Elt Ideal) S256x1024 e)}
    (hL : Parts64 g 16 L) : Reads L (fun _ => True) (fun y => g (y 0).val (y 1)) :=
  Reads.mono hL fun y _ => by
    have h0 : (y 0).val < 256 := (y 0).isLt
    have h1 : (y 1).val < 1024 := (y 1).isLt
    omega

/-- A load of some rows and columns of the gated values' buffer. -/
theorem Parts32.ld {e : EltTy} {g' : ℕ → Fin 2048 → Elt Ideal e} {k a b : ℕ}
    {L : List (View.Piece (Elt Ideal) S256x2048 e)} (hL : Parts32 g' k L)
    {sig : RefSig} {κ : Kind} {sp : Space} (v : View sig κ sp S256x2048 e) {m n : ℕ} (h) (r : Fin m) (j : Fin n)
    (hP : (b + j.val) / 1024 * 8 + (a + r.val) / 32 < k) (hb : b + j.val < 2048) :
    v.readCov L (Rect.unit (s := S256x2048) ![a, b] ![m, n] h).toLoadRect (ix2 r j) = g' (a + r.val) ⟨b + j.val, hb⟩ := by
  refine (Reads.ld hL v _ _ (by pointwise; exact hP)).trans ?_
  pointwise

/-- A load from the projection's buffer. -/
theorem Prj.time {L : List (View.Piece (Elt Ideal) S256x4096 .f32)} (hL : Prj p T (fun _ => True) L)
    {sig : RefSig} {κ : Kind} {sp : Space} (v : View sig κ sp S256x4096 .f32) {a b l m : ℕ} (h) (r : Fin l) (k : Fin m)
    {j : Fin 5120} (hn : n = T + natRow (a + r.val)) (hj : j.val = 1024 + (b + k.val)) :
    v.readCov L (Rect.unit (s := S256x4096) ![a, b] ![l, m] h).toLoadRect (ix2 r k) = proj p n j := by
  refine (Prj.ld hL v h r k trivial (by omega)).trans ?_
  subst hn
  congr 1
  exact Fin.ext hj.symm

/-- The gate as the kernel writes it. -/
theorem silu_of (z : EReal) : z * Ideal.div 1 (1 + Ideal.exp (0 - z)) = silu z := by rw [zero_sub, silu, logi]

/-- A gated value of the pool's half. -/
theorem pool_gate {m z : EReal} {j : Fin 1024} {q : Fin 2048} (hm : m = mix p n j)
    (hz : z = proj p n ⟨3072 + q.val, by omega⟩) (hq : q.val = j.val) :
    m * p.ps j * (z * Ideal.div 1 (1 + Ideal.exp (0 - z))) = y p n q := by
  have h : q.val < 1024 := by omega
  have e : (⟨q.val, h⟩ : Fin 1024) = j := Fin.ext hq
  rw [silu_of, hm, hz, y, dif_pos h, e]
  rfl

/-- A gated value of the convolution's half. -/
theorem conv_gate {z : EReal} {j : Fin 1024} {q : Fin 2048}
    (hz : z = proj p n ⟨3072 + q.val, by omega⟩) (hq : q.val = 1024 + j.val) :
    ((conv p n j - Ideal.div (∑ x, conv p n x) (Ideal.ofBits FTy.f32 1149239296#32)) *
              Ideal.rsqrt
                (Ideal.div
                    (∑ x, (conv p n x - Ideal.div (∑ x, conv p n x) (Ideal.ofBits FTy.f32 1149239296#32)) *
                        (conv p n x - Ideal.div (∑ x, conv p n x) (Ideal.ofBits FTy.f32 1149239296#32)))
                    (Ideal.ofBits FTy.f32 1149239296#32) +
                  Ideal.ofBits FTy.f32 897988541#32) *
            p.cg j +
          p.cbeta j) *
        Ideal.div 1 (1 + Ideal.exp (0 -
                ((conv p n j - Ideal.div (∑ x, conv p n x) (Ideal.ofBits FTy.f32 1149239296#32)) *
                      Ideal.rsqrt
                        (Ideal.div
                            (∑ x, (conv p n x - Ideal.div (∑ x, conv p n x) (Ideal.ofBits FTy.f32 1149239296#32)) *
                                (conv p n x - Ideal.div (∑ x, conv p n x) (Ideal.ofBits FTy.f32 1149239296#32)))
                            (Ideal.ofBits FTy.f32 1149239296#32) +
                          Ideal.ofBits FTy.f32 897988541#32) *
                    p.cg j +
                  p.cbeta j))) *
      (z * Ideal.div 1 (1 + Ideal.exp (0 - z))) = y p n q := by
  have h : ¬ q.val < 1024 := by omega
  have e : (⟨q.val - 1024, by omega⟩ : Fin 1024) = j := Fin.ext (by simp only; omega)
  rw [silu_of, silu_of, hz, y, dif_neg h, e]
  rfl

/-- Reordering takes row `r` from the row that holds time `r`. -/
theorem unperm_of {f : ℕ → EReal} {r : Fin 256} :
    (∑ k : Fin 256, (if r.val = natRow k.val then (1 : EReal) else 0) * f (T + natRow k.val)) = f (T + r.val) := by
  have e : ∀ k : Fin 256, (if r.val = natRow k.val then (1 : EReal) else 0)
      = if k.val = (⟨r.val % 32 * 8 + r.val / 32, by omega⟩ : Fin 256).val then (1 : EReal) else 0 := fun k =>
    if_congr (by have := k.isLt; have := r.isLt; unfold natRow; simp only; omega) rfl rfl
  simp only [e]
  refine (sum_pick (⟨r.val % 32 * 8 + r.val / 32, by omega⟩ : Fin 256) (fun k : Fin 256 => f (T + natRow k.val))).trans ?_
  congr 2
  have := r.isLt
  unfold natRow
  simp only
  omega

/-- The output, its projection's sum taken in two halves. -/
theorem out_of {t : ℕ} {c : Fin 1024} :
    (p.x t c + ∑ k : Fin 1024, y p t ⟨k.val, by omega⟩ * p.wout ⟨k.val, by omega⟩ c)
      + ∑ k : Fin 1024, y p t ⟨1024 + k.val, by omega⟩ * p.wout ⟨1024 + k.val, by omega⟩ c = out p t c := by
  rw [add_assoc, out]
  congr 1
  exact (Fin.sum_univ_add (a := 1024) (b := 1024) (fun j : Fin 2048 => y p t j * p.wout j c)).symm

end Cert.PoolConv

end
-- ==== Proof.FirstOut.lean ====
/- The first tile of a sequence: gating, reordering and the output projection. -/
module

public import proofs.«01_k».proof.Proof.Gen.KernelIdeal.Frame.RunA
public import proofs.«01_k».proof.Proof.FirstConv
public import proofs.«01_k».proof.Proof.FirstPool
public import proofs.«01_k».proof.Proof.Gate

@[expose] public section

set_option maxRecDepth 16384

noncomputable section

namespace Cert.PoolConv.First

open Idealize.ShloMosaic Cert.KernelIdeal Cert.KernelIdeal.Gen

variable {p : Par} {T : ℕ} {c : Dev nD} {i : grid0.Coords}
  {arg2 : Memref sig .tc .vmem S1x256x1024 .f32} {harg2 : arg2.IsWhole}
  {arg3 : Memref sig .tc .vmem S2x256x256 .bf16} {harg3 : arg3.IsWhole}
  {arg4 : Memref sig .tc .vmem S1x1024 .f32} {harg4 : arg4.IsWhole}
  {arg5 : Memref sig .tc .vmem S1024x5120 .bf16} {harg5 : arg5.IsWhole}
  {arg6 : Memref sig .tc .vmem S4x256x256 .bf16} {harg6 : arg6.IsWhole}
  {arg7 : Memref sig .tc .vmem S1x1024 .f32} {harg7 : arg7.IsWhole}
  {arg8 : Memref sig .tc .vmem S31x1024 .f32} {harg8 : arg8.IsWhole}
  {arg9 : Memref sig .tc .vmem S1x1024 .f32} {harg9 : arg9.IsWhole}
  {arg10 : Memref sig .tc .vmem S1x1024 .f32} {harg10 : arg10.IsWhole}
  {arg11 : Memref sig .tc .vmem S1x1024 .f32} {harg11 : arg11.IsWhole}
  {arg12 : Memref sig .tc .vmem S2048x1024 .bf16} {harg12 : arg12.IsWhole}
  {arg13 : Memref sig .tc .vmem S1x256x1024 .f32}
  {arg14 arg15 : Memref sig .tc .vmem S512x1024 .f32}
  {arg16 arg17 : Memref sig .tc .vmem S256x1024 .bf16} {arg18 : Memref sig .tc .vmem S256x4096 .f32}
  {arg19 : Memref sig .tc .vmem S256x1024 .bf16} {arg20 arg21 : Memref sig .tc .vmem S256x1024 .f32}
  {arg22 arg23 : Memref sig .tc .vmem S256x2048 .bf16}
  {x0 : Vec Ideal S1x256x1024 .f32} {x1 : Vec Ideal S2x256x256 .bf16}
  {x2 : Vec Ideal S1x1024 .f32} {x3 : Vec Ideal S1024x5120 .bf16} {x4 : Vec Ideal S4x256x256 .bf16}
  {x5 : Vec Ideal S1x1024 .f32} {x6 : Vec Ideal S31x1024 .f32} {x7 x8 x9 : Vec Ideal S1x1024 .f32}
  {x10 : Vec Ideal S2048x1024 .bf16}

set_option maxHeartbeats 4000000 in
/-- The pool's gated columns. -/
theorem y_8 (hC : T = 256 * (i 1).val) (hT : T = 0) (hI : Ins p T x0 x1 x2 x3 x4 x5 x6 x7 x8 x9 x10) :
    Parts32 (fun r j => y p (T + natRow r) j) 8
      (kernelRun0_A.sl.HS8_8 (F := Ideal) c i arg2 harg2 arg3 harg3 arg4 harg4 arg5 harg5 arg6 harg6 arg7 harg7 arg14 arg16 arg17 arg18 arg19 arg20 x0 x1 x2 x3 x4 x5) := by
  unfold kernelRun0_A.sl.HS8_8
  refine Parts32.cons _ (Parts32.cons _ (Parts32.cons _ (Parts32.cons _ (Parts32.cons _ (Parts32.cons _ (Parts32.cons _ (Parts32.cons _ (Parts32.nil) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)
  all_goals
    try simp only [
      kernelRun0_A.sl.r_162, kernelRun0_A.sl.r_163, kernelRun0_A.sl.r_160, kernelRun0_A.sl.r_161, kernelRun0_A.sl.r_158,
      kernelRun0_A.sl.r_159, kernelRun0_A.sl.r_157]
    unfold_payloads
    pointwise [Memref.IsWhole.readAt_unread, hI.ps]
    refine pool_gate ?_ ?_ rfl
    · refine Reads.time (mix_reads hC hT hI) _ _ _ _ ?_ ?_
      all_goals first | rfl | (unfold natRow; omega) | exact (Nat.zero_add _).symm
    · refine Prj.time (proj_16 hI) _ _ _ _ ?_ ?_
      all_goals first | rfl | (unfold natRow; omega) | (simp only; omega)

set_option maxHeartbeats 1000000 in
/-- The convolution's gated columns. -/
theorem y_16 (hC : T = 256 * (i 1).val) (hT : T = 0) (hI : Ins p T x0 x1 x2 x3 x4 x5 x6 x7 x8 x9 x10) :
    Parts32 (fun r j => y p (T + natRow r) j) 16
      (kernelRun0_A.sl.HS8_16 (F := Ideal) c i arg2 harg2 arg3 harg3 arg4 harg4 arg5 harg5 arg6 harg6 arg7 harg7 arg8 harg8 arg9 harg9 arg10 harg10 arg11 harg11 arg14 arg15 arg16 arg17 arg18 arg19 arg20 arg21 x0 x1 x2 x3 x4 x5 x6 x7 x8 x9) := by
  have hc : ∀ (a : ℕ) (h) (r : Fin 32) (k : Fin 1024), arg21.view.readCov (kernelRun0_A.sl.HS7_16 (F := Ideal) c arg2 harg2 arg3 harg3 arg4 harg4 arg5 harg5 arg8 harg8 arg9 harg9 arg15 arg16 arg17 arg18 x0 x1 x2 x3 x6 x7)
      (Rect.unit (s := S256x1024) ![a, 0] S32x1024.size h).toLoadRect (ix2 r k) = conv p (T + natRow (a + r.val)) k :=
    fun a h r k => Reads.time (Parts64.all (conv_reads hT hI)) _ h r k rfl (Nat.zero_add _).symm
  unfold kernelRun0_A.sl.HS8_16
  refine Parts32.cons _ (Parts32.cons _ (Parts32.cons _ (Parts32.cons _ (Parts32.cons _ (Parts32.cons _ (Parts32.cons _ (Parts32.cons _ (y_8 hC hT hI) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)
  all_goals
    try simp only [
      kernelRun0_A.sl.r_176, kernelRun0_A.sl.r_173, kernelRun0_A.sl.r_174, kernelRun0_A.sl.r_172, kernelRun0_A.sl.r_170,
      kernelRun0_A.sl.r_171, kernelRun0_A.sl.r_168, kernelRun0_A.sl.r_169, kernelRun0_A.sl.r_167, kernelRun0_A.sl.cst_2929,
      kernelRun0_A.sl.r_165, kernelRun0_A.sl.r_166, kernelRun0_A.sl.r_164, kernelRun0_A.sl.r_175]
    unfold_payloads
    pointwise [Memref.IsWhole.readAt_unread, hI.cg, hI.cbeta,
      kernelRun0_A.sl.v3918, kernelRun0_A.sl.v3965, kernelRun0_A.sl.v4012, kernelRun0_A.sl.v4059, kernelRun0_A.sl.v4106,
      kernelRun0_A.sl.v4153, kernelRun0_A.sl.v4200, kernelRun0_A.sl.v4247, hc]
    refine conv_gate ?_ rfl
    refine Prj.time (proj_16 hI) _ _ _ _ ?_ ?_
    all_goals first | rfl | (unfold natRow; omega) | (simp only; omega)

set_option maxHeartbeats 1000000 in
/-- The pool's gated columns in the order of time. -/
theorem ynat_1 (hC : T = 256 * (i 1).val) (hT : T = 0) (hI : Ins p T x0 x1 x2 x3 x4 x5 x6 x7 x8 x9 x10) :
    Reads (kernelRun0_A.sl.HS9_1 (F := Ideal) c i arg2 harg2 arg3 harg3 arg4 harg4 arg5 harg5 arg6 harg6 arg7 harg7 arg14 arg16 arg17 arg18 arg19 arg20 arg22 x0 x1 x2 x3 x4 x5)
      (fun w => (w 1).val < 1024) (fun w => y p (T + (w 0).val) (w 1)) := by
  unfold kernelRun0_A.sl.HS9_1
  have hv : ∀ (k : Fin 256) (j : Fin 1024),
      kernelRun0_A.sl.v3902 (F := Ideal) c i arg2 harg2 arg3 harg3 arg4 harg4 arg5 harg5 arg6 harg6 arg7 harg7 arg14 arg16 arg17 arg18 arg19 arg20 arg22 x0 x1 x2 x3 x4 x5 (ix2 k j)
      = y p (T + natRow k.val) ⟨j.val, by omega⟩ := fun k j => by
    refine (Parts32.ld (y_8 hC hT hI) _ _ _ _ (by omega) (by omega)).trans ?_
    congr 1
    · rw [Nat.zero_add]
    · exact Fin.ext (Nat.zero_add _)
  refine Reads.cons ?_ (Reads.done ?_)
  · intro x _
    idx_vars x
    unfold_payloads
    pointwise [Memref.IsWhole.readAt_unread, hI.unperm, hv]
    exact unperm_of (f := fun t => y p t ⟨x1.val, by omega⟩)
  · intro w hw
    idx_vars w
    simp only [Rect.mem_set_unit] at hw
    pointwise at hw
    omega

set_option maxHeartbeats 1000000 in
/-- The convolution's gated columns in the order of time. -/
theorem ynat_2 (hC : T = 256 * (i 1).val) (hT : T = 0) (hI : Ins p T x0 x1 x2 x3 x4 x5 x6 x7 x8 x9 x10) :
    Reads (kernelRun0_A.sl.HS9_2 (F := Ideal) c i arg2 harg2 arg3 harg3 arg4 harg4 arg5 harg5 arg6 harg6 arg7 harg7 arg8 harg8 arg9 harg9 arg10 harg10 arg11 harg11 arg14 arg15 arg16 arg17 arg18 arg19 arg20 arg21 arg22 x0 x1 x2 x3 x4 x5 x6 x7 x8 x9)
      (fun _ => True) (fun w => y p (T + (w 0).val) (w 1)) := by
  unfold kernelRun0_A.sl.HS9_2
  have hv : ∀ (k : Fin 256) (j : Fin 1024),
      kernelRun0_A.sl.v4296 (F := Ideal) c i arg2 harg2 arg3 harg3 arg4 harg4 arg5 harg5 arg6 harg6 arg7 harg7 arg8 harg8 arg9 harg9 arg10 harg10 arg11 harg11 arg14 arg15 arg16 arg17 arg18 arg19 arg20 arg21 arg22 x0 x1 x2 x3 x4 x5 x6 x7 x8 x9 (ix2 k j)
      = y p (T + natRow k.val) ⟨1024 + j.val, by omega⟩ := fun k j => by
    refine (Parts32.ld (y_16 hC hT hI) _ _ _ _ (by omega) (by omega)).trans ?_
    congr 1
    rw [Nat.zero_add]
  refine Reads.cons ?_ (fun w hw => (ynat_1 hC hT hI) w ?_)
  · intro x _
    idx_vars x
    unfold_payloads
    pointwise [Memref.IsWhole.readAt_unread, hI.unperm, hv]
    exact unperm_of (f := fun t => y p t ⟨1024 + x1.val, by omega⟩)
  · idx_vars w
    simp only [Rect.mem_set_unit] at hw
    pointwise at hw
    pointwise
    omega

set_option maxHeartbeats 1000000 in
/-- The first half of the output's sum. -/
theorem half (hC : T = 256 * (i 1).val) (hT : T = 0) (hI : Ins p T x0 x1 x2 x3 x4 x5 x6 x7 x8 x9 x10) (r : Fin 256) (j : Fin 1024) :
    kernelRun0_A.sl.v4302 (F := Ideal) c i arg2 harg2 arg3 harg3 arg4 harg4 arg5 harg5 arg6 harg6 arg7 harg7 arg12 harg12 arg13 arg14 arg16 arg17 arg18 arg19 arg20 arg22 arg23 x0 x1 x2 x3 x4 x5 x10 (ix3 0 r j)
      = p.x (T + r.val) j + ∑ k : Fin 1024, y p (T + r.val) ⟨k.val, by omega⟩ * p.wout ⟨k.val, by omega⟩ j := by
  have hv : ∀ (k : Fin 256) (j : Fin 1024),
      kernelRun0_A.sl.v3910 (F := Ideal) c i arg2 harg2 arg3 harg3 arg4 harg4 arg5 harg5 arg6 harg6 arg7 harg7 arg14 arg16 arg17 arg18 arg19 arg20 arg22 arg23 x0 x1 x2 x3 x4 x5 (ix2 k j)
      = y p (T + k.val) ⟨j.val, by omega⟩ := fun k j => by
    refine (Reads.ld (ynat_1 hC hT hI) _ _ _ (by pointwise)).trans ?_
    pointwise
  have hL : Reads (kernelRun0_A.sl.H11_1 (F := Ideal) c i arg2 harg2 arg3 harg3 arg4 harg4 arg5 harg5 arg6 harg6 arg7 harg7 arg12 harg12 arg14 arg16 arg17 arg18 arg19 arg20 arg22 arg23 x0 x1 x2 x3 x4 x5 x10)
      (fun _ => True) (fun w => p.x (T + (w 1).val) (w 2)
        + ∑ k : Fin 1024, y p (T + (w 1).val) ⟨k.val, by omega⟩ * p.wout ⟨k.val, by omega⟩ (w 2)) := by
    unfold kernelRun0_A.sl.H11_1
    refine Reads.cons ?_ (Reads.done ?_)
    · intro x _
      idx_vars x
      unfold_payloads
      pointwise [Memref.IsWhole.readAt_unread, hI.x, hI.wout, hv]
    · intro w hw
      idx_vars w
      simp only [Rect.mem_set_unit] at hw
      pointwise at hw
      exact hw trivial
  refine (Reads.ld hL _ _ _ trivial).trans ?_
  pointwise

set_option maxHeartbeats 1000000 in
/-- The tile's output, which the last store covers. -/
theorem out_last (hC : T = 256 * (i 1).val) (hT : T = 0) (hI : Ins p T x0 x1 x2 x3 x4 x5 x6 x7 x8 x9 x10) (r : Fin 256) (j : Fin 1024) :
    k0_pay3 (kernelRun0_A.sl.v4302 (F := Ideal) c i arg2 harg2 arg3 harg3 arg4 harg4 arg5 harg5 arg6 harg6 arg7 harg7 arg12 harg12 arg13 arg14 arg16 arg17 arg18 arg19 arg20 arg22 arg23 x0 x1 x2 x3 x4 x5 x10)
      (kernelRun0_A.sl.v4304 (F := Ideal) c i arg2 harg2 arg3 harg3 arg4 harg4 arg5 harg5 arg6 harg6 arg7 harg7 arg8 harg8 arg9 harg9 arg10 harg10 arg11 harg11 arg14 arg15 arg16 arg17 arg18 arg19 arg20 arg21 arg22 arg23 x0 x1 x2 x3 x4 x5 x6 x7 x8 x9)
      (arg12.view.readAt (Elt Ideal) (Rect.unit (s := S2048x1024) ![1024, 0] S1024x1024.size inb_S2048x1024_S1024x1024_1024_0).toLoadRect
        (harg12.unread x10)) (ix3 0 r j) = out p (T + r.val) j := by
  have hv : ∀ (k : Fin 256) (j : Fin 1024),
      kernelRun0_A.sl.v4304 (F := Ideal) c i arg2 harg2 arg3 harg3 arg4 harg4 arg5 harg5 arg6 harg6 arg7 harg7 arg8 harg8 arg9 harg9 arg10 harg10 arg11 harg11 arg14 arg15 arg16 arg17 arg18 arg19 arg20 arg21 arg22 arg23 x0 x1 x2 x3 x4 x5 x6 x7 x8 x9 (ix2 k j)
      = y p (T + k.val) ⟨1024 + j.val, by omega⟩ := fun k j => by
    refine (Reads.ld (ynat_2 hC hT hI) _ _ _ trivial).trans ?_
    pointwise
  unfold_payloads
  pointwise [Memref.IsWhole.readAt_unread, hI.wout, hv, half hC hT hI]
  exact out_of

end Cert.PoolConv.First

end
-- ==== Proof.Carry.lean ====
/- What one tile of a sequence leaves for the next. -/
module

public import proofs.«01_k».proof.Proof.Tile

@[expose] public section

noncomputable section

namespace Cert.PoolConv

open Idealize.ShloMosaic Cert.KernelIdeal Cert.KernelIdeal.Gen

variable {f : ℕ → Fin 1024 → EReal} {T : ℕ} {xs : Vec Ideal S512x1024 .f32}

/-- The buffer holds what the tile that ends at `T` left: its delayed values. -/
def Carry (f : ℕ → Fin 1024 → EReal) (T : ℕ) (xs : Vec Ideal S512x1024 .f32) : Prop :=
  ∀ (r : Fin 512) (k : Fin 1024), xs (ix2 r k) = back f (T - 256 + natRow r.val) k

/-- Every eighth row in front is the last phase of the tile before. -/
theorem carry_roll (hT : 256 ≤ T) (h : Carry f T xs) {r : ℕ} (hr : r % 8 = 0) (h8 : r < 256) {q : Fin 512} {k k' : Fin 1024}
    (hq : q.val = 256 + (r + 7)) (hk : k.val = k'.val) : xs (ix2 q k) = back f (T + natRow r) k' := by
  obtain rfl := Fin.ext hk
  rw [h q k]
  congr 1
  unfold natRow
  omega

end Cert.PoolConv

end
-- ==== Proof.FirstBlock.lean ====
/- The first tile of a sequence: the output block and the two carried buffers. -/
module

public import proofs.«01_k».proof.Proof.Gen.KernelIdeal.Frame
public import Idealize.ShloMosaic.Lib.Pipeline.ValueKit.Basic
public import proofs.«01_k».proof.Proof.FirstOut
public import proofs.«01_k».proof.Proof.Carry

@[expose] public section

set_option maxRecDepth 16384

noncomputable section

namespace Cert.PoolConv.First

open Idealize.ShloMosaic Cert.KernelIdeal Cert.KernelIdeal.Gen

variable {p : Par} {T : ℕ} {c : Dev nD} {i : grid0.Coords}
  {arg2 : Memref sig .tc .vmem S1x256x1024 .f32} {harg2 : arg2.IsWhole}
  {arg3 : Memref sig .tc .vmem S2x256x256 .bf16} {harg3 : arg3.IsWhole}
  {arg4 : Memref sig .tc .vmem S1x1024 .f32} {harg4 : arg4.IsWhole}
  {arg5 : Memref sig .tc .vmem S1024x5120 .bf16} {harg5 : arg5.IsWhole}
  {arg6 : Memref sig .tc .vmem S4x256x256 .bf16} {harg6 : arg6.IsWhole}
  {arg7 : Memref sig .tc .vmem S1x1024 .f32} {harg7 : arg7.IsWhole}
  {arg8 : Memref sig .tc .vmem S31x1024 .f32} {harg8 : arg8.IsWhole}
  {arg9 : Memref sig .tc .vmem S1x1024 .f32} {harg9 : arg9.IsWhole}
  {arg10 : Memref sig .tc .vmem S1x1024 .f32} {harg10 : arg10.IsWhole}
  {arg11 : Memref sig .tc .vmem S1x1024 .f32} {harg11 : arg11.IsWhole}
  {arg12 : Memref sig .tc .vmem S2048x1024 .bf16} {harg12 : arg12.IsWhole}
  {arg13 : Memref sig .tc .vmem S1x256x1024 .f32}
  {arg14 arg15 : Memref sig .tc .vmem S512x1024 .f32}
  {arg16 arg17 : Memref sig .tc .vmem S256x1024 .bf16} {arg18 : Memref sig .tc .vmem S256x4096 .f32}
  {arg19 : Memref sig .tc .vmem S256x1024 .bf16} {arg20 arg21 : Memref sig .tc .vmem S256x1024 .f32}
  {arg22 arg23 : Memref sig .tc .vmem S256x2048 .bf16}
  {x0 : Vec Ideal S1x256x1024 .f32} {x1 : Vec Ideal S2x256x256 .bf16}
  {x2 : Vec Ideal S1x1024 .f32} {x3 : Vec Ideal S1024x5120 .bf16} {x4 : Vec Ideal S4x256x256 .bf16}
  {x5 : Vec Ideal S1x1024 .f32} {x6 : Vec Ideal S31x1024 .f32} {x7 x8 x9 : Vec Ideal S1x1024 .f32}
  {x10 : Vec Ideal S2048x1024 .bf16}
  {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole} {harg23 : arg23.IsWhole}
  {hc0 : cond0_0 i}

/-- The output block is the layer at the tile's positions. -/
theorem block (hC : T = 256 * (i 1).val) (hT : T = 0) (hI : Ins p T x0 x1 x2 x3 x4 x5 x6 x7 x8 x9 x10) (r : Fin 256) (j : Fin 1024) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 (ix3 0 r j) = out p (T + r.val) j := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10)]
  unfold kernelRun0_A
  dsimp only
  rw [View.canon_cons_unit_lit (S := S1x256x1024) (off := ![0, 0, 0]) _ _ _ (by decide)]
  exact out_last hC hT hI r j

/-- The buffer of the pool's columns, carried to the next tile. -/
theorem carry_a (hT : T = 0) (hI : Ins p T x0 x1 x2 x3 x4 x5 x6 x7 x8 x9 x10) :
    Carry (A p) (T + 256) (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10) := by
  intro r k
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10)]
  refine ((a_13 hT hI).full _ trivial).trans ?_
  rw [Nat.add_sub_cancel]
  rfl

/-- The buffer of the convolution's columns, carried to the next tile. -/
theorem carry_u (hT : T = 0) (hI : Ins p T x0 x1 x2 x3 x4 x5 x6 x7 x8 x9 x10) :
    Carry (U p) (T + 256) (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10) := by
  intro r k
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10)]
  refine ((u_25 hT hI).full _ trivial).trans ?_
  rw [Nat.add_sub_cancel]
  rfl

end Cert.PoolConv.First

end
-- ==== Proof.LaterBuffers.lean ====
/- A later tile of a sequence: what the body's buffers hold, step by step. -/
module

public import proofs.«01_k».proof.Proof.Gen.KernelIdeal.Frame.RunB
public import proofs.«01_k».proof.Proof.Buffer
public import proofs.«01_k».proof.Proof.Carry

@[expose] public section

set_option maxRecDepth 16384

noncomputable section

namespace Cert.PoolConv.Later

open Idealize.ShloMosaic Cert.KernelIdeal Cert.KernelIdeal.Gen

variable {p : Par} {T : ℕ} {c : Dev nD}
  {arg2 : Memref sig .tc .vmem S1x256x1024 .f32} {harg2 : arg2.IsWhole}
  {arg3 : Memref sig .tc .vmem S2x256x256 .bf16} {harg3 : arg3.IsWhole}
  {arg4 : Memref sig .tc .vmem S1x1024 .f32} {harg4 : arg4.IsWhole}
  {arg5 : Memref sig .tc .vmem S1024x5120 .bf16} {harg5 : arg5.IsWhole}
  {arg14 : Memref sig .tc .vmem S512x1024 .f32} {harg14 : arg14.IsWhole}
  {arg15 : Memref sig .tc .vmem S512x1024 .f32} {harg15 : arg15.IsWhole}
  {arg16 arg17 : Memref sig .tc .vmem S256x1024 .bf16} {arg18 : Memref sig .tc .vmem S256x4096 .f32}
  {x0 : Vec Ideal S1x256x1024 .f32} {x1 : Vec Ideal S2x256x256 .bf16}
  {x2 : Vec Ideal S1x1024 .f32} {x3 : Vec Ideal S1024x5120 .bf16} {x4 : Vec Ideal S4x256x256 .bf16}
  {x5 : Vec Ideal S1x1024 .f32} {x6 : Vec Ideal S31x1024 .f32} {x7 x8 x9 : Vec Ideal S1x1024 .f32}
  {x10 : Vec Ideal S2048x1024 .bf16} {xs0 xs1 : Vec Ideal S512x1024 .f32}

/-- The rows after their normalisation, in the order of time. -/
theorem h_reads (hI : Ins p T x0 x1 x2 x3 x4 x5 x6 x7 x8 x9 x10) :
    Reads (kernelRun0_B.sl.HS2_8 (F := Ideal) c arg2 harg2 arg4 harg4 x0 x2) (fun _ => True)
      (fun y => H p (T + (y 0).val) (y 1)) := by
  unfold kernelRun0_B.sl.HS2_8
  refine Reads.cons ?_ (Reads.cons ?_ (Reads.cons ?_ (Reads.cons ?_ (Reads.cons ?_ (Reads.cons ?_ (Reads.cons ?_
    (Reads.cons ?_ (Reads.done ?_))))))))
  case refine_9 =>
    intro y hy
    idx_vars y
    simp only [Rect.mem_set_unit] at hy
    pointwise at hy
    omega
  all_goals
    intro x _
    idx_vars x
    sl_unfold_words
    unfold_payloads
    pointwise [Memref.IsWhole.readAt_unread, hI.x, hI.ng, H]
    rfl

/-- The same rows in the interleaved order. -/
theorem hp_reads (hI : Ins p T x0 x1 x2 x3 x4 x5 x6 x7 x8 x9 x10) :
    Reads (kernelRun0_B.sl.HS3_1 (F := Ideal) c arg2 harg2 arg3 harg3 arg4 harg4 arg16 x0 x1 x2) (fun _ => True)
      (fun y => H p (T + natRow (y 0).val) (y 1)) := by
  have hv : ∀ r k, kernelRun0_B.sl.v230 (F := Ideal) c arg2 harg2 arg4 harg4 arg16 x0 x2 (ix2 r k) = H p (T + r.val) k := by
    intro r k
    refine ((h_reads hI).ld _ _ _ trivial).trans ?_
    pointwise
  unfold kernelRun0_B.sl.HS3_1
  refine Reads.cons ?_ (Reads.done ?_)
  · intro x _
    idx_vars x
    unfold_payloads
    pointwise [Memref.IsWhole.readAt_unread, hv, hI.perm]
    exact sum_pick ⟨natRow x0.val, natRow_lt x0.isLt⟩ (fun k => H p (T + k.val) x1)
  · intro y hy
    idx_vars y
    simp only [Rect.mem_set_unit] at hy
    pointwise at hy
    first | omega | simp at hy

/-- A load of them. -/
theorem hp_ld (hI : Ins p T x0 x1 x2 x3 x4 x5 x6 x7 x8 x9 x10) (r : Fin 256) (k : Fin 1024) :
    kernelRun0_B.sl.v236 (F := Ideal) c arg2 harg2 arg3 harg3 arg4 harg4 arg16 arg17 x0 x1 x2 (ix2 r k)
      = H p (T + natRow r.val) k := by
  refine ((hp_reads hI).ld _ _ _ trivial).trans ?_
  pointwise

/-! The projection, as its columns come to be known. -/

/-- The projection after 2 of its 16 column blocks are stored. -/
theorem proj_2 (hI : Ins p T x0 x1 x2 x3 x4 x5 x6 x7 x8 x9 x10) : Prj p T (fun j => j < 256 ∨ 1024 ≤ j ∧ j < 1280)
    (kernelRun0_B.sl.HS4_2 (F := Ideal) c arg2 harg2 arg3 harg3 arg4 harg4 arg5 harg5 arg16 arg17 x0 x1 x2 x3) := by
  unfold kernelRun0_B.sl.HS4_2
  refine Prj.cons _ (Prj.cons _ (Prj.nil (by omega)) (by omega) (fun r k => ?_)) (by omega) (fun r k => ?_)
  all_goals
    unfold_payloads
    pointwise [Memref.IsWhole.readAt_unread, hp_ld hI, hI.win]
    exact proj_of rfl (by first | rfl | (simp only; omega))

/-- The projection after 5 of its 16 column blocks are stored. -/
theorem proj_5 (hI : Ins p T x0 x1 x2 x3 x4 x5 x6 x7 x8 x9 x10) : Prj p T (fun j => j < 768 ∨ 1024 ≤ j ∧ j < 1536)
    (kernelRun0_B.sl.HS4_5 (F := Ideal) c arg2 harg2 arg3 harg3 arg4 harg4 arg5 harg5 arg16 arg17 x0 x1 x2 x3) := by
  unfold kernelRun0_B.sl.HS4_5
  refine Prj.cons _ (Prj.cons _ (Prj.cons _ ((proj_2 hI).mono (by omega)) (by omega) (fun r k => ?_)) (by omega) (fun r k => ?_)) (by omega) (fun r k => ?_)
  all_goals
    unfold_payloads
    pointwise [Memref.IsWhole.readAt_unread, hp_ld hI, hI.win]
    exact proj_of rfl (by first | rfl | (simp only; omega))

/-- The projection after 8 of its 16 column blocks are stored. -/
theorem proj_8 (hI : Ins p T x0 x1 x2 x3 x4 x5 x6 x7 x8 x9 x10) : Prj p T (fun j => j < 2048)
    (kernelRun0_B.sl.HS4_8 (F := Ideal) c arg2 harg2 arg3 harg3 arg4 harg4 arg5 harg5 arg16 arg17 x0 x1 x2 x3) := by
  unfold kernelRun0_B.sl.HS4_8
  refine Prj.cons _ (Prj.cons _ (Prj.cons _ ((proj_5 hI).mono (by omega)) (by omega) (fun r k => ?_)) (by omega) (fun r k => ?_)) (by omega) (fun r k => ?_)
  all_goals
    try simp only [kernelRun0_B.sl.r_57]
    unfold_payloads
    pointwise [Memref.IsWhole.readAt_unread, hp_ld hI, hI.win]
    exact proj_of rfl (by first | rfl | (simp only; omega))

/-- The projection after 11 of its 16 column blocks are stored. -/
theorem proj_11 (hI : Ins p T x0 x1 x2 x3 x4 x5 x6 x7 x8 x9 x10) : Prj p T (fun j => j < 2816)
    (kernelRun0_B.sl.HS4_11 (F := Ideal) c arg2 harg2 arg3 harg3 arg4 harg4 arg5 harg5 arg16 arg17 x0 x1 x2 x3) := by
  unfold kernelRun0_B.sl.HS4_11
  refine Prj.cons _ (Prj.cons _ (Prj.cons _ ((proj_8 hI).mono (by omega)) (by omega) (fun r k => ?_)) (by omega) (fun r k => ?_)) (by omega) (fun r k => ?_)
  all_goals
    unfold_payloads
    pointwise [Memref.IsWhole.readAt_unread, hp_ld hI, hI.win]
    exact proj_of rfl (by first | rfl | (simp only; omega))

/-- The projection after 16 of its 16 column blocks are stored. -/
theorem proj_16 (hI : Ins p T x0 x1 x2 x3 x4 x5 x6 x7 x8 x9 x10) : Prj p T (fun j => True)
    (kernelRun0_B.sl.HS4_16 (F := Ideal) c arg2 harg2 arg3 harg3 arg4 harg4 arg5 harg5 arg16 arg17 x0 x1 x2 x3) := by
  unfold kernelRun0_B.sl.HS4_16
  refine Prj.cons _ (Prj.cons _ (Prj.cons _ (Prj.cons _ (Prj.cons _ ((proj_11 hI).mono (by omega)) (by omega) (fun r k => ?_)) (by omega) (fun r k => ?_)) (by omega) (fun r k => ?_)) (by omega) (fun r k => ?_)) (by omega) (fun r k => ?_)
  all_goals
    try simp only [kernelRun0_B.sl.r_133, kernelRun0_B.sl.cst_2288, kernelRun0_B.sl.r_125]
    unfold_payloads
    pointwise [Memref.IsWhole.readAt_unread, hp_ld hI, hI.win]
    exact proj_of rfl (by first | rfl | (simp only; omega))

/-! The pool's buffer of delayed values. The tile before is carried in. -/

/-- The pool's buffer after 2 stores. -/
theorem a_2 (hT : 256 ≤ T) (hA : Carry (A p) T xs0) (hI : Ins p T x0 x1 x2 x3 x4 x5 x6 x7 x8 x9 x10) : BufR False (A p) T 0
    (kernelRun0_B.sl.HS0_2 (F := Ideal) c arg2 harg2 arg3 harg3 arg4 harg4 arg5 harg5 arg14 harg14 arg16 arg17 x0 x1 x2 x3 xs0) := by
  unfold kernelRun0_B.sl.HS0_2
  refine Buf.roll1 Buf.nil (by omega) _ _ _ _ (fun r k => ?_) (fun r k hr => ?_)
  case refine_1 =>
    unfold_payloads
    pointwise [Memref.IsWhole.readAt_unread, hp_ld hI, hI.win]
    exact cur_A (by first | rfl | (simp only; omega))
  case refine_2 =>
    simp only [kernelRun0_B.sl.r_65]
    unfold_payloads
    pointwise [Memref.IsWhole.readAt_unread]
    exact carry_roll hT hA hr r.isLt (by simp only; omega) rfl

/-- The pool's buffer after 5 stores. -/
theorem a_5 (hT : 256 ≤ T) (hA : Carry (A p) T xs0) (hI : Ins p T x0 x1 x2 x3 x4 x5 x6 x7 x8 x9 x10) : BufR False (A p) T 256
    (kernelRun0_B.sl.HS0_5 (F := Ideal) c arg2 harg2 arg3 harg3 arg4 harg4 arg5 harg5 arg14 harg14 arg16 arg17 x0 x1 x2 x3 xs0) := by
  unfold kernelRun0_B.sl.HS0_5
  refine Buf.roll1 (BufR.sel (a_2 hT hA hI) (by omega) _ inb_S512x1024_S256x256_0_0 inb_S512x1024_S256x256_256_0 _ arg14.view (fun r k => ?_))
    (by omega) _ _ _ _ (fun r k => ?_) (fun r k hr => ?_)
  case refine_1 =>
    simp only [kernelRun0_B.sl.v16, kernelRun0_B.sl.v12, kernelRun0_B.sl.v6, kernelRun0_B.sl.v15, kernelRun0_B.sl.v5,
      kernelRun0_B.sl.v0, kernelRun0_B.sl.v3, kernelRun0_B.sl.v8, kernelRun0_B.sl.v10]
    unfold_payloads
    pointwise [phase_zero, select_ite]
    rfl
  case refine_2 =>
    unfold_payloads
    pointwise [Memref.IsWhole.readAt_unread, hp_ld hI, hI.win]
    exact cur_A (by first | rfl | (simp only; omega))
  case refine_3 =>
    simp only [kernelRun0_B.sl.v1741]
    unfold_payloads
    pointwise [Memref.IsWhole.readAt_unread]
    exact carry_roll hT hA hr r.isLt (by simp only; omega) rfl

/-- The pool's buffer after 8 stores. -/
theorem a_8 (hT : 256 ≤ T) (hA : Carry (A p) T xs0) (hI : Ins p T x0 x1 x2 x3 x4 x5 x6 x7 x8 x9 x10) : BufR False (A p) T 512
    (kernelRun0_B.sl.HS0_8 (F := Ideal) c arg2 harg2 arg3 harg3 arg4 harg4 arg5 harg5 arg14 harg14 arg16 arg17 x0 x1 x2 x3 xs0) := by
  unfold kernelRun0_B.sl.HS0_8
  refine Buf.roll1 (BufR.sel (a_5 hT hA hI) (by omega) _ inb_S512x1024_S256x256_0_256 inb_S512x1024_S256x256_256_256 _ arg14.view (fun r k => ?_))
    (by omega) _ _ _ _ (fun r k => ?_) (fun r k hr => ?_)
  case refine_1 =>
    simp only [kernelRun0_B.sl.v16, kernelRun0_B.sl.v12, kernelRun0_B.sl.v6, kernelRun0_B.sl.v15, kernelRun0_B.sl.v5,
      kernelRun0_B.sl.v0, kernelRun0_B.sl.v3, kernelRun0_B.sl.v8, kernelRun0_B.sl.v10]
    unfold_payloads
    pointwise [phase_zero, select_ite]
    rfl
  case refine_2 =>
    unfold_payloads
    pointwise [Memref.IsWhole.readAt_unread, hp_ld hI, hI.win]
    exact cur_A (by first | rfl | (simp only; omega))
  case refine_3 =>
    simp only [kernelRun0_B.sl.v1828]
    unfold_payloads
    pointwise [Memref.IsWhole.readAt_unread]
    exact carry_roll hT hA hr r.isLt (by simp only; omega) rfl

/-- The pool's buffer after 11 stores. -/
theorem a_11 (hT : 256 ≤ T) (hA : Carry (A p) T xs0) (hI : Ins p T x0 x1 x2 x3 x4 x5 x6 x7 x8 x9 x10) : BufR False (A p) T 768
    (kernelRun0_B.sl.HS0_11 (F := Ideal) c arg2 harg2 arg3 harg3 arg4 harg4 arg5 harg5 arg14 harg14 arg16 arg17 x0 x1 x2 x3 xs0) := by
  unfold kernelRun0_B.sl.HS0_11
  refine Buf.roll1 (BufR.sel (a_8 hT hA hI) (by omega) _ inb_S512x1024_S256x256_0_512 inb_S512x1024_S256x256_256_512 _ arg14.view (fun r k => ?_))
    (by omega) _ _ _ _ (fun r k => ?_) (fun r k hr => ?_)
  case refine_1 =>
    simp only [kernelRun0_B.sl.v16, kernelRun0_B.sl.v12, kernelRun0_B.sl.v6, kernelRun0_B.sl.v15, kernelRun0_B.sl.v5,
      kernelRun0_B.sl.v0, kernelRun0_B.sl.v3, kernelRun0_B.sl.v8, kernelRun0_B.sl.v10]
    unfold_payloads
    pointwise [phase_zero, select_ite]
    rfl
  case refine_2 =>
    unfold_payloads
    pointwise [Memref.IsWhole.readAt_unread, hp_ld hI, hI.win]
    exact cur_A (by first | rfl | (simp only; omega))
  case refine_3 =>
    simp only [kernelRun0_B.sl.v2011]
    unfold_payloads
    pointwise [Memref.IsWhole.readAt_unread]
    exact carry_roll hT hA hr r.isLt (by simp only; omega) rfl

/-- The pool's buffer after 12 stores. -/
theorem a_12 (hT : 256 ≤ T) (hA : Carry (A p) T xs0) (hI : Ins p T x0 x1 x2 x3 x4 x5 x6 x7 x8 x9 x10) : Buf False (A p) T 1024
    (kernelRun0_B.sl.HS0_12 (F := Ideal) c arg2 harg2 arg3 harg3 arg4 harg4 arg5 harg5 arg14 harg14 arg16 arg17 x0 x1 x2 x3 xs0) := by
  unfold kernelRun0_B.sl.HS0_12
  refine BufR.sel (a_11 hT hA hI) (by omega) _ inb_S512x1024_S256x256_0_768 inb_S512x1024_S256x256_256_768 _ arg14.view (fun r k => ?_)
  simp only [kernelRun0_B.sl.v16, kernelRun0_B.sl.v12, kernelRun0_B.sl.v6, kernelRun0_B.sl.v15, kernelRun0_B.sl.v5,
    kernelRun0_B.sl.v0, kernelRun0_B.sl.v3, kernelRun0_B.sl.v8, kernelRun0_B.sl.v10]
  unfold_payloads
  pointwise [phase_zero, select_ite]
  rfl

/-! The convolution's buffer of delayed values. -/

/-- The convolution's buffer after 5 stores. -/
theorem u_5 (hT : 256 ≤ T) (hU : Carry (U p) T xs1) (hI : Ins p T x0 x1 x2 x3 x4 x5 x6 x7 x8 x9 x10) : BufR False (U p) T 0
    (kernelRun0_B.sl.HS1_5 (F := Ideal) c arg2 harg2 arg3 harg3 arg4 harg4 arg5 harg5 arg15 harg15 arg16 arg17 arg18 x0 x1 x2 x3 xs1) := by
  unfold kernelRun0_B.sl.HS1_5
  refine Buf.roll4 Buf.nil (by omega) _ _ _ _ _ _ _ _ _ _ (fun r k => ?_) (fun r k => ?_) (fun r k => ?_)
    (fun r k => ?_) (fun r k hr => ?_)
  case refine_5 =>
    unfold_payloads
    pointwise [Memref.IsWhole.readAt_unread]
    exact carry_roll hT hU hr r.isLt (by simp only; omega) rfl
  all_goals
    try simp only [kernelRun0_B.sl.r_10, kernelRun0_B.sl.r_11]
    unfold_payloads
    pointwise
    exact glu_of ((proj_2 hI).ld _ _ _ _ (by omega) (by omega)) ((proj_2 hI).ld _ _ _ _ (by omega) (by omega))
      (by unfold natRow; omega) (by first | rfl | (simp only; omega)) (by first | rfl | (simp only; omega))

/-- The convolution's buffer after 6 stores. -/
theorem u_6 (hT : 256 ≤ T) (hU : Carry (U p) T xs1) (hI : Ins p T x0 x1 x2 x3 x4 x5 x6 x7 x8 x9 x10) : Buf False (U p) T 256
    (kernelRun0_B.sl.HS1_6 (F := Ideal) c arg2 harg2 arg3 harg3 arg4 harg4 arg5 harg5 arg15 harg15 arg16 arg17 arg18 x0 x1 x2 x3 xs1) := by
  unfold kernelRun0_B.sl.HS1_6
  refine BufR.sel (u_5 hT hU hI) (by omega) _ inb_S512x1024_S256x256_0_0 inb_S512x1024_S256x256_256_0 _ arg15.view (fun r k => ?_)
  simp only [kernelRun0_B.sl.v16, kernelRun0_B.sl.v12, kernelRun0_B.sl.v6, kernelRun0_B.sl.v15, kernelRun0_B.sl.v5,
    kernelRun0_B.sl.v0, kernelRun0_B.sl.v3, kernelRun0_B.sl.v8, kernelRun0_B.sl.v10]
  unfold_payloads
  pointwise [phase_zero, select_ite]
  rfl

/-- The convolution's buffer after 11 stores. -/
theorem u_11 (hT : 256 ≤ T) (hU : Carry (U p) T xs1) (hI : Ins p T x0 x1 x2 x3 x4 x5 x6 x7 x8 x9 x10) : BufR False (U p) T 256
    (kernelRun0_B.sl.HS1_11 (F := Ideal) c arg2 harg2 arg3 harg3 arg4 harg4 arg5 harg5 arg15 harg15 arg16 arg17 arg18 x0 x1 x2 x3 xs1) := by
  unfold kernelRun0_B.sl.HS1_11
  refine Buf.roll4 (u_6 hT hU hI) (by omega) _ _ _ _ _ _ _ _ _ _ (fun r k => ?_) (fun r k => ?_) (fun r k => ?_)
    (fun r k => ?_) (fun r k hr => ?_)
  case refine_5 =>
    simp only [kernelRun0_B.sl.v985]
    unfold_payloads
    pointwise [Memref.IsWhole.readAt_unread]
    exact carry_roll hT hU hr r.isLt (by simp only; omega) rfl
  all_goals
    try simp only [kernelRun0_B.sl.r_42]
    unfold_payloads
    pointwise
    exact glu_of ((proj_5 hI).ld _ _ _ _ (by omega) (by omega)) ((proj_5 hI).ld _ _ _ _ (by omega) (by omega))
      (by unfold natRow; omega) (by first | rfl | (simp only; omega)) (by first | rfl | (simp only; omega))

/-- The convolution's buffer after 12 stores. -/
theorem u_12 (hT : 256 ≤ T) (hU : Carry (U p) T xs1) (hI : Ins p T x0 x1 x2 x3 x4 x5 x6 x7 x8 x9 x10) : Buf False (U p) T 512
    (kernelRun0_B.sl.HS1_12 (F := Ideal) c arg2 harg2 arg3 harg3 arg4 harg4 arg5 harg5 arg15 harg15 arg16 arg17 arg18 x0 x1 x2 x3 xs1) := by
  unfold kernelRun0_B.sl.HS1_12
  refine BufR.sel (u_11 hT hU hI) (by omega) _ inb_S512x1024_S256x256_0_256 inb_S512x1024_S256x256_256_256 _ arg15.view (fun r k => ?_)
  simp only [kernelRun0_B.sl.v16, kernelRun0_B.sl.v12, kernelRun0_B.sl.v6, kernelRun0_B.sl.v15, kernelRun0_B.sl.v5,
    kernelRun0_B.sl.v0, kernelRun0_B.sl.v3, kernelRun0_B.sl.v8, kernelRun0_B.sl.v10]
  unfold_payloads
  pointwise [phase_zero, select_ite]
  rfl

/-- The convolution's buffer after 17 stores. -/
theorem u_17 (hT : 256 ≤ T) (hU : Carry (U p) T xs1) (hI : Ins p T x0 x1 x2 x3 x4 x5 x6 x7 x8 x9 x10) : BufR False (U p) T 512
    (kernelRun0_B.sl.HS1_17 (F := Ideal) c arg2 harg2 arg3 harg3 arg4 harg4 arg5 harg5 arg15 harg15 arg16 arg17 arg18 x0 x1 x2 x3 xs1) := by
  unfold kernelRun0_B.sl.HS1_17
  refine Buf.roll4 (u_12 hT hU hI) (by omega) _ _ _ _ _ _ _ _ _ _ (fun r k => ?_) (fun r k => ?_) (fun r k => ?_)
    (fun r k => ?_) (fun r k hr => ?_)
  case refine_5 =>
    simp only [kernelRun0_B.sl.v1762]
    unfold_payloads
    pointwise [Memref.IsWhole.readAt_unread]
    exact carry_roll hT hU hr r.isLt (by simp only; omega) rfl
  all_goals
    try simp only [kernelRun0_B.sl.r_74]
    unfold_payloads
    pointwise
    exact glu_of ((proj_8 hI).ld _ _ _ _ (by omega) (by omega)) ((proj_8 hI).ld _ _ _ _ (by omega) (by omega))
      (by unfold natRow; omega) (by first | rfl | (simp only; omega)) (by first | rfl | (simp only; omega))

/-- The convolution's buffer after 18 stores. -/
theorem u_18 (hT : 256 ≤ T) (hU : Carry (U p) T xs1) (hI : Ins p T x0 x1 x2 x3 x4 x5 x6 x7 x8 x9 x10) : Buf False (U p) T 768
    (kernelRun0_B.sl.HS1_18 (F := Ideal) c arg2 harg2 arg3 harg3 arg4 harg4 arg5 harg5 arg15 harg15 arg16 arg17 arg18 x0 x1 x2 x3 xs1) := by
  unfold kernelRun0_B.sl.HS1_18
  refine BufR.sel (u_17 hT hU hI) (by omega) _ inb_S512x1024_S256x256_0_512 inb_S512x1024_S256x256_256_512 _ arg15.view (fun r k => ?_)
  simp only [kernelRun0_B.sl.v16, kernelRun0_B.sl.v12, kernelRun0_B.sl.v6, kernelRun0_B.sl.v15, kernelRun0_B.sl.v5,
    kernelRun0_B.sl.v0, kernelRun0_B.sl.v3, kernelRun0_B.sl.v8, kernelRun0_B.sl.v10]
  unfold_payloads
  pointwise [phase_zero, select_ite]
  rfl

/-- The convolution's buffer after 23 stores. -/
theorem u_23 (hT : 256 ≤ T) (hU : Carry (U p) T xs1) (hI : Ins p T x0 x1 x2 x3 x4 x5 x6 x7 x8 x9 x10) : BufR False (U p) T 768
    (kernelRun0_B.sl.HS1_23 (F := Ideal) c arg2 harg2 arg3 harg3 arg4 harg4 arg5 harg5 arg15 harg15 arg16 arg17 arg18 x0 x1 x2 x3 xs1) := by
  unfold kernelRun0_B.sl.HS1_23
  refine Buf.roll4 (u_18 hT hU hI) (by omega) _ _ _ _ _ _ _ _ _ _ (fun r k => ?_) (fun r k => ?_) (fun r k => ?_)
    (fun r k => ?_) (fun r k hr => ?_)
  case refine_5 =>
    simp only [kernelRun0_B.sl.v2539]
    unfold_payloads
    pointwise [Memref.IsWhole.readAt_unread]
    exact carry_roll hT hU hr r.isLt (by simp only; omega) rfl
  all_goals
    try simp only [kernelRun0_B.sl.r_108, kernelRun0_B.sl.cst_1870]
    unfold_payloads
    pointwise
    exact glu_of ((proj_11 hI).ld _ _ _ _ (by omega) (by omega)) ((proj_11 hI).ld _ _ _ _ (by omega) (by omega))
      (by unfold natRow; omega) (by first | rfl | (simp only; omega)) (by first | rfl | (simp only; omega))

/-- The convolution's buffer after 24 stores. -/
theorem u_24 (hT : 256 ≤ T) (hU : Carry (U p) T xs1) (hI : Ins p T x0 x1 x2 x3 x4 x5 x6 x7 x8 x9 x10) : Buf False (U p) T 1024
    (kernelRun0_B.sl.HS1_24 (F := Ideal) c arg2 harg2 arg3 harg3 arg4 harg4 arg5 harg5 arg15 harg15 arg16 arg17 arg18 x0 x1 x2 x3 xs1) := by
  unfold kernelRun0_B.sl.HS1_24
  refine BufR.sel (u_23 hT hU hI) (by omega) _ inb_S512x1024_S256x256_0_768 inb_S512x1024_S256x256_256_768 _ arg15.view (fun r k => ?_)
  simp only [kernelRun0_B.sl.v16, kernelRun0_B.sl.v12, kernelRun0_B.sl.v6, kernelRun0_B.sl.v15, kernelRun0_B.sl.v5,
    kernelRun0_B.sl.v0, kernelRun0_B.sl.v3, kernelRun0_B.sl.v8, kernelRun0_B.sl.v10]
  unfold_payloads
  pointwise [phase_zero, select_ite]
  rfl

end Cert.PoolConv.Later

end
-- ==== Proof.LaterConv.lean ====
/- A later tile of a sequence: the convolution. -/
module

public import proofs.«01_k».proof.Proof.Gen.KernelIdeal.Frame.RunB
public import proofs.«01_k».proof.Proof.LaterBuffers
public import proofs.«01_k».proof.Proof.Grid

@[expose] public section

set_option maxRecDepth 16384

noncomputable section

namespace Cert.PoolConv.Later

open Idealize.ShloMosaic Cert.KernelIdeal Cert.KernelIdeal.Gen

variable {p : Par} {T : ℕ} {c : Dev nD}
  {arg2 : Memref sig .tc .vmem S1x256x1024 .f32} {harg2 : arg2.IsWhole}
  {arg3 : Memref sig .tc .vmem S2x256x256 .bf16} {harg3 : arg3.IsWhole}
  {arg4 : Memref sig .tc .vmem S1x1024 .f32} {harg4 : arg4.IsWhole}
  {arg5 : Memref sig .tc .vmem S1024x5120 .bf16} {harg5 : arg5.IsWhole}
  {arg8 : Memref sig .tc .vmem S31x1024 .f32} {harg8 : arg8.IsWhole}
  {arg9 : Memref sig .tc .vmem S1x1024 .f32} {harg9 : arg9.IsWhole}
  {arg14 : Memref sig .tc .vmem S512x1024 .f32} {harg14 : arg14.IsWhole}
  {arg15 : Memref sig .tc .vmem S512x1024 .f32} {harg15 : arg15.IsWhole}
  {arg16 arg17 : Memref sig .tc .vmem S256x1024 .bf16} {arg18 : Memref sig .tc .vmem S256x4096 .f32}
  {x0 : Vec Ideal S1x256x1024 .f32} {x1 : Vec Ideal S2x256x256 .bf16}
  {x2 : Vec Ideal S1x1024 .f32} {x3 : Vec Ideal S1024x5120 .bf16} {x4 : Vec Ideal S4x256x256 .bf16}
  {x5 : Vec Ideal S1x1024 .f32} {x6 : Vec Ideal S31x1024 .f32} {x7 x8 x9 : Vec Ideal S1x1024 .f32}
  {x10 : Vec Ideal S2048x1024 .bf16} {xs0 xs1 : Vec Ideal S512x1024 .f32}

set_option maxHeartbeats 4000000 in
/-- Each of the sixteen parts of the convolution's buffer is the sum of its 31 taps. -/
theorem conv_reads (hT : 256 ≤ T) (hU : Carry (U p) T xs1) (hI : Ins p T x0 x1 x2 x3 x4 x5 x6 x7 x8 x9 x10) :
    Parts64 (fun r j => conv p (T + natRow r) j) 16
      (kernelRun0_B.sl.HS7_16 (F := Ideal) c arg2 harg2 arg3 harg3 arg4 harg4 arg5 harg5 arg8 harg8 arg9 harg9 arg15 harg15 arg16 arg17 arg18 x0 x1 x2 x3 x6 x7 xs1) := by
  unfold kernelRun0_B.sl.HS7_16
  refine Parts64.cons _ (Parts64.cons _ (Parts64.cons _ (Parts64.cons _ (Parts64.cons _ (Parts64.cons _ (Parts64.cons _ (Parts64.cons _ (Parts64.cons _ (Parts64.cons _ (Parts64.cons _ (Parts64.cons _ (Parts64.cons _ (Parts64.cons _ (Parts64.cons _ (Parts64.cons _ (Parts64.nil) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)
  case refine_1 | refine_2 | refine_3 | refine_4 =>
    simp only [
      kernelRun0_B.sl.r_19, kernelRun0_B.sl.r_20, kernelRun0_B.sl.r_17, kernelRun0_B.sl.r_18, kernelRun0_B.sl.r_16,
      kernelRun0_B.sl.r_14, kernelRun0_B.sl.r_15, kernelRun0_B.sl.r_12, kernelRun0_B.sl.r_13, kernelRun0_B.sl.r_28,
      kernelRun0_B.sl.r_29, kernelRun0_B.sl.r_26, kernelRun0_B.sl.r_27, kernelRun0_B.sl.r_25, kernelRun0_B.sl.r_23,
      kernelRun0_B.sl.r_24, kernelRun0_B.sl.r_21, kernelRun0_B.sl.r_22, kernelRun0_B.sl.r_35, kernelRun0_B.sl.r_34,
      kernelRun0_B.sl.r_32, kernelRun0_B.sl.r_33, kernelRun0_B.sl.r_31, kernelRun0_B.sl.r_30, kernelRun0_B.sl.r_41,
      kernelRun0_B.sl.r_40, kernelRun0_B.sl.r_38, kernelRun0_B.sl.r_39, kernelRun0_B.sl.r_37, kernelRun0_B.sl.r_36]
    unfold_payloads
    pointwise [Memref.IsWhole.readAt_unread, hI.cw, hI.cb]
    refine (?_ : _ = convTo p _ _ 31)
    iterate 31 refine conv_step ?_ rfl ?_
    refine conv_base rfl
    all_goals refine Buf.ld (u_6 hT hU hI) _ _ _ _ ?_ ?_ (by omega)
    all_goals first | (unfold natRow; omega) | rfl | exact (Nat.zero_add _).symm
  case refine_5 | refine_6 | refine_7 | refine_8 =>
    simp only [
      kernelRun0_B.sl.r_49, kernelRun0_B.sl.r_50, kernelRun0_B.sl.r_48, kernelRun0_B.sl.r_46, kernelRun0_B.sl.r_47,
      kernelRun0_B.sl.r_44, kernelRun0_B.sl.r_45, kernelRun0_B.sl.r_43, kernelRun0_B.sl.r_56, kernelRun0_B.sl.r_54,
      kernelRun0_B.sl.r_55, kernelRun0_B.sl.r_52, kernelRun0_B.sl.r_53, kernelRun0_B.sl.r_51, kernelRun0_B.sl.r_63,
      kernelRun0_B.sl.r_64, kernelRun0_B.sl.r_61, kernelRun0_B.sl.r_62, kernelRun0_B.sl.r_60, kernelRun0_B.sl.r_58,
      kernelRun0_B.sl.r_59, kernelRun0_B.sl.r_73, kernelRun0_B.sl.r_71, kernelRun0_B.sl.r_72, kernelRun0_B.sl.r_69,
      kernelRun0_B.sl.r_70, kernelRun0_B.sl.r_68, kernelRun0_B.sl.r_66, kernelRun0_B.sl.r_67]
    unfold_payloads
    pointwise [Memref.IsWhole.readAt_unread, hI.cw, hI.cb]
    refine (?_ : _ = convTo p _ _ 31)
    iterate 31 refine conv_step ?_ rfl ?_
    refine conv_base rfl
    all_goals refine Buf.ld (u_12 hT hU hI) _ _ _ _ ?_ ?_ (by omega)
    all_goals first | (unfold natRow; omega) | rfl | exact (Nat.zero_add _).symm
  case refine_9 | refine_10 | refine_11 | refine_12 =>
    simp only [
      kernelRun0_B.sl.r_81, kernelRun0_B.sl.r_82, kernelRun0_B.sl.r_79, kernelRun0_B.sl.r_80, kernelRun0_B.sl.r_78,
      kernelRun0_B.sl.r_76, kernelRun0_B.sl.r_77, kernelRun0_B.sl.r_75, kernelRun0_B.sl.r_90, kernelRun0_B.sl.r_88,
      kernelRun0_B.sl.r_89, kernelRun0_B.sl.r_86, kernelRun0_B.sl.r_87, kernelRun0_B.sl.r_85, kernelRun0_B.sl.r_83,
      kernelRun0_B.sl.r_84, kernelRun0_B.sl.r_98, kernelRun0_B.sl.r_99, kernelRun0_B.sl.r_96, kernelRun0_B.sl.r_97,
      kernelRun0_B.sl.r_95, kernelRun0_B.sl.r_93, kernelRun0_B.sl.r_94, kernelRun0_B.sl.r_91, kernelRun0_B.sl.r_92,
      kernelRun0_B.sl.r_106, kernelRun0_B.sl.r_107, kernelRun0_B.sl.r_105, kernelRun0_B.sl.r_103, kernelRun0_B.sl.r_104,
      kernelRun0_B.sl.r_101, kernelRun0_B.sl.r_102, kernelRun0_B.sl.r_100]
    unfold_payloads
    pointwise [Memref.IsWhole.readAt_unread, hI.cw, hI.cb]
    refine (?_ : _ = convTo p _ _ 31)
    iterate 31 refine conv_step ?_ rfl ?_
    refine conv_base rfl
    all_goals refine Buf.ld (u_18 hT hU hI) _ _ _ _ ?_ ?_ (by omega)
    all_goals first | (unfold natRow; omega) | rfl | exact (Nat.zero_add _).symm
  case refine_13 | refine_14 | refine_15 | refine_16 =>
    simp only [
      kernelRun0_B.sl.r_116, kernelRun0_B.sl.r_114, kernelRun0_B.sl.r_115, kernelRun0_B.sl.r_112, kernelRun0_B.sl.r_113,
      kernelRun0_B.sl.r_111, kernelRun0_B.sl.r_109, kernelRun0_B.sl.r_110, kernelRun0_B.sl.r_123, kernelRun0_B.sl.r_124,
      kernelRun0_B.sl.r_121, kernelRun0_B.sl.r_122, kernelRun0_B.sl.r_120, kernelRun0_B.sl.r_118, kernelRun0_B.sl.r_119,
      kernelRun0_B.sl.r_117, kernelRun0_B.sl.r_131, kernelRun0_B.sl.r_132, kernelRun0_B.sl.r_130, kernelRun0_B.sl.r_128,
      kernelRun0_B.sl.r_129, kernelRun0_B.sl.r_126, kernelRun0_B.sl.r_127, kernelRun0_B.sl.r_139, kernelRun0_B.sl.r_137,
      kernelRun0_B.sl.r_138, kernelRun0_B.sl.r_135, kernelRun0_B.sl.r_136, kernelRun0_B.sl.r_134]
    unfold_payloads
    pointwise [Memref.IsWhole.readAt_unread, hI.cw, hI.cb]
    refine (?_ : _ = convTo p _ _ 31)
    iterate 31 refine conv_step ?_ rfl ?_
    refine conv_base rfl
    all_goals refine Buf.ld (u_24 hT hU hI) _ _ _ _ ?_ ?_ (by omega)
    all_goals first | (unfold natRow; omega) | rfl | exact (Nat.zero_add _).symm

end Cert.PoolConv.Later

end
-- ==== Proof.LaterPool.lean ====
/- A later tile of a sequence: the pool. -/
module

public import proofs.«01_k».proof.Proof.Gen.KernelIdeal.Frame.RunB
public import proofs.«01_k».proof.Proof.LaterBuffers
public import proofs.«01_k».proof.Proof.Grid
public import proofs.«01_k».proof.Proof.Pool

@[expose] public section

set_option maxRecDepth 16384

noncomputable section

namespace Cert.PoolConv.Later

open Idealize.ShloMosaic Cert.KernelIdeal Cert.KernelIdeal.Gen

variable {p : Par} {T : ℕ} {c : Dev nD}
  {arg2 : Memref sig .tc .vmem S1x256x1024 .f32} {harg2 : arg2.IsWhole}
  {arg3 : Memref sig .tc .vmem S2x256x256 .bf16} {harg3 : arg3.IsWhole}
  {arg4 : Memref sig .tc .vmem S1x1024 .f32} {harg4 : arg4.IsWhole}
  {arg5 : Memref sig .tc .vmem S1024x5120 .bf16} {harg5 : arg5.IsWhole}
  {arg8 : Memref sig .tc .vmem S31x1024 .f32} {harg8 : arg8.IsWhole}
  {arg9 : Memref sig .tc .vmem S1x1024 .f32} {harg9 : arg9.IsWhole}
  {i : grid0.Coords}
  {arg6 : Memref sig .tc .vmem S4x256x256 .bf16} {harg6 : arg6.IsWhole}
  {arg19 : Memref sig .tc .vmem S256x1024 .bf16}
  {arg14 : Memref sig .tc .vmem S512x1024 .f32} {harg14 : arg14.IsWhole}
  {arg15 : Memref sig .tc .vmem S512x1024 .f32} {harg15 : arg15.IsWhole}
  {arg16 arg17 : Memref sig .tc .vmem S256x1024 .bf16} {arg18 : Memref sig .tc .vmem S256x4096 .f32}
  {x0 : Vec Ideal S1x256x1024 .f32} {x1 : Vec Ideal S2x256x256 .bf16}
  {x2 : Vec Ideal S1x1024 .f32} {x3 : Vec Ideal S1024x5120 .bf16} {x4 : Vec Ideal S4x256x256 .bf16}
  {x5 : Vec Ideal S1x1024 .f32} {x6 : Vec Ideal S31x1024 .f32} {x7 x8 x9 : Vec Ideal S1x1024 .f32}
  {x10 : Vec Ideal S2048x1024 .bf16} {xs0 xs1 : Vec Ideal S512x1024 .f32}

/-- The kernel's positions. -/
theorem pos (r : Fin 256) : kernelRun0_B.sl.r i (ix2 r 0) = BitVec.ofNat 32 (256 * (i 1).val + natRow r.val) := by
  sl_unfold_words
  unfold_payloads
  pointwise [phase_word, quot_word, pos_word]

/-! The trailing means, as the parts of their buffer come to be known. -/

/-- The first 11 of the sixteen parts are the pool. -/
theorem pool_11 (hC : T = 256 * (i 1).val) (hT : 256 ≤ T) (hN : T + 256 ≤ 4096) (hA : Carry (A p) T xs0)
    (hI : Ins p T x0 x1 x2 x3 x4 x5 x6 x7 x8 x9 x10) :
    Parts64 (fun r j => pool p (T + natRow r) j) 11
      (kernelRun0_B.sl.HS5_11 (F := Ideal) c i arg2 harg2 arg3 harg3 arg4 harg4 arg5 harg5 arg14 harg14 arg16 arg17 x0 x1 x2 x3 xs0) := by
  unfold kernelRun0_B.sl.HS5_11
  refine Parts64.cons _ (Parts64.cons _ (Parts64.cons _ (Parts64.cons _ (Parts64.cons _ (Parts64.cons _ (Parts64.cons _ (Parts64.cons _ (Parts64.cons _ (Parts64.cons _ (Parts64.cons _ (Parts64.nil
    ) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)
  all_goals
    try simp only [
      kernelRun0_B.sl.r_145, kernelRun0_B.sl.r_146, kernelRun0_B.sl.r_144, kernelRun0_B.sl.r_142, kernelRun0_B.sl.r_143,
      kernelRun0_B.sl.r_141, kernelRun0_B.sl.r_140]
    unfold_payloads
    pointwise [pos]
  case refine_1 | refine_2 | refine_3 | refine_4 =>
    refine pool_of (w := 2) ((width_eq (q := 0) (by simp only; omega)).trans rfl) (by rw [hC]) (by unfold natRow; omega)
      (by omega) ?_ ?_
    iterate 1 refine win_step ?_ ?_
    refine win_base ?_
    all_goals refine Buf.ld (a_12 hT hA hI) _ _ _ _ ?_ ?_ (by omega)
    all_goals first | (unfold natRow; omega) | rfl | exact (Nat.zero_add _).symm
  case refine_5 | refine_6 | refine_7 | refine_8 =>
    refine pool_of (w := 4) ((width_eq (q := 1) (by simp only; omega)).trans rfl) (by rw [hC]) (by unfold natRow; omega)
      (by omega) ?_ ?_
    iterate 3 refine win_step ?_ ?_
    refine win_base ?_
    all_goals refine Buf.ld (a_12 hT hA hI) _ _ _ _ ?_ ?_ (by omega)
    all_goals first | (unfold natRow; omega) | rfl | exact (Nat.zero_add _).symm
  case refine_9 | refine_10 | refine_11 =>
    refine pool_of (w := 8) ((width_eq (q := 2) (by simp only; omega)).trans rfl) (by rw [hC]) (by unfold natRow; omega)
      (by omega) ?_ ?_
    iterate 7 refine win_step ?_ ?_
    refine win_base ?_
    all_goals refine Buf.ld (a_12 hT hA hI) _ _ _ _ ?_ ?_ (by omega)
    all_goals first | (unfold natRow; omega) | rfl | exact (Nat.zero_add _).symm

/-- The first 13 of the sixteen parts are the pool. -/
theorem pool_13 (hC : T = 256 * (i 1).val) (hT : 256 ≤ T) (hN : T + 256 ≤ 4096) (hA : Carry (A p) T xs0)
    (hI : Ins p T x0 x1 x2 x3 x4 x5 x6 x7 x8 x9 x10) :
    Parts64 (fun r j => pool p (T + natRow r) j) 13
      (kernelRun0_B.sl.HS5_13 (F := Ideal) c i arg2 harg2 arg3 harg3 arg4 harg4 arg5 harg5 arg14 harg14 arg16 arg17 x0 x1 x2 x3 xs0) := by
  unfold kernelRun0_B.sl.HS5_13
  refine Parts64.cons _ (Parts64.cons _ (pool_11 hC hT hN hA hI
    ) rfl rfl (by omega) (fun r j => ?_)) rfl rfl (by omega) (fun r j => ?_)
  all_goals
    try simp only [
      kernelRun0_B.sl.r_150, kernelRun0_B.sl.r_151, kernelRun0_B.sl.r_149]
    unfold_payloads
    pointwise [pos]
  case refine_1 =>
    refine pool_of (w := 8) ((width_eq (q := 2) (by simp only; omega)).trans rfl) (by rw [hC]) (by unfold natRow; omega)
      (by omega) ?_ ?_
    iterate 7 refine win_step ?_ ?_
    refine win_base ?_
    all_goals refine Buf.ld (a_12 hT hA hI) _ _ _ _ ?_ ?_ (by omega)
    all_goals first | (unfold natRow; omega) | rfl | exact (Nat.zero_add _).symm
  case refine_2 =>
    refine pool_of (w := 16) ((width_eq (q := 3) (by simp only; omega)).trans rfl) (by rw [hC]) (by unfold natRow; omega)
      (by omega) ?_ ?_
    iterate 15 refine win_step ?_ ?_
    refine win_base ?_
    all_goals refine Buf.ld (a_12 hT hA hI) _ _ _ _ ?_ ?_ (by omega)
    all_goals first | (unfold natRow; omega) | rfl | exact (Nat.zero_add _).symm

/-- The first 15 of the sixteen parts are the pool. -/
theorem pool_15 (hC : T = 256 * (i 1).val) (hT : 256 ≤ T) (hN : T + 256 ≤ 4096) (hA : Carry (A p) T xs0)
    (hI : Ins p T x0 x1 x2 x3 x4 x5 x6 x7 x8 x9 x10) :
    Parts64 (fun r j => pool p (T + natRow r) j) 15
      (kernelRun0_B.sl.HS5_15 (F := Ideal) c i arg2 harg2 arg3 harg3 arg4 harg4 arg5 harg5 arg14 harg14 arg16 arg17 x0 x1 x2 x3 xs0) := by
  unfold kernelRun0_B.sl.HS5_15
  refine Parts64.cons _ (Parts64.cons _ (pool_13 hC hT hN hA hI
    ) rfl rfl (by omega) (fun r j => ?_)) rfl rfl (by omega) (fun r j => ?_)
  all_goals
    try simp only [
      kernelRun0_B.sl.r_154, kernelRun0_B.sl.r_155, kernelRun0_B.sl.r_152, kernelRun0_B.sl.r_153]
    unfold_payloads
    pointwise [pos]
  case refine_1 | refine_2 =>
    refine pool_of (w := 16) ((width_eq (q := 3) (by simp only; omega)).trans rfl) (by rw [hC]) (by unfold natRow; omega)
      (by omega) ?_ ?_
    iterate 15 refine win_step ?_ ?_
    refine win_base ?_
    all_goals refine Buf.ld (a_12 hT hA hI) _ _ _ _ ?_ ?_ (by omega)
    all_goals first | (unfold natRow; omega) | rfl | exact (Nat.zero_add _).symm

/-- The first 16 of the sixteen parts are the pool. -/
theorem pool_16 (hC : T = 256 * (i 1).val) (hT : 256 ≤ T) (hN : T + 256 ≤ 4096) (hA : Carry (A p) T xs0)
    (hI : Ins p T x0 x1 x2 x3 x4 x5 x6 x7 x8 x9 x10) :
    Parts64 (fun r j => pool p (T + natRow r) j) 16
      (kernelRun0_B.sl.HS5_16 (F := Ideal) c i arg2 harg2 arg3 harg3 arg4 harg4 arg5 harg5 arg14 harg14 arg16 arg17 x0 x1 x2 x3 xs0) := by
  unfold kernelRun0_B.sl.HS5_16
  refine Parts64.cons _ (pool_15 hC hT hN hA hI
    ) rfl rfl (by omega) (fun r j => ?_)
  all_goals
    try simp only [
      kernelRun0_B.sl.r_156]
    unfold_payloads
    pointwise [pos]
  case _ =>
    refine pool_of (w := 16) ((width_eq (q := 3) (by simp only; omega)).trans rfl) (by rw [hC]) (by unfold natRow; omega)
      (by omega) ?_ ?_
    iterate 15 refine win_step ?_ ?_
    refine win_base ?_
    all_goals refine Buf.ld (a_12 hT hA hI) _ _ _ _ ?_ ?_ (by omega)
    all_goals first | (unfold natRow; omega) | rfl | exact (Nat.zero_add _).symm

/-- The groups' mixes. -/
theorem mix_reads (hC : T = 256 * (i 1).val) (hT : 256 ≤ T) (hN : T + 256 ≤ 4096) (hA : Carry (A p) T xs0)
    (hI : Ins p T x0 x1 x2 x3 x4 x5 x6 x7 x8 x9 x10) :
    Reads (kernelRun0_B.sl.HS6_4 (F := Ideal) c i arg2 harg2 arg3 harg3 arg4 harg4 arg5 harg5 arg6 harg6 arg14 harg14 arg16 arg17 arg19 x0 x1 x2 x3 x4 xs0) (fun _ => True) (fun y => mix p (T + natRow (y 0).val) (y 1)) := by
  have h0 : ∀ r k : Fin 256, kernelRun0_B.sl.v3516 (F := Ideal) c i arg2 harg2 arg3 harg3 arg4 harg4 arg5 harg5 arg14 harg14 arg16 arg17 arg19 x0 x1 x2 x3 xs0
      (ix2 r k) = pool p (T + natRow r.val) ⟨0 + k.val, by omega⟩ := fun r k =>
    ((pool_11 hC hT hN hA hI).ld _ _ _ _ (by omega) (by omega)).trans (by rw [Nat.zero_add])
  have h1 : ∀ r k : Fin 256, kernelRun0_B.sl.v3595 (F := Ideal) c i arg2 harg2 arg3 harg3 arg4 harg4 arg5 harg5 arg14 harg14 arg16 arg17 arg19 x0 x1 x2 x3 xs0
      (ix2 r k) = pool p (T + natRow r.val) ⟨256 + k.val, by omega⟩ := fun r k =>
    ((pool_13 hC hT hN hA hI).ld _ _ _ _ (by omega) (by omega)).trans (by rw [Nat.zero_add])
  have h2 : ∀ r k : Fin 256, kernelRun0_B.sl.v3690 (F := Ideal) c i arg2 harg2 arg3 harg3 arg4 harg4 arg5 harg5 arg14 harg14 arg16 arg17 arg19 x0 x1 x2 x3 xs0
      (ix2 r k) = pool p (T + natRow r.val) ⟨512 + k.val, by omega⟩ := fun r k =>
    ((pool_15 hC hT hN hA hI).ld _ _ _ _ (by omega) (by omega)).trans (by rw [Nat.zero_add])
  have h3 : ∀ r k : Fin 256, kernelRun0_B.sl.v3741 (F := Ideal) c i arg2 harg2 arg3 harg3 arg4 harg4 arg5 harg5 arg14 harg14 arg16 arg17 arg19 x0 x1 x2 x3 xs0
      (ix2 r k) = pool p (T + natRow r.val) ⟨768 + k.val, by omega⟩ := fun r k =>
    ((pool_16 hC hT hN hA hI).ld _ _ _ _ (by omega) (by omega)).trans (by rw [Nat.zero_add])
  unfold kernelRun0_B.sl.HS6_4
  refine Reads.cons ?_ (Reads.cons ?_ (Reads.cons ?_ (Reads.cons ?_ (Reads.done ?_))))
  case refine_5 =>
    intro y hy
    idx_vars y
    simp only [Rect.mem_set_unit] at hy
    pointwise at hy
    omega
  all_goals
    intro x _
    idx_vars x
    try simp only [kernelRun0_B.sl.r_157, kernelRun0_B.sl.r_147]
    unfold_payloads
    pointwise [Memref.IsWhole.readAt_unread, h0, h1, h2, h3, hI.pw]
  · exact mix_of (n := T + natRow x0.val) (o := 768) (g := 3) (j := x1) rfl rfl
  · exact mix_of (n := T + natRow x0.val) (o := 512) (g := 2) (j := x1) rfl rfl
  · exact mix_of (n := T + natRow x0.val) (o := 256) (g := 1) (j := x1) rfl rfl
  · have e := mix_of (p := p) (n := T + natRow x0.val) (o := 0) (g := 0) (j := x1) (c := ⟨x1.val, by omega⟩) rfl
      (Nat.zero_add _).symm
    simp only [Nat.zero_add] at e
    exact e

end Cert.PoolConv.Later

end
-- ==== Proof.LaterOut.lean ====
/- A later tile of a sequence: gating, reordering and the output projection. -/
module

public import proofs.«01_k».proof.Proof.Gen.KernelIdeal.Frame.RunB
public import proofs.«01_k».proof.Proof.LaterConv
public import proofs.«01_k».proof.Proof.LaterPool
public import proofs.«01_k».proof.Proof.Gate

@[expose] public section

set_option maxRecDepth 16384

noncomputable section

namespace Cert.PoolConv.Later

open Idealize.ShloMosaic Cert.KernelIdeal Cert.KernelIdeal.Gen

variable {p : Par} {T : ℕ} {c : Dev nD} {i : grid0.Coords}
  {arg2 : Memref sig .tc .vmem S1x256x1024 .f32} {harg2 : arg2.IsWhole}
  {arg3 : Memref sig .tc .vmem S2x256x256 .bf16} {harg3 : arg3.IsWhole}
  {arg4 : Memref sig .tc .vmem S1x1024 .f32} {harg4 : arg4.IsWhole}
  {arg5 : Memref sig .tc .vmem S1024x5120 .bf16} {harg5 : arg5.IsWhole}
  {arg6 : Memref sig .tc .vmem S4x256x256 .bf16} {harg6 : arg6.IsWhole}
  {arg7 : Memref sig .tc .vmem S1x1024 .f32} {harg7 : arg7.IsWhole}
  {arg8 : Memref sig .tc .vmem S31x1024 .f32} {harg8 : arg8.IsWhole}
  {arg9 : Memref sig .tc .vmem S1x1024 .f32} {harg9 : arg9.IsWhole}
  {arg10 : Memref sig .tc .vmem S1x1024 .f32} {harg10 : arg10.IsWhole}
  {arg11 : Memref sig .tc .vmem S1x1024 .f32} {harg11 : arg11.IsWhole}
  {arg12 : Memref sig .tc .vmem S2048x1024 .bf16} {harg12 : arg12.IsWhole}
  {arg13 : Memref sig .tc .vmem S1x256x1024 .f32}
  {arg14 : Memref sig .tc .vmem S512x1024 .f32} {harg14 : arg14.IsWhole}
  {arg15 : Memref sig .tc .vmem S512x1024 .f32} {harg15 : arg15.IsWhole}
  {arg16 arg17 : Memref sig .tc .vmem S256x1024 .bf16} {arg18 : Memref sig .tc .vmem S256x4096 .f32}
  {arg19 : Memref sig .tc .vmem S256x1024 .bf16} {arg20 arg21 : Memref sig .tc .vmem S256x1024 .f32}
  {arg22 arg23 : Memref sig .tc .vmem S256x2048 .bf16}
  {x0 : Vec Ideal S1x256x1024 .f32} {x1 : Vec Ideal S2x256x256 .bf16}
  {x2 : Vec Ideal S1x1024 .f32} {x3 : Vec Ideal S1024x5120 .bf16} {x4 : Vec Ideal S4x256x256 .bf16}
  {x5 : Vec Ideal S1x1024 .f32} {x6 : Vec Ideal S31x1024 .f32} {x7 x8 x9 : Vec Ideal S1x1024 .f32}
  {x10 : Vec Ideal S2048x1024 .bf16} {xs0 xs1 : Vec Ideal S512x1024 .f32}

set_option maxHeartbeats 4000000 in
/-- The pool's gated columns. -/
theorem y_8 (hC : T = 256 * (i 1).val) (hT : 256 ≤ T) (hN : T + 256 ≤ 4096) (hA : Carry (A p) T xs0)
    (hI : Ins p T x0 x1 x2 x3 x4 x5 x6 x7 x8 x9 x10) :
    Parts32 (fun r j => y p (T + natRow r) j) 8
      (kernelRun0_B.sl.HS8_8 (F := Ideal) c i arg2 harg2 arg3 harg3 arg4 harg4 arg5 harg5 arg6 harg6 arg7 harg7 arg14 harg14 arg16 arg17 arg18 arg19 arg20 x0 x1 x2 x3 x4 x5 xs0) := by
  unfold kernelRun0_B.sl.HS8_8
  refine Parts32.cons _ (Parts32.cons _ (Parts32.cons _ (Parts32.cons _ (Parts32.cons _ (Parts32.cons _ (Parts32.cons _ (Parts32.cons _ (Parts32.nil) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)
  all_goals
    try simp only [
      kernelRun0_B.sl.r_163, kernelRun0_B.sl.r_164, kernelRun0_B.sl.r_161, kernelRun0_B.sl.r_162, kernelRun0_B.sl.r_159,
      kernelRun0_B.sl.r_160, kernelRun0_B.sl.r_158]
    unfold_payloads
    pointwise [Memref.IsWhole.readAt_unread, hI.ps]
    refine pool_gate ?_ ?_ rfl
    · refine Reads.time (mix_reads hC hT hN hA hI) _ _ _ _ ?_ ?_
      all_goals first | rfl | (unfold natRow; omega) | exact (Nat.zero_add _).symm
    · refine Prj.time (proj_16 hI) _ _ _ _ ?_ ?_
      all_goals first | rfl | (unfold natRow; omega) | (simp only; omega)

set_option maxHeartbeats 1000000 in
/-- The convolution's gated columns. -/
theorem y_16 (hC : T = 256 * (i 1).val) (hT : 256 ≤ T) (hN : T + 256 ≤ 4096) (hA : Carry (A p) T xs0)
    (hU : Carry (U p) T xs1) (hI : Ins p T x0 x1 x2 x3 x4 x5 x6 x7 x8 x9 x10) :
    Parts32 (fun r j => y p (T + natRow r) j) 16
      (kernelRun0_B.sl.HS8_16 (F := Ideal) c i arg2 harg2 arg3 harg3 arg4 harg4 arg5 harg5 arg6 harg6 arg7 harg7 arg8 harg8 arg9 harg9 arg10 harg10 arg11 harg11 arg14 harg14 arg15 harg15 arg16 arg17 arg18 arg19 arg20 arg21 x0 x1 x2 x3 x4 x5 x6 x7 x8 x9 xs0 xs1) := by
  have hc : ∀ (a : ℕ) (h) (r : Fin 32) (k : Fin 1024), arg21.view.readCov (kernelRun0_B.sl.HS7_16 (F := Ideal) c arg2 harg2 arg3 harg3 arg4 harg4 arg5 harg5 arg8 harg8 arg9 harg9 arg15 harg15 arg16 arg17 arg18 x0 x1 x2 x3 x6 x7 xs1)
      (Rect.unit (s := S256x1024) ![a, 0] S32x1024.size h).toLoadRect (ix2 r k) = conv p (T + natRow (a + r.val)) k :=
    fun a h r k => Reads.time (Parts64.all (conv_reads hT hU hI)) _ h r k rfl (Nat.zero_add _).symm
  unfold kernelRun0_B.sl.HS8_16
  refine Parts32.cons _ (Parts32.cons _ (Parts32.cons _ (Parts32.cons _ (Parts32.cons _ (Parts32.cons _ (Parts32.cons _ (Parts32.cons _ (y_8 hC hT hN hA hI) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)) rfl rfl (by omega) (fun r j => ?_)
  all_goals
    try simp only [
      kernelRun0_B.sl.r_177, kernelRun0_B.sl.r_174, kernelRun0_B.sl.r_175, kernelRun0_B.sl.r_173, kernelRun0_B.sl.r_171,
      kernelRun0_B.sl.r_172, kernelRun0_B.sl.r_169, kernelRun0_B.sl.r_170, kernelRun0_B.sl.r_168, kernelRun0_B.sl.cst_2929,
      kernelRun0_B.sl.r_166, kernelRun0_B.sl.r_167, kernelRun0_B.sl.r_165, kernelRun0_B.sl.r_176]
    unfold_payloads
    pointwise [Memref.IsWhole.readAt_unread, hI.cg, hI.cbeta,
      kernelRun0_B.sl.v3918, kernelRun0_B.sl.v3965, kernelRun0_B.sl.v4012, kernelRun0_B.sl.v4059, kernelRun0_B.sl.v4106,
      kernelRun0_B.sl.v4153, kernelRun0_B.sl.v4200, kernelRun0_B.sl.v4247, hc]
    refine conv_gate ?_ rfl
    refine Prj.time (proj_16 hI) _ _ _ _ ?_ ?_
    all_goals first | rfl | (unfold natRow; omega) | (simp only; omega)

set_option maxHeartbeats 1000000 in
/-- The pool's gated columns in the order of time. -/
theorem ynat_1 (hC : T = 256 * (i 1).val) (hT : 256 ≤ T) (hN : T + 256 ≤ 4096) (hA : Carry (A p) T xs0)
    (hI : Ins p T x0 x1 x2 x3 x4 x5 x6 x7 x8 x9 x10) :
    Reads (kernelRun0_B.sl.HS9_1 (F := Ideal) c i arg2 harg2 arg3 harg3 arg4 harg4 arg5 harg5 arg6 harg6 arg7 harg7 arg14 harg14 arg16 arg17 arg18 arg19 arg20 arg22 x0 x1 x2 x3 x4 x5 xs0)
      (fun w => (w 1).val < 1024) (fun w => y p (T + (w 0).val) (w 1)) := by
  unfold kernelRun0_B.sl.HS9_1
  have hv : ∀ (k : Fin 256) (j : Fin 1024),
      kernelRun0_B.sl.v3902 (F := Ideal) c i arg2 harg2 arg3 harg3 arg4 harg4 arg5 harg5 arg6 harg6 arg7 harg7 arg14 harg14 arg16 arg17 arg18 arg19 arg20 arg22 x0 x1 x2 x3 x4 x5 xs0 (ix2 k j)
      = y p (T + natRow k.val) ⟨j.val, by omega⟩ := fun k j => by
    refine (Parts32.ld (y_8 hC hT hN hA hI) _ _ _ _ (by omega) (by omega)).trans ?_
    congr 1
    · rw [Nat.zero_add]
    · exact Fin.ext (Nat.zero_add _)
  refine Reads.cons ?_ (Reads.done ?_)
  · intro x _
    idx_vars x
    unfold_payloads
    pointwise [Memref.IsWhole.readAt_unread, hI.unperm, hv]
    exact unperm_of (f := fun t => y p t ⟨x1.val, by omega⟩)
  · intro w hw
    idx_vars w
    simp only [Rect.mem_set_unit] at hw
    pointwise at hw
    omega

set_option maxHeartbeats 1000000 in
/-- The convolution's gated columns in the order of time. -/
theorem ynat_2 (hC : T = 256 * (i 1).val) (hT : 256 ≤ T) (hN : T + 256 ≤ 4096) (hA : Carry (A p) T xs0)
    (hU : Carry (U p) T xs1) (hI : Ins p T x0 x1 x2 x3 x4 x5 x6 x7 x8 x9 x10) :
    Reads (kernelRun0_B.sl.HS9_2 (F := Ideal) c i arg2 harg2 arg3 harg3 arg4 harg4 arg5 harg5 arg6 harg6 arg7 harg7 arg8 harg8 arg9 harg9 arg10 harg10 arg11 harg11 arg14 harg14 arg15 harg15 arg16 arg17 arg18 arg19 arg20 arg21 arg22 x0 x1 x2 x3 x4 x5 x6 x7 x8 x9 xs0 xs1)
      (fun _ => True) (fun w => y p (T + (w 0).val) (w 1)) := by
  unfold kernelRun0_B.sl.HS9_2
  have hv : ∀ (k : Fin 256) (j : Fin 1024),
      kernelRun0_B.sl.v4296 (F := Ideal) c i arg2 harg2 arg3 harg3 arg4 harg4 arg5 harg5 arg6 harg6 arg7 harg7 arg8 harg8 arg9 harg9 arg10 harg10 arg11 harg11 arg14 harg14 arg15 harg15 arg16 arg17 arg18 arg19 arg20 arg21 arg22 x0 x1 x2 x3 x4 x5 x6 x7 x8 x9 xs0 xs1 (ix2 k j)
      = y p (T + natRow k.val) ⟨1024 + j.val, by omega⟩ := fun k j => by
    refine (Parts32.ld (y_16 hC hT hN hA hU hI) _ _ _ _ (by omega) (by omega)).trans ?_
    congr 1
    rw [Nat.zero_add]
  refine Reads.cons ?_ (fun w hw => (ynat_1 hC hT hN hA hI) w ?_)
  · intro x _
    idx_vars x
    unfold_payloads
    pointwise [Memref.IsWhole.readAt_unread, hI.unperm, hv]
    exact unperm_of (f := fun t => y p t ⟨1024 + x1.val, by omega⟩)
  · idx_vars w
    simp only [Rect.mem_set_unit] at hw
    pointwise at hw
    pointwise
    omega

set_option maxHeartbeats 1000000 in
/-- The first half of the output's sum. -/
theorem half (hC : T = 256 * (i 1).val) (hT : 256 ≤ T) (hN : T + 256 ≤ 4096) (hA : Carry (A p) T xs0)
    (hI : Ins p T x0 x1 x2 x3 x4 x5 x6 x7 x8 x9 x10) (r : Fin 256) (j : Fin 1024) :
    kernelRun0_B.sl.v4302 (F := Ideal) c i arg2 harg2 arg3 harg3 arg4 harg4 arg5 harg5 arg6 harg6 arg7 harg7 arg12 harg12 arg13 arg14 harg14 arg16 arg17 arg18 arg19 arg20 arg22 arg23 x0 x1 x2 x3 x4 x5 x10 xs0 (ix3 0 r j)
      = p.x (T + r.val) j + ∑ k : Fin 1024, y p (T + r.val) ⟨k.val, by omega⟩ * p.wout ⟨k.val, by omega⟩ j := by
  have hv : ∀ (k : Fin 256) (j : Fin 1024),
      kernelRun0_B.sl.v3910 (F := Ideal) c i arg2 harg2 arg3 harg3 arg4 harg4 arg5 harg5 arg6 harg6 arg7 harg7 arg14 harg14 arg16 arg17 arg18 arg19 arg20 arg22 arg23 x0 x1 x2 x3 x4 x5 xs0 (ix2 k j)
      = y p (T + k.val) ⟨j.val, by omega⟩ := fun k j => by
    refine (Reads.ld (ynat_1 hC hT hN hA hI) _ _ _ (by pointwise)).trans ?_
    pointwise
  have hL : Reads (kernelRun0_B.sl.H11_1 (F := Ideal) c i arg2 harg2 arg3 harg3 arg4 harg4 arg5 harg5 arg6 harg6 arg7 harg7 arg12 harg12 arg14 harg14 arg16 arg17 arg18 arg19 arg20 arg22 arg23 x0 x1 x2 x3 x4 x5 x10 xs0)
      (fun _ => True) (fun w => p.x (T + (w 1).val) (w 2)
        + ∑ k : Fin 1024, y p (T + (w 1).val) ⟨k.val, by omega⟩ * p.wout ⟨k.val, by omega⟩ (w 2)) := by
    unfold kernelRun0_B.sl.H11_1
    refine Reads.cons ?_ (Reads.done ?_)
    · intro x _
      idx_vars x
      unfold_payloads
      pointwise [Memref.IsWhole.readAt_unread, hI.x, hI.wout, hv]
    · intro w hw
      idx_vars w
      simp only [Rect.mem_set_unit] at hw
      pointwise at hw
      exact hw trivial
  refine (Reads.ld hL _ _ _ trivial).trans ?_
  pointwise

set_option maxHeartbeats 1000000 in
/-- The tile's output, which the last store covers. -/
theorem out_last (hC : T = 256 * (i 1).val) (hT : 256 ≤ T) (hN : T + 256 ≤ 4096) (hA : Carry (A p) T xs0)
    (hU : Carry (U p) T xs1) (hI : Ins p T x0 x1 x2 x3 x4 x5 x6 x7 x8 x9 x10) (r : Fin 256) (j : Fin 1024) :
    k0_pay3 (kernelRun0_B.sl.v4302 (F := Ideal) c i arg2 harg2 arg3 harg3 arg4 harg4 arg5 harg5 arg6 harg6 arg7 harg7 arg12 harg12 arg13 arg14 harg14 arg16 arg17 arg18 arg19 arg20 arg22 arg23 x0 x1 x2 x3 x4 x5 x10 xs0)
      (kernelRun0_B.sl.v4304 (F := Ideal) c i arg2 harg2 arg3 harg3 arg4 harg4 arg5 harg5 arg6 harg6 arg7 harg7 arg8 harg8 arg9 harg9 arg10 harg10 arg11 harg11 arg14 harg14 arg15 harg15 arg16 arg17 arg18 arg19 arg20 arg21 arg22 arg23 x0 x1 x2 x3 x4 x5 x6 x7 x8 x9 xs0 xs1)
      (arg12.view.readAt (Elt Ideal) (Rect.unit (s := S2048x1024) ![1024, 0] S1024x1024.size inb_S2048x1024_S1024x1024_1024_0).toLoadRect
        (harg12.unread x10)) (ix3 0 r j) = out p (T + r.val) j := by
  have hv : ∀ (k : Fin 256) (j : Fin 1024),
      kernelRun0_B.sl.v4304 (F := Ideal) c i arg2 harg2 arg3 harg3 arg4 harg4 arg5 harg5 arg6 harg6 arg7 harg7 arg8 harg8 arg9 harg9 arg10 harg10 arg11 harg11 arg14 harg14 arg15 harg15 arg16 arg17 arg18 arg19 arg20 arg21 arg22 arg23 x0 x1 x2 x3 x4 x5 x6 x7 x8 x9 xs0 xs1 (ix2 k j)
      = y p (T + k.val) ⟨1024 + j.val, by omega⟩ := fun k j => by
    refine (Reads.ld (ynat_2 hC hT hN hA hU hI) _ _ _ trivial).trans ?_
    pointwise
  unfold_payloads
  pointwise [Memref.IsWhole.readAt_unread, hI.wout, hv, half hC hT hN hA hI]
  exact out_of

end Cert.PoolConv.Later

end
-- ==== Proof.LaterBlock.lean ====
/- A later tile: the output block and the two carried buffers. -/
module

public import proofs.«01_k».proof.Proof.Gen.KernelIdeal.Frame
public import Idealize.ShloMosaic.Lib.Pipeline.ValueKit.Basic
public import proofs.«01_k».proof.Proof.LaterOut

@[expose] public section

set_option maxRecDepth 16384

noncomputable section

namespace Cert.PoolConv.Later

open Idealize.ShloMosaic Cert.KernelIdeal Cert.KernelIdeal.Gen

variable {p : Par} {T : ℕ} {c : Dev nD} {i : grid0.Coords}
  {arg2 : Memref sig .tc .vmem S1x256x1024 .f32} {harg2 : arg2.IsWhole}
  {arg3 : Memref sig .tc .vmem S2x256x256 .bf16} {harg3 : arg3.IsWhole}
  {arg4 : Memref sig .tc .vmem S1x1024 .f32} {harg4 : arg4.IsWhole}
  {arg5 : Memref sig .tc .vmem S1024x5120 .bf16} {harg5 : arg5.IsWhole}
  {arg6 : Memref sig .tc .vmem S4x256x256 .bf16} {harg6 : arg6.IsWhole}
  {arg7 : Memref sig .tc .vmem S1x1024 .f32} {harg7 : arg7.IsWhole}
  {arg8 : Memref sig .tc .vmem S31x1024 .f32} {harg8 : arg8.IsWhole}
  {arg9 : Memref sig .tc .vmem S1x1024 .f32} {harg9 : arg9.IsWhole}
  {arg10 : Memref sig .tc .vmem S1x1024 .f32} {harg10 : arg10.IsWhole}
  {arg11 : Memref sig .tc .vmem S1x1024 .f32} {harg11 : arg11.IsWhole}
  {arg12 : Memref sig .tc .vmem S2048x1024 .bf16} {harg12 : arg12.IsWhole}
  {arg13 : Memref sig .tc .vmem S1x256x1024 .f32}
  {arg14 : Memref sig .tc .vmem S512x1024 .f32} {harg14 : arg14.IsWhole}
  {arg15 : Memref sig .tc .vmem S512x1024 .f32} {harg15 : arg15.IsWhole}
  {arg16 arg17 : Memref sig .tc .vmem S256x1024 .bf16} {arg18 : Memref sig .tc .vmem S256x4096 .f32}
  {arg19 : Memref sig .tc .vmem S256x1024 .bf16} {arg20 arg21 : Memref sig .tc .vmem S256x1024 .f32}
  {arg22 arg23 : Memref sig .tc .vmem S256x2048 .bf16}
  {x0 : Vec Ideal S1x256x1024 .f32} {x1 : Vec Ideal S2x256x256 .bf16}
  {x2 : Vec Ideal S1x1024 .f32} {x3 : Vec Ideal S1024x5120 .bf16} {x4 : Vec Ideal S4x256x256 .bf16}
  {x5 : Vec Ideal S1x1024 .f32} {x6 : Vec Ideal S31x1024 .f32} {x7 x8 x9 : Vec Ideal S1x1024 .f32}
  {x10 : Vec Ideal S2048x1024 .bf16} {xs0 xs1 : Vec Ideal S512x1024 .f32}
  {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole} {harg23 : arg23.IsWhole}
  {hc0 : ¬cond0_0 i}

/-- The output block is the layer at the tile's positions. -/
theorem block (hC : T = 256 * (i 1).val) (hT : 256 ≤ T) (hN : T + 256 ≤ 4096)
    (hA : Carry (A p) T xs0) (hU : Carry (U p) T xs1) (hI : Ins p T x0 x1 x2 x3 x4 x5 x6 x7 x8 x9 x10) (r : Fin 256) (j : Fin 1024) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1 (ix3 0 r j) = out p (T + r.val) j := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1)]
  unfold kernelRun0_B
  dsimp only
  rw [View.canon_cons_unit_lit (S := S1x256x1024) (off := ![0, 0, 0]) _ _ _ (by decide)]
  exact out_last hC hT hN hA hU hI r j

/-- The buffer of the pool's columns, carried to the next tile. -/
theorem carry_a (hT : 256 ≤ T) (hA : Carry (A p) T xs0) (hI : Ins p T x0 x1 x2 x3 x4 x5 x6 x7 x8 x9 x10) :
    Carry (A p) (T + 256) (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1) := by
  intro r k
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1)]
  refine ((a_12 hT hA hI).full _ trivial).trans ?_
  rw [Nat.add_sub_cancel]
  rfl

/-- The buffer of the convolution's columns, carried to the next tile. -/
theorem carry_u (hT : 256 ≤ T) (hU : Carry (U p) T xs1) (hI : Ins p T x0 x1 x2 x3 x4 x5 x6 x7 x8 x9 x10) :
    Carry (U p) (T + 256) (sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1) := by
  intro r k
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 xs0 xs1)]
  refine ((u_24 hT hU hI).full _ trivial).trans ?_
  rw [Nat.add_sub_cancel]
  rfl

end Cert.PoolConv.Later

end
-- ==== Proof.Host.lean ====
/- What the host computes before the kernel starts: the reordering's matrices, and the weights in the kernel's shapes. -/
module

public import proofs.«01_k».proof.Proof.Gen.KernelIdeal.Frame.Runs
public import proofs.«01_k».proof.Proof.Tile

@[expose] public section
set_option maxRecDepth 16384
noncomputable section
namespace Cert.PoolConv
open Idealize.ShloMosaic Idealize.ShloMosaic.TcCoe Cert.KernelIdeal Cert.KernelIdeal.Gen

/-- A 256 by 256 array filled with a number. -/
def fill (n : BitVec 32) : Vec Ideal S256x256 .i32 := broadcastInDim S256x256 ![] bcast_S_S256x256 (constantI S_ 32 n)

/-- The row number. -/
def rows : Vec Ideal S256x256 .i32 := iotaInDim S256x256 32 0

/-- The divisor of the remainder, which the host guards against zero. -/
def divisor : Vec Ideal S_ .i32 :=
  select (cmpi .eq (constantI S_ 32 8#32) (constantI S_ 32 0#32) : Vec Ideal S_ .i1) (constantI S_ 32 1#32) (constantI S_ 32 8#32)

/-- The row number's remainder, truncating. -/
def rem0 : Vec Ideal S256x256 .i32 := Host.remsi rows (broadcastInDim S256x256 ![] bcast_S_S256x256 divisor)

/-- The same, with the divisor's sign. -/
def rem : Vec Ideal S256x256 .i32 :=
  select (andi (cmpi .ne (cmpi .slt rem0 (fill 0#32)) (broadcastInDim S256x256 ![] bcast_S_S256x256 (cmpi .slt divisor (constantI S_ 32 0#32))))
    (cmpi .ne rem0 (fill 0#32))) (addi rem0 (broadcastInDim S256x256 ![] bcast_S_S256x256 divisor)) rem0

/-- The row number's quotient, rounded down. -/
def quo : Vec Ideal S256x256 .i32 :=
  select (andi (cmpi .ne (signi rows) (broadcastInDim S256x256 ![] bcast_S_S256x256 (signi (constantI S_ 32 8#32))))
    (cmpi .ne (Host.remsi rows (fill 8#32)) (fill 0#32))) (subi (Host.divsi rows (fill 8#32)) (fill 1#32)) (Host.divsi rows (fill 8#32))

/-- The reordering's matrix, and it stacked with its transpose. -/
def perm : FVec Ideal S256x256 .f32 :=
  select (cmpi .eq (iotaInDim S256x256 32 1) (addi (muli rem (fill 32#32)) quo))
    (broadcastInDim S256x256 ![] bcast_S_S256x256 (constant S_ .f32 0x3F800000#32))
    (broadcastInDim S256x256 ![] bcast_S_S256x256 (constant S_ .f32 0x00000000#32))

/-- The matrix over its transpose. -/
def stack : FVec Ideal S2x256x256 .bf16 :=
  truncf .bf16 (concatenate S2x256x256 0 [⟨S1x256x256, broadcastInDim S1x256x256 ![1, 2] bcast_S256x256_S1x256x256_1_2 perm⟩,
    ⟨S1x256x256, broadcastInDim S1x256x256 ![1, 2] bcast_S256x256_S1x256x256_1_2 (transpose S256x256 [1, 0] perm transposes_S256x256_S256x256_1_0)⟩]
    concatenates_S1x256x256_S1x256x256_S2x256x256_d0) bitsLt_bf16_f32

/-- The remainder, entry by entry. -/
theorem rem_at (r k : Fin 256) : rem (ix2 r k) = BitVec.ofNat 32 (r.val % 8) := by
  unfold rem rem0 divisor rows fill
  pointwise
  revert r; decide +kernel

/-- The quotient, entry by entry. -/
theorem quo_at (r k : Fin 256) : quo (ix2 r k) = BitVec.ofNat 32 (r.val / 8) := by
  unfold quo rows fill
  pointwise
  exact (by decide +kernel : ∀ r : Fin 256, Scalar.select
      (IntOp.andi
        (IntOp.cmpi CmpIPredicate.ne
          (if BitVec.ofNat 32 r.val = 0 then 0 else if (BitVec.ofNat 32 r.val).msb = true then -1 else 1)
          (if 8#32 = 0 then 0 else if (8#32).msb = true then -1 else 1))
        (IntOp.cmpi CmpIPredicate.ne (IntOp.remsi ArithUnit.host (BitVec.ofNat 32 r.val) 8#32) 0#32))
      (IntOp.subi (IntOp.divsi ArithUnit.host (BitVec.ofNat 32 r.val) 8#32) 1#32)
      (IntOp.divsi ArithUnit.host (BitVec.ofNat 32 r.val) 8#32) = BitVec.ofNat 32 (r.val / 8)) r

/-- A choice by the comparison of two small words is the choice by their numbers. -/
theorem word_eq (a b : ℕ) (ha : a < 256) (hb : b < 256) (x y : EReal) :
    Scalar.select (IntOp.cmpi CmpIPredicate.eq (BitVec.ofNat 32 a) (BitVec.ofNat 32 b)) x y = if a = b then x else y := by
  by_cases h : a = b
  · subst h
    simp [Scalar.select, IntOp.cmpi]
  · have hne : BitVec.ofNat 32 a ≠ BitVec.ofNat 32 b := fun e => h (by
      have := congrArg BitVec.toNat e
      simp only [BitVec.toNat_ofNat] at this
      omega)
    have hb : (BitVec.ofNat 32 a == BitVec.ofNat 32 b) = false := beq_eq_false_iff_ne.mpr hne
    simp [Scalar.select, IntOp.cmpi, h, hb]

/-- The matrix takes row `r` to the position that it stands for. -/
theorem perm_at (r k : Fin 256) : perm (ix2 r k) = if k.val = natRow r.val then 1 else 0 := by
  unfold perm fill
  pointwise [rem_at, quo_at]
  rw [(by decide +kernel : ∀ r : Fin 256, IntOp.addi (IntOp.muli (BitVec.ofNat 32 (r.val % 8)) 32#32)
    (BitVec.ofNat 32 (r.val / 8)) = BitVec.ofNat 32 (natRow r.val)) r]
  exact word_eq _ _ k.isLt (by unfold natRow; omega) _ _

/-- The first matrix of the stack: into the order of the rows. -/
theorem stack_0 (r k : Fin 256) : stack (ix3 0 r k) = if k.val = natRow r.val then 1 else 0 := by
  unfold stack
  pointwise [perm_at]

/-- The second: back into the order of time. -/
theorem stack_1 (r k : Fin 256) : stack (ix3 1 r k) = if r.val = natRow k.val then 1 else 0 := by
  unfold stack
  pointwise [perm_at]

variable (m : (ℓ : Loc nD τ sig) → Idealize.ShloMosaic.Buf (Elt Ideal) ℓ) (c : Dev nD)

/-- The reordering's matrices. -/
theorem V_v13 : V m c main_v13 = stack := by
  show StableHlo.after (List.flatten [hostOps0, hostOps0_1, hostOps0_2, hostOps0_3, hostOps0_4, hostOps0_5, hostOps0_6]) _ (Proc.devRef .tc main_v13) = _
  simp only [hostOps0, hostOps0_1, hostOps0_2, hostOps0_3, hostOps0_4, hostOps0_5, hostOps0_6, List.flatten_cons, List.flatten_nil, List.append_nil, List.cons_append, List.nil_append]
  after_results
  rfl

/-- Argument 1 as one row. -/
theorem V_v14 : V m c main_v14 = shapeCast S1x1024 (m ((c : Thread nD τ).loc main_arg1)) shapeCasts_S1024_S1x1024 := by
  show StableHlo.after (List.flatten [hostOps0, hostOps0_1, hostOps0_2, hostOps0_3, hostOps0_4, hostOps0_5, hostOps0_6]) _ (Proc.devRef .tc main_v14) = _
  simp only [hostOps0, hostOps0_1, hostOps0_2, hostOps0_3, hostOps0_4, hostOps0_5, hostOps0_6, List.flatten_cons, List.flatten_nil, List.append_nil, List.cons_append, List.nil_append]
  after_results
  rfl

/-- Argument 4 as one row. -/
theorem V_v17 : V m c main_v17 = shapeCast S1x1024 (m ((c : Thread nD τ).loc main_arg4)) shapeCasts_S1024_S1x1024 := by
  show StableHlo.after (List.flatten [hostOps0, hostOps0_1, hostOps0_2, hostOps0_3, hostOps0_4, hostOps0_5, hostOps0_6]) _ (Proc.devRef .tc main_v17) = _
  simp only [hostOps0, hostOps0_1, hostOps0_2, hostOps0_3, hostOps0_4, hostOps0_5, hostOps0_6, List.flatten_cons, List.flatten_nil, List.append_nil, List.cons_append, List.nil_append]
  after_results
  rfl

/-- Argument 6 as one row. -/
theorem V_v18 : V m c main_v18 = shapeCast S1x1024 (m ((c : Thread nD τ).loc main_arg6)) shapeCasts_S1024_S1x1024 := by
  show StableHlo.after (List.flatten [hostOps0, hostOps0_1, hostOps0_2, hostOps0_3, hostOps0_4, hostOps0_5, hostOps0_6]) _ (Proc.devRef .tc main_v18) = _
  simp only [hostOps0, hostOps0_1, hostOps0_2, hostOps0_3, hostOps0_4, hostOps0_5, hostOps0_6, List.flatten_cons, List.flatten_nil, List.append_nil, List.cons_append, List.nil_append]
  after_results
  rfl

/-- Argument 7 as one row. -/
theorem V_v19 : V m c main_v19 = shapeCast S1x1024 (m ((c : Thread nD τ).loc main_arg7)) shapeCasts_S1024_S1x1024 := by
  show StableHlo.after (List.flatten [hostOps0, hostOps0_1, hostOps0_2, hostOps0_3, hostOps0_4, hostOps0_5, hostOps0_6]) _ (Proc.devRef .tc main_v19) = _
  simp only [hostOps0, hostOps0_1, hostOps0_2, hostOps0_3, hostOps0_4, hostOps0_5, hostOps0_6, List.flatten_cons, List.flatten_nil, List.append_nil, List.cons_append, List.nil_append]
  after_results
  rfl

/-- Argument 8 as one row. -/
theorem V_v20 : V m c main_v20 = shapeCast S1x1024 (m ((c : Thread nD τ).loc main_arg8)) shapeCasts_S1024_S1x1024 := by
  show StableHlo.after (List.flatten [hostOps0, hostOps0_1, hostOps0_2, hostOps0_3, hostOps0_4, hostOps0_5, hostOps0_6]) _ (Proc.devRef .tc main_v20) = _
  simp only [hostOps0, hostOps0_1, hostOps0_2, hostOps0_3, hostOps0_4, hostOps0_5, hostOps0_6, List.flatten_cons, List.flatten_nil, List.append_nil, List.cons_append, List.nil_append]
  after_results
  rfl

/-- Argument 2, rounded. -/
theorem V_v15 : V m c main_v15 = (truncf (F := Ideal) (s := S1024x5120) .bf16 (m ((c : Thread nD τ).loc main_arg2)) bitsLt_bf16_f32) := by
  show StableHlo.after (List.flatten [hostOps0, hostOps0_1, hostOps0_2, hostOps0_3, hostOps0_4, hostOps0_5, hostOps0_6]) _ (Proc.devRef .tc main_v15) = _
  simp only [hostOps0, hostOps0_1, hostOps0_2, hostOps0_3, hostOps0_4, hostOps0_5, hostOps0_6, List.flatten_cons, List.flatten_nil, List.append_nil, List.cons_append, List.nil_append]
  after_results

/-- Argument 3, rounded. -/
theorem V_v16 : V m c main_v16 = (truncf (F := Ideal) (s := S4x256x256) .bf16 (m ((c : Thread nD τ).loc main_arg3)) bitsLt_bf16_f32) := by
  show StableHlo.after (List.flatten [hostOps0, hostOps0_1, hostOps0_2, hostOps0_3, hostOps0_4, hostOps0_5, hostOps0_6]) _ (Proc.devRef .tc main_v16) = _
  simp only [hostOps0, hostOps0_1, hostOps0_2, hostOps0_3, hostOps0_4, hostOps0_5, hostOps0_6, List.flatten_cons, List.flatten_nil, List.append_nil, List.cons_append, List.nil_append]
  after_results

/-- Argument 9, rounded. -/
theorem V_v21 : V m c main_v21 = (truncf (F := Ideal) (s := S2048x1024) .bf16 (m ((c : Thread nD τ).loc main_arg9)) bitsLt_bf16_f32) := by
  show StableHlo.after (List.flatten [hostOps0, hostOps0_1, hostOps0_2, hostOps0_3, hostOps0_4, hostOps0_5, hostOps0_6]) _ (Proc.devRef .tc main_v21) = _
  simp only [hostOps0, hostOps0_1, hostOps0_2, hostOps0_3, hostOps0_4, hostOps0_5, hostOps0_6, List.flatten_cons, List.flatten_nil, List.append_nil, List.cons_append, List.nil_append]
  after_results

end Cert.PoolConv

end
-- ==== Proof.Seq.lean ====
/- The layer's sequences and weights, read from the argument arrays. -/
module

public import proofs.«01_k».proof.Proof.Spec
public import Idealize.ShloMosaic.Lib.Pointwise

@[expose] public section

noncomputable section

namespace Cert.PoolConv

open Idealize.ShloMosaic

/-- Sequence `b` of the input, zero after its end, and the weights. -/
def seq (a0 : Vec Ideal ⟨3, ![4, 4096, 1024]⟩ .f32) (a1 : Vec Ideal ⟨1, ![1024]⟩ .f32)
    (a2 : Vec Ideal ⟨2, ![1024, 5120]⟩ .f32) (a3 : Vec Ideal ⟨3, ![4, 256, 256]⟩ .f32) (a4 : Vec Ideal ⟨1, ![1024]⟩ .f32)
    (a5 : Vec Ideal ⟨2, ![31, 1024]⟩ .f32) (a6 a7 a8 : Vec Ideal ⟨1, ![1024]⟩ .f32)
    (a9 : Vec Ideal ⟨2, ![2048, 1024]⟩ .f32) (b : Fin 4) : Par where
  x t k := if h : t < 4096 then a0 (ix3 b ⟨t, h⟩ k) else 0
  ng k := a1 (ix1 k)
  win k j := a2 (ix2 k j)
  pw g k j := a3 (ix3 g k j)
  ps k := a4 (ix1 k)
  cw k j := if h : k < 31 then a5 (ix2 ⟨k, h⟩ j) else 0
  cb k := a6 (ix1 k)
  cg k := a7 (ix1 k)
  cbeta k := a8 (ix1 k)
  wout k j := a9 (ix2 k j)

variable {a0 : Vec Ideal ⟨3, ![4, 4096, 1024]⟩ .f32} {a1 : Vec Ideal ⟨1, ![1024]⟩ .f32}
  {a2 : Vec Ideal ⟨2, ![1024, 5120]⟩ .f32} {a3 : Vec Ideal ⟨3, ![4, 256, 256]⟩ .f32} {a4 : Vec Ideal ⟨1, ![1024]⟩ .f32}
  {a5 : Vec Ideal ⟨2, ![31, 1024]⟩ .f32} {a6 a7 a8 : Vec Ideal ⟨1, ![1024]⟩ .f32}
  {a9 : Vec Ideal ⟨2, ![2048, 1024]⟩ .f32}

/-- The input at a position of the sequence. -/
theorem seq_x {b : Fin 4} {t : ℕ} (h : t < 4096) (k : Fin 1024) :
    (seq a0 a1 a2 a3 a4 a5 a6 a7 a8 a9 b).x t k = a0 (ix3 b ⟨t, h⟩ k) := dif_pos h

/-- A tap of the convolution. -/
theorem seq_cw {b : Fin 4} {k : ℕ} (h : k < 31) (j : Fin 1024) :
    (seq a0 a1 a2 a3 a4 a5 a6 a7 a8 a9 b).cw k j = a5 (ix2 ⟨k, h⟩ j) := dif_pos h

end Cert.PoolConv

end
-- ==== Proof.Inputs.lean ====
/- What the kernel's windows read at a grid point: a tile of one sequence, and the weights. -/
module

public import proofs.«01_k».proof.Proof.Host
public import proofs.«01_k».proof.Proof.Seq
public import Idealize.ShloMosaic.Lib.Pipeline.Value

@[expose] public section

set_option maxRecDepth 16384

noncomputable section

namespace Cert.PoolConv

open Idealize.ShloMosaic Idealize.ShloMosaic.TcCoe Cert.KernelIdeal Cert.KernelIdeal.Gen

/-- The input's window moves with the grid point; the other windows stay. -/
theorem index_0 : ∀ t : Fin cfg0.N, win0_0.index t (0 : Fin 3) = t.val / 16 ∧ win0_0.index t (1 : Fin 3) = t.val % 16
    ∧ win0_0.index t (2 : Fin 3) = 0 := (by decide +kernel : ∀ t : Fin grid0.N, _)

/-- Window 1 stays at its first block. -/
theorem index_1 : ∀ (t : Fin cfg0.N) (a : Fin 3), win0_1.index t a = 0 := (by decide +kernel : ∀ (t : Fin grid0.N) (a : Fin 3), _)

/-- Window 2 stays at its first block. -/
theorem index_2 : ∀ (t : Fin cfg0.N) (a : Fin 2), win0_2.index t a = 0 := (by decide +kernel : ∀ (t : Fin grid0.N) (a : Fin 2), _)

/-- Window 3 stays at its first block. -/
theorem index_3 : ∀ (t : Fin cfg0.N) (a : Fin 2), win0_3.index t a = 0 := (by decide +kernel : ∀ (t : Fin grid0.N) (a : Fin 2), _)

/-- Window 4 stays at its first block. -/
theorem index_4 : ∀ (t : Fin cfg0.N) (a : Fin 3), win0_4.index t a = 0 := (by decide +kernel : ∀ (t : Fin grid0.N) (a : Fin 3), _)

/-- Window 5 stays at its first block. -/
theorem index_5 : ∀ (t : Fin cfg0.N) (a : Fin 2), win0_5.index t a = 0 := (by decide +kernel : ∀ (t : Fin grid0.N) (a : Fin 2), _)

/-- Window 6 stays at its first block. -/
theorem index_6 : ∀ (t : Fin cfg0.N) (a : Fin 2), win0_6.index t a = 0 := (by decide +kernel : ∀ (t : Fin grid0.N) (a : Fin 2), _)

/-- Window 7 stays at its first block. -/
theorem index_7 : ∀ (t : Fin cfg0.N) (a : Fin 2), win0_7.index t a = 0 := (by decide +kernel : ∀ (t : Fin grid0.N) (a : Fin 2), _)

/-- Window 8 stays at its first block. -/
theorem index_8 : ∀ (t : Fin cfg0.N) (a : Fin 2), win0_8.index t a = 0 := (by decide +kernel : ∀ (t : Fin grid0.N) (a : Fin 2), _)

/-- Window 9 stays at its first block. -/
theorem index_9 : ∀ (t : Fin cfg0.N) (a : Fin 2), win0_9.index t a = 0 := (by decide +kernel : ∀ (t : Fin grid0.N) (a : Fin 2), _)

/-- Window 10 stays at its first block. -/
theorem index_10 : ∀ (t : Fin cfg0.N) (a : Fin 2), win0_10.index t a = 0 := (by decide +kernel : ∀ (t : Fin grid0.N) (a : Fin 2), _)

/-- The tile's number within its sequence. -/
theorem coord_1 (t : Fin cfg0.N) : (grid0.coords t 1).val = t.val % 16 := by
  have h := Pipeline.Grid.coords_val (G := grid0) t 1 (S := 1) (B := 16) (by decide) rfl
  omega

/-- A row of 1024 numbers reshaped from a vector. -/
theorem row_at (v : Vec Ideal S1024 .f32) (k : Fin 1024) : shapeCast S1x1024 v shapeCasts_S1024_S1x1024 (ix2 0 k) = v (ix1 k) := by
  pointwise

variable (m : (ℓ : Loc nD τ sig) → Idealize.ShloMosaic.Buf (Elt Ideal) ℓ) (c : Dev nD)

/-- Sequence `b` and the weights, as core `c`'s memory holds them at the start. -/
abbrev held (b : Fin 4) : Par :=
  seq (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) b

/-- Window 1 reads its whole array. -/
theorem blk_1 (t : Fin cfg0.N) (j : S2x256x256.Idx) : iblk m c 1 t j = V m c main_v13 j :=
  congrArg (V m c main_v13) (funext fun a => Fin.ext (win0_1.rect_emb_val_of_index_zero t a (index_1 t a) j))

/-- Window 2 reads its whole array. -/
theorem blk_2 (t : Fin cfg0.N) (j : S1x1024.Idx) : iblk m c 2 t j = V m c main_v14 j :=
  congrArg (V m c main_v14) (funext fun a => Fin.ext (win0_2.rect_emb_val_of_index_zero t a (index_2 t a) j))

/-- Window 3 reads its whole array. -/
theorem blk_3 (t : Fin cfg0.N) (j : S1024x5120.Idx) : iblk m c 3 t j = V m c main_v15 j :=
  congrArg (V m c main_v15) (funext fun a => Fin.ext (win0_3.rect_emb_val_of_index_zero t a (index_3 t a) j))

/-- Window 4 reads its whole array. -/
theorem blk_4 (t : Fin cfg0.N) (j : S4x256x256.Idx) : iblk m c 4 t j = V m c main_v16 j :=
  congrArg (V m c main_v16) (funext fun a => Fin.ext (win0_4.rect_emb_val_of_index_zero t a (index_4 t a) j))

/-- Window 5 reads its whole array. -/
theorem blk_5 (t : Fin cfg0.N) (j : S1x1024.Idx) : iblk m c 5 t j = V m c main_v17 j :=
  congrArg (V m c main_v17) (funext fun a => Fin.ext (win0_5.rect_emb_val_of_index_zero t a (index_5 t a) j))

/-- Window 6 reads its whole array. -/
theorem blk_6 (t : Fin cfg0.N) (j : S31x1024.Idx) : iblk m c 6 t j = V m c main_arg5 j :=
  congrArg (V m c main_arg5) (funext fun a => Fin.ext (win0_6.rect_emb_val_of_index_zero t a (index_6 t a) j))

/-- Window 7 reads its whole array. -/
theorem blk_7 (t : Fin cfg0.N) (j : S1x1024.Idx) : iblk m c 7 t j = V m c main_v18 j :=
  congrArg (V m c main_v18) (funext fun a => Fin.ext (win0_7.rect_emb_val_of_index_zero t a (index_7 t a) j))

/-- Window 8 reads its whole array. -/
theorem blk_8 (t : Fin cfg0.N) (j : S1x1024.Idx) : iblk m c 8 t j = V m c main_v19 j :=
  congrArg (V m c main_v19) (funext fun a => Fin.ext (win0_8.rect_emb_val_of_index_zero t a (index_8 t a) j))

/-- Window 9 reads its whole array. -/
theorem blk_9 (t : Fin cfg0.N) (j : S1x1024.Idx) : iblk m c 9 t j = V m c main_v20 j :=
  congrArg (V m c main_v20) (funext fun a => Fin.ext (win0_9.rect_emb_val_of_index_zero t a (index_9 t a) j))

/-- Window 10 reads its whole array. -/
theorem blk_10 (t : Fin cfg0.N) (j : S2048x1024.Idx) : iblk m c 10 t j = V m c main_v21 j :=
  congrArg (V m c main_v21) (funext fun a => Fin.ext (win0_10.rect_emb_val_of_index_zero t a (index_10 t a) j))

/-- The input's block: 256 positions of one sequence. -/
theorem blk_0 (t : Fin cfg0.N) (b : Fin 4) (hb : b.val = t.val / 16) (r : Fin 256) (k : Fin 1024) (h : 256 * (t.val % 16) + r.val < 4096) :
    (iblk m c 0 t : Vec Ideal S1x256x1024 .f32) (ix3 0 r k) = m ((c : Thread nD τ).loc main_arg0) (ix3 b ⟨256 * (t.val % 16) + r.val, h⟩ k) := by
  rw [← V_main_arg0 m c]
  obtain ⟨e0, e1, e2⟩ := index_0 t
  refine congrArg (V m c main_arg0) (funext fun a => Fin.ext ?_)
  refine (win0_0.rect_emb_val t _ a).trans ?_
  match a with
  | ⟨0, _⟩ => show win0_0.index t (0 : Fin 3) * 1 + 0 = b.val; omega
  | ⟨1, _⟩ => show win0_0.index t (1 : Fin 3) * 256 + r.val = 256 * (t.val % 16) + r.val; omega
  | ⟨2, _⟩ => show win0_0.index t (2 : Fin 3) * 1024 + k.val = k.val; omega

/-- The windows' blocks at a point are its tile's inputs. -/
theorem ins (t : Fin cfg0.N) (b : Fin 4) (hb : b.val = t.val / 16) :
    Ins (held m c b) (256 * (t.val % 16)) (iblk m c 0 t) (iblk m c 1 t) (iblk m c 2 t) (iblk m c 3 t) (iblk m c 4 t) (iblk m c 5 t)
      (iblk m c 6 t) (iblk m c 7 t) (iblk m c 8 t) (iblk m c 9 t) (iblk m c 10 t) where
  x r k := by
    have h : 256 * (t.val % 16) + r.val < 4096 := by omega
    exact (blk_0 m c t b hb r k h).trans (seq_x h k).symm
  perm r k := (blk_1 m c t _).trans ((congrFun (V_v13 m c) _).trans (stack_0 r k))
  unperm r k := (blk_1 m c t _).trans ((congrFun (V_v13 m c) _).trans (stack_1 r k))
  ng k := (blk_2 m c t _).trans ((congrFun (V_v14 m c) _).trans (row_at _ k))
  win k j := (blk_3 m c t _).trans (congrFun (V_v15 m c) _)
  pw g k j := (blk_4 m c t _).trans (congrFun (V_v16 m c) _)
  ps k := (blk_5 m c t _).trans ((congrFun (V_v17 m c) _).trans (row_at _ k))
  cw k j := (blk_6 m c t _).trans ((congrFun (V_main_arg5 m c) _).trans (seq_cw k.isLt j).symm)
  cb k := (blk_7 m c t _).trans ((congrFun (V_v18 m c) _).trans (row_at _ k))
  cg k := (blk_8 m c t _).trans ((congrFun (V_v19 m c) _).trans (row_at _ k))
  cbeta k := (blk_9 m c t _).trans ((congrFun (V_v20 m c) _).trans (row_at _ k))
  wout k j := (blk_10 m c t _).trans (congrFun (V_v21 m c) _)

end Cert.PoolConv

end
-- ==== Proof.Sweep.lean ====
/- The grid, point by point: every tile leaves the layer at its positions, and carries the two buffers on. -/
module

public import proofs.«01_k».proof.Proof.Gen.KernelIdeal.Value
public import proofs.«01_k».proof.Proof.FirstBlock
public import proofs.«01_k».proof.Proof.LaterBlock
public import proofs.«01_k».proof.Proof.Inputs

@[expose] public section

set_option maxRecDepth 16384

noncomputable section

namespace Cert.PoolConv

open Idealize.ShloMosaic Idealize.ShloMosaic.TcCoe Cert.KernelIdeal Cert.KernelIdeal.Gen Cert.KernelIdeal.Value

variable (m : (ℓ : Loc nD τ sig) → Idealize.ShloMosaic.Buf (Elt Ideal) ℓ) (c : Dev nD)

/-- What point `t` leaves: its block of the layer, and the two buffers for the next tile. -/
def Left (t : Fin cfg0.N) (b : Fin 4) : Prop :=
  (∀ (r : Fin 256) (j : Fin 1024), (outsAt0 m c t.val t.isLt).1 (ix3 0 r j) = out (held m c b) (256 * (t.val % 16) + r.val) j)
    ∧ Carry (A (held m c b)) (256 * (t.val % 16) + 256) (outsAt0 m c t.val t.isLt).2.1
    ∧ Carry (U (held m c b)) (256 * (t.val % 16) + 256) (outsAt0 m c t.val t.isLt).2.2

set_option maxHeartbeats 1000000 in
/-- The first tile of a sequence. -/
theorem left_first (t : Fin cfg0.N) (b : Fin 4) (hb : b.val = t.val / 16) (h0 : t.val % 16 = 0) : Left m c t b := by
  have hI := ins m c t b hb
  have hC : 256 * (t.val % 16) = 256 * (grid0.coords t 1).val := by rw [coord_1]
  have hT : 256 * (t.val % 16) = 0 := by omega
  unfold Left
  rw [outsAt0_A m c t h0]
  dsimp only
  generalize 256 * (t.val % 16) = T at hI hC hT ⊢
  refine ⟨fun r j => ?_, ?_, ?_⟩
  · exact First.block hC hT hI r j
  · exact First.carry_a hT hI
  · exact First.carry_u hT hI

set_option maxHeartbeats 1000000 in
/-- A later tile, of the buffers the tile before it left. -/
theorem left_later (t : Fin cfg0.N) (b : Fin 4) (hb : b.val = t.val / 16) (h0 : ¬t.val % 16 = 0)
    (hA : Carry (A (held m c b)) (256 * (t.val % 16)) (outsAt0 m c (t.val - 1) (by omega)).2.1)
    (hU : Carry (U (held m c b)) (256 * (t.val % 16)) (outsAt0 m c (t.val - 1) (by omega)).2.2) : Left m c t b := by
  have hI := ins m c t b hb
  have hC : 256 * (t.val % 16) = 256 * (grid0.coords t 1).val := by rw [coord_1]
  have hT : 256 ≤ 256 * (t.val % 16) := by omega
  have hN : 256 * (t.val % 16) + 256 ≤ 4096 := by omega
  unfold Left
  rw [outsAt0_B m c t h0]
  dsimp only
  generalize 256 * (t.val % 16) = T at hI hC hT hN hA hU ⊢
  refine ⟨fun r j => ?_, ?_, ?_⟩
  · exact Later.block hC hT hN hA hU hI r j
  · exact Later.carry_a hT hA hI
  · exact Later.carry_u hT hU hI

/-- Every point, by induction. -/
theorem left (n : ℕ) : ∀ (hn : n < cfg0.N) (b : Fin 4) (_ : b.val = n / 16), Left m c ⟨n, hn⟩ b := by
  induction n with
  | zero => exact fun hn b hb => left_first m c ⟨0, hn⟩ b hb (Nat.zero_mod 16)
  | succ n ih =>
    intro hn b hb
    by_cases h0 : (n + 1) % 16 = 0
    · exact left_first m c ⟨n + 1, hn⟩ b hb h0
    · obtain ⟨-, hA, hU⟩ := ih (by omega) b (by omega)
      have hs : 256 * (n % 16) + 256 = 256 * ((n + 1) % 16) := by omega
      simp only [hs] at hA hU
      exact left_later m c ⟨n + 1, hn⟩ b hb h0 hA hU

/-- So the result array is the layer. -/
theorem result_at (b : Fin 4) (t : Fin 4096) (j : Fin 1024) :
    (G11 m c : Vec Ideal S4x4096x1024 .f32) (ix3 b t j) = out (held m c b) t.val j := by
  have hN : cfg0.N = 64 := N_0
  have hp : pt11Of (ix3 b t j) = 16 * b.val + t.val / 256 := by
    show 16 * (b.val / 1 - 0) + 1 * (t.val / 256 - 0) + 1 * (j.val / 1024 - 0) = _
    omega
  have hlt : pt11Of (ix3 b t j) < cfg0.N := by omega
  unfold G11
  rw [dif_pos hlt, ← outsAt0_sweep m c _ hlt]
  have h := (left m c _ hlt b (by omega)).1 ⟨t.val % 256, Nat.mod_lt _ (by omega)⟩ j
  have hl : loc11Of (ix3 b t j) = ix3 0 ⟨t.val % 256, Nat.mod_lt _ (by omega)⟩ j := by
    funext a
    apply Fin.ext
    match a with
    | ⟨0, _⟩ => show b.val % 1 = 0; omega
    | ⟨1, _⟩ => show t.val % 256 = t.val % 256; rfl
    | ⟨2, _⟩ => show j.val % 1024 = j.val; omega
  rw [hl, h]
  congr 1
  show 256 * (pt11Of (ix3 b t j) % 16) + t.val % 256 = t.val
  omega

end Cert.PoolConv

end
-- ==== Proof.RefIn.lean ====
/- The reference: normalisation, input projection and the gates. -/
module

public import proofs.«01_k».proof.Proof.Gen.ReferenceIdeal.Read
public import proofs.«01_k».proof.Proof.Seq

@[expose] public section

set_option maxRecDepth 16384

noncomputable section

namespace Cert.PoolConv.Ref

open Idealize.ShloMosaic Cert.ReferenceIdeal Cert.ReferenceIdeal.Read

variable {a0 : Vec Ideal S4x4096x1024 .f32} {a1 : Vec Ideal S1024 .f32} {a2 : Vec Ideal S1024x5120 .f32}
  {a3 : Vec Ideal S4x256x256 .f32} {a4 : Vec Ideal S1024 .f32} {a5 : Vec Ideal S31x1024 .f32} {a6 a7 a8 : Vec Ideal S1024 .f32}
  {a9 : Vec Ideal S2048x1024 .f32}

/-- The normalised input. -/
theorem h_at (b : Fin 4) (t : Fin 4096) (k : Fin 1024) :
    val_main_v12 (F := Ideal) a0 a1 (ix3 b t k) = H (seq a0 a1 a2 a3 a4 a5 a6 a7 a8 a9 b) t.val k := by
  unfold H
  simp only [seq_x t.isLt]
  unfold val_main_v12 val_main_v9 val_main_v8 val_main_v7 val_main_v6 val_main_v4 val_main_v2 val_main_v1 val_main_v0 val_main_v3 val_main_v5
    val_main_v11 val_main_v10 val_main_cst val_main_cst_0 val_main_cst_1
  pointwise
  rfl

/-- The input projection. -/
theorem proj_at (b : Fin 4) (t : Fin 4096) (j : Fin 5120) :
    val_main_v13 (F := Ideal) a0 a1 a2 (ix3 b t j) = proj (seq a0 a1 a2 a3 a4 a5 a6 a7 a8 a9 b) t.val j := by
  rw [proj]
  unfold val_main_v13
  pointwise [h_at (a2 := a2) (a3 := a3) (a4 := a4) (a5 := a5) (a6 := a6) (a7 := a7) (a8 := a8) (a9 := a9)]
  rfl

/-- The pool's columns. -/
theorem a_at (b : Fin 4) (t : Fin 4096) (j : Fin 1024) :
    val_main_v14 (F := Ideal) a0 a1 a2 (ix3 b t j) = A (seq a0 a1 a2 a3 a4 a5 a6 a7 a8 a9 b) t.val j := by
  unfold A val_main_v14
  pointwise [proj_at (a3 := a3) (a4 := a4) (a5 := a5) (a6 := a6) (a7 := a7) (a8 := a8) (a9 := a9)]

/-- The convolution's columns, gated. -/
theorem u_at (b : Fin 4) (t : Fin 4096) (j : Fin 1024) :
    val_main_v141 (F := Ideal) a0 a1 a2 (ix3 b t j) = U (seq a0 a1 a2 a3 a4 a5 a6 a7 a8 a9 b) t.val j := by
  unfold U logi val_main_v141 val_main_v140 val_main_v139 val_main_v138 val_main_v137 val_main_v136 val_main_v135 val_main_v15 val_main_v16 val_main_cst_13 val_main_cst_14
  pointwise [proj_at (a3 := a3) (a4 := a4) (a5 := a5) (a6 := a6) (a7 := a7) (a8 := a8) (a9 := a9)]

/-- The output gate. -/
theorem z_at (b : Fin 4) (t : Fin 4096) (j : Fin 2048) :
    val_main_v402 (F := Ideal) a0 a1 a2 (ix3 b t j) = Z (seq a0 a1 a2 a3 a4 a5 a6 a7 a8 a9 b) t.val j := by
  unfold Z silu logi val_main_v402 val_main_v401 val_main_v400 val_main_v399 val_main_v398 val_main_v397 val_main_v396 val_main_v17 val_main_cst_24 val_main_cst_25
  pointwise [proj_at (a3 := a3) (a4 := a4) (a5 := a5) (a6 := a6) (a7 := a7) (a8 := a8) (a9 := a9)]

end Cert.PoolConv.Ref

end
-- ==== Proof.RefPool.lean ====
/- The reference: the pool of each group of 256 columns, by its delayed copies. -/
module

public import proofs.«01_k».proof.Proof.RefIn
public import proofs.«01_k».proof.Proof.Pool

@[expose] public section

set_option maxRecDepth 16384

noncomputable section

namespace Cert.PoolConv.Ref

open Idealize.ShloMosaic Cert.ReferenceIdeal Cert.ReferenceIdeal.Read

variable {a0 : Vec Ideal S4x4096x1024 .f32} {a1 : Vec Ideal S1024 .f32} {a2 : Vec Ideal S1024x5120 .f32}
  {a3 : Vec Ideal S4x256x256 .f32} {a4 : Vec Ideal S1024 .f32} {a5 : Vec Ideal S31x1024 .f32} {a6 a7 a8 : Vec Ideal S1024 .f32}
  {a9 : Vec Ideal S2048x1024 .f32}

/-- The zero word is the real zero. -/
theorem zero_word : (FloatOps.sitofp (F := Ideal) FTy.f32 0#32 : EReal) = 0 := by
  show ((((0#32 : BitVec 32).toInt : ℤ) : ℝ) : EReal) = 0
  simp

/-- A sequence of 4096 positions with `n` zeros in front, read at any position of the padded sequence. -/
theorem pad_read {f : ℕ → Fin 1024 → EReal} {n t m : ℕ} {c : Fin 1024} (hn : n + m = 32) (ht : t < 4096 + n) :
    (if _ : n ≤ t ∧ t - n < 4096 then f (t - n) c else FloatOps.sitofp (F := Ideal) FTy.f32 0#32) = back f (m + t) c := by
  rw [zero_word]
  unfold back
  by_cases h : n ≤ t
  · rw [dif_pos ⟨h, by omega⟩, if_neg (by omega), show m + t - 32 = t - n by omega]
  · rw [dif_neg (fun q => h q.1), if_pos (by omega)]

/-- The first group's columns with 1 zero in front. -/
theorem pad_0 (b : Fin 4) (t : Fin 4097) (k : Fin 256) :
    val_main_v26 (F := Ideal) a0 a1 a2 (ix3 b t k)
      = back (A (seq a0 a1 a2 a3 a4 a5 a6 a7 a8 a9 b)) (31 + t.val) ⟨k.val, by omega⟩ := by
  refine Eq.trans ?_ (pad_read (n := 1) rfl t.isLt)
  unfold val_main_v26 val_main_v19 val_main_call0_v0 val_main_c_3
  pointwise [a_at (a3 := a3) (a4 := a4) (a5 := a5) (a6 := a6) (a7 := a7) (a8 := a8) (a9 := a9)]

/-- The first group's pool: windows of 2. -/
theorem pool_0 (b : Fin 4) (t : Fin 4096) (k : Fin 256) :
    val_main_v32 (F := Ideal) a0 a1 a2 (ix3 b t k)
      = pool (seq a0 a1 a2 a3 a4 a5 a6 a7 a8 a9 b) t.val ⟨k.val, by omega⟩ := by
  unfold val_main_v32 val_main_v31 val_main_v30 val_main_v29 val_main_v28 val_main_v25 val_main_v24 val_main_v23 val_main_v22 val_main_c_2 val_main_v21
    val_main_v20 val_main_c val_main_v18 val_main_v19
  pointwise [pad_0 (a3 := a3) (a4 := a4) (a5 := a5) (a6 := a6) (a7 := a7) (a8 := a8) (a9 := a9),
    a_at (a3 := a3) (a4 := a4) (a5 := a5) (a6 := a6) (a7 := a7) (a8 := a8) (a9 := a9)]
  refine pool_of (w := 2) (width_eq (q := 0) (by show (k.val) / 256 = 0; omega)) rfl t.isLt (by norm_num) ?_ (back_add _ rfl).symm
  iterate 1 refine win_step ?_ (congrArg (fun m => back _ m _) (by omega))
  exact win_base (back_add _ rfl).symm

/-- The second group's columns with 3 zeros in front. -/
theorem pad_1 (b : Fin 4) (t : Fin 4099) (k : Fin 256) :
    val_main_v40 (F := Ideal) a0 a1 a2 (ix3 b t k)
      = back (A (seq a0 a1 a2 a3 a4 a5 a6 a7 a8 a9 b)) (29 + t.val) ⟨256 + k.val, by omega⟩ := by
  refine Eq.trans ?_ (pad_read (n := 3) rfl t.isLt)
  unfold val_main_v40 val_main_v33 val_main_call1_v0 val_main_c_6
  pointwise [a_at (a3 := a3) (a4 := a4) (a5 := a5) (a6 := a6) (a7 := a7) (a8 := a8) (a9 := a9)]

/-- The second group's pool: windows of 4. -/
theorem pool_1 (b : Fin 4) (t : Fin 4096) (k : Fin 256) :
    val_main_v50 (F := Ideal) a0 a1 a2 (ix3 b t k)
      = pool (seq a0 a1 a2 a3 a4 a5 a6 a7 a8 a9 b) t.val ⟨256 + k.val, by omega⟩ := by
  unfold val_main_v50 val_main_v49 val_main_v47 val_main_v46 val_main_v45 val_main_v33 val_main_v42 val_main_v43 val_main_v44 val_main_v48 val_main_v39
    val_main_v38 val_main_v37 val_main_v35 val_main_v18 val_main_v34 val_main_c_4 val_main_v36 val_main_c_5
  pointwise [pad_1 (a3 := a3) (a4 := a4) (a5 := a5) (a6 := a6) (a7 := a7) (a8 := a8) (a9 := a9),
    a_at (a3 := a3) (a4 := a4) (a5 := a5) (a6 := a6) (a7 := a7) (a8 := a8) (a9 := a9)]
  refine pool_of (w := 4) (width_eq (q := 1) (by show (256 + k.val) / 256 = 1; omega)) rfl t.isLt (by norm_num) ?_ (back_add _ rfl).symm
  iterate 3 refine win_step ?_ (congrArg (fun m => back _ m _) (by omega))
  exact win_base (back_add _ rfl).symm

/-- The third group's columns with 7 zeros in front. -/
theorem pad_2 (b : Fin 4) (t : Fin 4103) (k : Fin 256) :
    val_main_v58 (F := Ideal) a0 a1 a2 (ix3 b t k)
      = back (A (seq a0 a1 a2 a3 a4 a5 a6 a7 a8 a9 b)) (25 + t.val) ⟨512 + k.val, by omega⟩ := by
  refine Eq.trans ?_ (pad_read (n := 7) rfl t.isLt)
  unfold val_main_v58 val_main_v51 val_main_call2_v0 val_main_c_9
  pointwise [a_at (a3 := a3) (a4 := a4) (a5 := a5) (a6 := a6) (a7 := a7) (a8 := a8) (a9 := a9)]

/-- The third group's pool: windows of 8. -/
theorem pool_2 (b : Fin 4) (t : Fin 4096) (k : Fin 256) :
    val_main_v76 (F := Ideal) a0 a1 a2 (ix3 b t k)
      = pool (seq a0 a1 a2 a3 a4 a5 a6 a7 a8 a9 b) t.val ⟨512 + k.val, by omega⟩ := by
  unfold val_main_v76 val_main_v75 val_main_v73 val_main_v72 val_main_v71 val_main_v70 val_main_v69 val_main_v68 val_main_v67 val_main_v51 val_main_v60
    val_main_v61 val_main_v62 val_main_v63 val_main_v64 val_main_v65 val_main_v66 val_main_v74 val_main_v57 val_main_v56 val_main_v55 val_main_v53
    val_main_v18 val_main_v52 val_main_c_7 val_main_v54 val_main_c_8
  pointwise [pad_2 (a3 := a3) (a4 := a4) (a5 := a5) (a6 := a6) (a7 := a7) (a8 := a8) (a9 := a9),
    a_at (a3 := a3) (a4 := a4) (a5 := a5) (a6 := a6) (a7 := a7) (a8 := a8) (a9 := a9)]
  refine pool_of (w := 8) (width_eq (q := 2) (by show (512 + k.val) / 256 = 2; omega)) rfl t.isLt (by norm_num) ?_ (back_add _ rfl).symm
  iterate 7 refine win_step ?_ (congrArg (fun m => back _ m _) (by omega))
  exact win_base (back_add _ rfl).symm

/-- The fourth group's columns with 15 zeros in front. -/
theorem pad_3 (b : Fin 4) (t : Fin 4111) (k : Fin 256) :
    val_main_v84 (F := Ideal) a0 a1 a2 (ix3 b t k)
      = back (A (seq a0 a1 a2 a3 a4 a5 a6 a7 a8 a9 b)) (17 + t.val) ⟨768 + k.val, by omega⟩ := by
  refine Eq.trans ?_ (pad_read (n := 15) rfl t.isLt)
  unfold val_main_v84 val_main_v77 val_main_call3_v0 val_main_c_12
  pointwise [a_at (a3 := a3) (a4 := a4) (a5 := a5) (a6 := a6) (a7 := a7) (a8 := a8) (a9 := a9)]

/-- The fourth group's pool: windows of 16. -/
theorem pool_3 (b : Fin 4) (t : Fin 4096) (k : Fin 256) :
    val_main_v118 (F := Ideal) a0 a1 a2 (ix3 b t k)
      = pool (seq a0 a1 a2 a3 a4 a5 a6 a7 a8 a9 b) t.val ⟨768 + k.val, by omega⟩ := by
  unfold val_main_v118 val_main_v117 val_main_v115 val_main_v114 val_main_v113 val_main_v112 val_main_v111 val_main_v110 val_main_v109 val_main_v108
    val_main_v107 val_main_v106 val_main_v105 val_main_v104 val_main_v103 val_main_v102 val_main_v101 val_main_v77 val_main_v86 val_main_v87
    val_main_v88 val_main_v89 val_main_v90 val_main_v91 val_main_v92 val_main_v93 val_main_v94 val_main_v95 val_main_v96 val_main_v97 val_main_v98
    val_main_v99 val_main_v100 val_main_v116 val_main_v83 val_main_v82 val_main_v81 val_main_v79 val_main_v18 val_main_v78 val_main_c_10
    val_main_v80 val_main_c_11
  pointwise [pad_3 (a3 := a3) (a4 := a4) (a5 := a5) (a6 := a6) (a7 := a7) (a8 := a8) (a9 := a9),
    a_at (a3 := a3) (a4 := a4) (a5 := a5) (a6 := a6) (a7 := a7) (a8 := a8) (a9 := a9)]
  refine pool_of (w := 16) (width_eq (q := 3) (by show (768 + k.val) / 256 = 3; omega)) rfl t.isLt (by norm_num) ?_ (back_add _ rfl).symm
  iterate 15 refine win_step ?_ (congrArg (fun m => back _ m _) (by omega))
  exact win_base (back_add _ rfl).symm

end Cert.PoolConv.Ref

end
-- ==== Proof.RefConv.lean ====
/- The reference: the convolution, by its delayed copies. -/
module

public import proofs.«01_k».proof.Proof.RefPool

@[expose] public section

set_option maxRecDepth 16384

noncomputable section

namespace Cert.PoolConv.Ref

open Idealize.ShloMosaic Cert.ReferenceIdeal Cert.ReferenceIdeal.Read

variable {a0 : Vec Ideal S4x4096x1024 .f32} {a1 : Vec Ideal S1024 .f32} {a2 : Vec Ideal S1024x5120 .f32}
  {a3 : Vec Ideal S4x256x256 .f32} {a4 : Vec Ideal S1024 .f32} {a5 : Vec Ideal S31x1024 .f32} {a6 a7 a8 : Vec Ideal S1024 .f32}
  {a9 : Vec Ideal S2048x1024 .f32}

/-- The gated columns with 30 zeros in front. -/
theorem pad_u (b : Fin 4) (t : Fin 4126) (k : Fin 1024) :
    val_main_v142 (F := Ideal) a0 a1 a2 (ix3 b t k) = back (U (seq a0 a1 a2 a3 a4 a5 a6 a7 a8 a9 b)) (2 + t.val) k := by
  refine Eq.trans ?_ (pad_read (n := 30) rfl t.isLt)
  unfold val_main_v142 val_main_call4_v0 val_main_c_15
  pointwise [u_at (a3 := a3) (a4 := a4) (a5 := a5) (a6 := a6) (a7 := a7) (a8 := a8) (a9 := a9)]

/-- The sum of the first `m` taps. -/
def taps (p : Par) (n : ℕ) (c : Fin 1024) (m : ℕ) : EReal :=
  ∑ k ∈ Finset.range m, p.cw k c * back (U p) (n + 32 - (30 - k)) c

/-- The first tap. -/
theorem taps_first {p : Par} {n : ℕ} {c : Fin 1024} {a b : EReal} (ha : a = p.cw 0 c)
    (hb : b = back (U p) (n + 32 - (30 - 0)) c) : a * b = taps p n c 1 := by
  rw [ha, hb, taps, Finset.sum_range_one]

/-- The next tap. -/
theorem taps_step {p : Par} {n k : ℕ} {c : Fin 1024} {x a b : EReal} (hx : x = taps p n c k) (ha : a = p.cw k c)
    (hb : b = back (U p) (n + 32 - (30 - k)) c) : x + a * b = taps p n c (k + 1) := by
  rw [hx, ha, hb, taps, taps, Finset.sum_range_succ]

/-- The bias added to all 31 taps is the convolution. -/
theorem taps_conv {p : Par} {n : ℕ} {c : Fin 1024} {x a : EReal} (hx : x = taps p n c 31) (ha : a = p.cb c) :
    x + a = conv p n c := by
  rw [hx, ha, taps, conv, add_comm]

/-- The convolution. -/
theorem conv_at (b : Fin 4) (t : Fin 4096) (k : Fin 1024) :
    val_main_v363 (F := Ideal) a0 a1 a2 a5 a6 (ix3 b t k) = conv (seq a0 a1 a2 a3 a4 a5 a6 a7 a8 a9 b) t.val k := by
  unfold val_main_v363 val_main_v360 val_main_v354 val_main_v348 val_main_v342 val_main_v336 val_main_v330 val_main_v324 val_main_v318 val_main_v312
    val_main_v306 val_main_v300 val_main_v294 val_main_v288 val_main_v282 val_main_v276 val_main_v270 val_main_v264 val_main_v258 val_main_v252
    val_main_v246 val_main_v240 val_main_v234 val_main_v228 val_main_v222 val_main_v216 val_main_v210 val_main_v204 val_main_v198 val_main_v192
    val_main_v186 val_main_v180 val_main_v179 val_main_cst_16 val_main_v178 val_main_v177 val_main_v176 val_main_v175 val_main_v174 val_main_v173
    val_main_v185 val_main_v184 val_main_v183 val_main_v182 val_main_v181 val_main_v172 val_main_v191 val_main_v190 val_main_v189 val_main_v188
    val_main_v187 val_main_v171 val_main_v197 val_main_v196 val_main_v195 val_main_v194 val_main_v193 val_main_v170 val_main_v203 val_main_v202
    val_main_v201 val_main_v200 val_main_v199 val_main_v169 val_main_v209 val_main_v208 val_main_v207 val_main_v206 val_main_v205 val_main_v168
    val_main_v215 val_main_v214 val_main_v213 val_main_v212 val_main_v211 val_main_v167 val_main_v221 val_main_v220 val_main_v219 val_main_v218
    val_main_v217 val_main_v166 val_main_v227 val_main_v226 val_main_v225 val_main_v224 val_main_v223 val_main_v165 val_main_v233 val_main_v232
    val_main_v231 val_main_v230 val_main_v229 val_main_v164 val_main_v239 val_main_v238 val_main_v237 val_main_v236 val_main_v235 val_main_v163
    val_main_v245 val_main_v244 val_main_v243 val_main_v242 val_main_v241 val_main_v162 val_main_v251 val_main_v250 val_main_v249 val_main_v248
    val_main_v247 val_main_v161 val_main_v257 val_main_v256 val_main_v255 val_main_v254 val_main_v253 val_main_v160 val_main_v263 val_main_v262
    val_main_v261 val_main_v260 val_main_v259 val_main_v159 val_main_v269 val_main_v268 val_main_v267 val_main_v266 val_main_v265 val_main_v158
    val_main_v275 val_main_v274 val_main_v273 val_main_v272 val_main_v271 val_main_v157 val_main_v281 val_main_v280 val_main_v279 val_main_v278
    val_main_v277 val_main_v156 val_main_v287 val_main_v286 val_main_v285 val_main_v284 val_main_v283 val_main_v155 val_main_v293 val_main_v292
    val_main_v291 val_main_v290 val_main_v289 val_main_v154 val_main_v299 val_main_v298 val_main_v297 val_main_v296 val_main_v295 val_main_v153
    val_main_v305 val_main_v304 val_main_v303 val_main_v302 val_main_v301 val_main_v152 val_main_v311 val_main_v310 val_main_v309 val_main_v308
    val_main_v307 val_main_v151 val_main_v317 val_main_v316 val_main_v315 val_main_v314 val_main_v313 val_main_v150 val_main_v323 val_main_v322
    val_main_v321 val_main_v320 val_main_v319 val_main_v149 val_main_v329 val_main_v328 val_main_v327 val_main_v326 val_main_v325 val_main_v148
    val_main_v335 val_main_v334 val_main_v333 val_main_v332 val_main_v331 val_main_v147 val_main_v341 val_main_v340 val_main_v339 val_main_v338
    val_main_v337 val_main_v146 val_main_v347 val_main_v346 val_main_v345 val_main_v344 val_main_v343 val_main_v145 val_main_v353 val_main_v352
    val_main_v351 val_main_v350 val_main_v349 val_main_v144 val_main_v359 val_main_v358 val_main_v357 val_main_v356 val_main_v355 val_main_v143
    val_main_v362 val_main_v361
  pointwise [pad_u (a3 := a3) (a4 := a4) (a5 := a5) (a6 := a6) (a7 := a7) (a8 := a8) (a9 := a9)]
  refine taps_conv ?_ rfl
  iterate 30 refine taps_step ?_ (seq_cw (by decide) _).symm (congrArg (fun m => back _ m _) (by omega))
  exact taps_first (seq_cw (by decide) _).symm (congrArg (fun m => back _ m _) (by omega))

end Cert.PoolConv.Ref

end
-- ==== Proof.RefOut.lean ====
/- The reference: the mix, the layer norm and the result. -/
module

public import proofs.«01_k».proof.Proof.RefConv

@[expose] public section

set_option maxRecDepth 16384

noncomputable section

namespace Cert.PoolConv.Ref

open Idealize.ShloMosaic Cert.ReferenceIdeal Cert.ReferenceIdeal.Read

variable {a0 : Vec Ideal S4x4096x1024 .f32} {a1 : Vec Ideal S1024 .f32} {a2 : Vec Ideal S1024x5120 .f32}
  {a3 : Vec Ideal S4x256x256 .f32} {a4 : Vec Ideal S1024 .f32} {a5 : Vec Ideal S31x1024 .f32} {a6 a7 a8 : Vec Ideal S1024 .f32}
  {a9 : Vec Ideal S2048x1024 .f32}

/-- The mix of each group's pooled columns. -/
theorem mix_at (b : Fin 4) (t : Fin 4096) (k : Fin 1024) :
    val_main_v131 (F := Ideal) a0 a1 a2 a3 (ix3 b t k) = mix (seq a0 a1 a2 a3 a4 a5 a6 a7 a8 a9 b) t.val k := by
  unfold val_main_v131 val_main_v121 val_main_v120 val_main_v119 val_main_v124 val_main_v123 val_main_v122 val_main_v127 val_main_v126 val_main_v125
    val_main_v130 val_main_v129 val_main_v128
  pointwise [pool_0 (a3 := a3) (a4 := a4) (a5 := a5) (a6 := a6) (a7 := a7) (a8 := a8) (a9 := a9), pool_1 (a3 := a3) (a4 := a4) (a5 := a5) (a6 := a6) (a7 := a7) (a8 := a8) (a9 := a9), pool_2 (a3 := a3) (a4 := a4) (a5 := a5) (a6 := a6) (a7 := a7) (a8 := a8) (a9 := a9), pool_3 (a3 := a3) (a4 := a4) (a5 := a5) (a6 := a6) (a7 := a7) (a8 := a8) (a9 := a9)]
  by_cases h0 : k.val < 256
  · rw [dif_pos h0]
    refine Eq.trans ?_ (mix_of (g := 0) (o := 0) (j := ⟨k.val, h0⟩) rfl (Nat.zero_add _).symm)
    simp only [Nat.zero_add]
    rfl
  rw [dif_neg h0]
  by_cases h1 : k.val - 256 < 256
  · rw [dif_pos h1]
    exact mix_of (g := 1) (o := 256) (j := ⟨k.val - 256, h1⟩) rfl (by show k.val = 256 + (k.val - 256); omega)
  rw [dif_neg h1]
  by_cases h2 : k.val - 256 - 256 < 256
  · rw [dif_pos h2]
    exact mix_of (g := 2) (o := 512) (j := ⟨k.val - 256 - 256, h2⟩) rfl (by show k.val = 512 + (k.val - 256 - 256); omega)
  rw [dif_neg h2]
  exact mix_of (g := 3) (o := 768) (j := ⟨k.val - 256 - 256 - 256, by omega⟩) rfl
    (by show k.val = 768 + (k.val - 256 - 256 - 256); omega)

/-- The convolution's row mean. -/
theorem mu_at (b : Fin 4) (t : Fin 4096) (u : Fin 1) :
    val_main_v367 (F := Ideal) a0 a1 a2 a5 a6 (ix3 b t u) = mu (seq a0 a1 a2 a3 a4 a5 a6 a7 a8 a9 b) t.val := by
  unfold mu val_main_v367 val_main_v366 val_main_v365 val_main_v364 val_main_cst_17 val_main_cst_18
  pointwise [conv_at (a3 := a3) (a4 := a4) (a7 := a7) (a8 := a8) (a9 := a9)]
  rfl

/-- The layer norm of the convolution. -/
theorem ln_at (b : Fin 4) (t : Fin 4096) (k : Fin 1024) :
    val_main_v387 (F := Ideal) a0 a1 a2 a5 a6 a7 a8 (ix3 b t k) = ln (seq a0 a1 a2 a3 a4 a5 a6 a7 a8 a9 b) t.val k := by
  unfold ln var cen val_main_v387 val_main_v386 val_main_v385 val_main_v384 val_main_v383 val_main_v382 val_main_v381 val_main_v380 val_main_v379
    val_main_v378 val_main_v377 val_main_v376 val_main_v375 val_main_v374 val_main_v373 val_main_v372 val_main_v371 val_main_v370 val_main_v369
    val_main_v368 val_main_cst_19 val_main_cst_20 val_main_cst_21
  pointwise [conv_at (a3 := a3) (a4 := a4) (a7 := a7) (a8 := a8) (a9 := a9), mu_at (a3 := a3) (a4 := a4) (a7 := a7) (a8 := a8) (a9 := a9)]
  rfl

/-- Its gate by itself. -/
theorem silu_at (b : Fin 4) (t : Fin 4096) (k : Fin 1024) :
    val_main_v394 (F := Ideal) a0 a1 a2 a5 a6 a7 a8 (ix3 b t k) = silu (ln (seq a0 a1 a2 a3 a4 a5 a6 a7 a8 a9 b) t.val k) := by
  unfold silu logi
  unfold val_main_v394 val_main_v393 val_main_v392 val_main_cst_23 val_main_v391 val_main_v390 val_main_cst_22 val_main_v389 val_main_v388
  pointwise [ln_at (a3 := a3) (a4 := a4) (a9 := a9)]

/-- The two halves side by side, gated. -/
theorem y_at (b : Fin 4) (t : Fin 4096) (j : Fin 2048) :
    val_main_v403 (F := Ideal) a0 a1 a2 a3 a4 a5 a6 a7 a8 (ix3 b t j) = y (seq a0 a1 a2 a3 a4 a5 a6 a7 a8 a9 b) t.val j := by
  unfold y
  unfold val_main_v403 val_main_v395 val_main_v134 val_main_v133 val_main_v132
  pointwise [mix_at (a4 := a4) (a5 := a5) (a6 := a6) (a7 := a7) (a8 := a8) (a9 := a9), silu_at (a3 := a3) (a4 := a4) (a9 := a9),
    z_at (a3 := a3) (a4 := a4) (a5 := a5) (a6 := a6) (a7 := a7) (a8 := a8) (a9 := a9)]
  split_ifs <;> rfl

/-- The reference's result. -/
theorem reference_at (b : Fin 4) (t : Fin 4096) (j : Fin 1024) :
    val_main_v405 (F := Ideal) a0 a1 a2 a3 a4 a5 a6 a7 a8 a9 (ix3 b t j) = out (seq a0 a1 a2 a3 a4 a5 a6 a7 a8 a9 b) t.val j := by
  unfold out
  rw [seq_x t.isLt]
  unfold val_main_v405 val_main_v404
  pointwise [y_at (a9 := a9)]
  rfl

end Cert.PoolConv.Ref

end
-- ==== Proof.ProjSpec.lean ====
/- The attention's input projection on one position, as functions of the column. -/
module

public import Idealize.ShloMosaic.Lib.Pointwise

@[expose] public section

noncomputable section

namespace Cert.MobaProj

open Idealize.ShloMosaic

/-- The number of columns, as the constant's bits give it. -/
def cN : EReal := Ideal.ofBits .f32 0x44800000#32

/-- The number under the square roots. -/
def cEps : EReal := Ideal.ofBits .f32 0x358637BD#32

/-- The number of columns of a head. -/
def c64 : EReal := Ideal.ofBits .f32 0x42800000#32

/-- The number of positions of a block. -/
def c256 : EReal := Ideal.ofBits .f32 0x43800000#32

/-- The factor on the queries: one over the square root of 64, in units of the logarithm of 2. -/
def scale : EReal := (((8 * Real.log 2)⁻¹ : ℝ) : EReal)

/-- A position's row `x` after its root mean square normalisation with the gains `g`. -/
def hn (x g : Fin 1024 → EReal) (k : Fin 1024) : EReal :=
  x k * Ideal.rsqrt (Ideal.div (∑ j, x j * x j) cN + cEps) * g k

/-- Column `j` of the row's projection by the weights `w`. -/
def pr (x g : Fin 1024 → EReal) (w : Fin 1024 → ℕ → EReal) (j : ℕ) : EReal := ∑ k, hn x g k * w k j

/-- The sum of the squares of the head of 64 columns that column `c` lies in. -/
def sq (v : ℕ → EReal) (c : ℕ) : EReal := ∑ d : Fin 64, v (c / 64 * 64 + d.val) * v (c / 64 * 64 + d.val)

/-- The root mean square normalisation within each head, with the head's gains `g`. -/
def hd (v g : ℕ → EReal) (c : ℕ) : EReal := v c * Ideal.rsqrt (Ideal.div (sq v c) c64 + cEps) * g (c % 64)

/-- The gate `z · logistic z`. -/
def silu (z : EReal) : EReal := z * Ideal.div 1 (1 + Ideal.exp (-z))

/-- The input (`x t k` at position `t`), the weights and the gains. -/
structure Par where
  x : ℕ → Fin 1024 → EReal
  ng : Fin 1024 → EReal
  w : Fin 1024 → ℕ → EReal
  gq : ℕ → EReal
  gk : ℕ → EReal

variable (p : Par)

/-- The queries at position `t`. -/
def Q (t c : ℕ) : EReal := hd (fun j => pr (p.x t) p.ng p.w j) p.gq c * scale

/-- The keys. -/
def K (t c : ℕ) : EReal := hd (fun j => pr (p.x t) p.ng p.w (1024 + j)) p.gk c

/-- The values. -/
def Vl (t c : ℕ) : EReal := pr (p.x t) p.ng p.w (2048 + c)

/-- The gates. -/
def Gz (t c : ℕ) : EReal := silu (pr (p.x t) p.ng p.w (3072 + c))

/-- The mean of the keys of the 256 positions from `t`. -/
def Km (t c : ℕ) : EReal := Ideal.div (∑ r : Fin 256, K p (t + r.val) c) c256

end Cert.MobaProj

end
-- ==== Proof.ProjHead.lean ====
/- The normalisation within heads as the kernel computes it, two heads side by side in 128 columns. -/
module

public import proofs.«01_k».proof.Proof.Gen.ProjIdeal.Skeleton
public import proofs.«01_k».proof.Proof.ProjSpec

@[expose] public section

noncomputable section

namespace Cert.MobaProj

open Idealize.ShloMosaic Cert.ProjIdeal Cert.ProjIdeal.Gen

/-- The constant's bits denote 64. -/
theorem c64_eq : c64 = ((64 : ℝ) : EReal) := by
  simp [c64, Ideal.ofBits, Ideal.ieee, -EReal.coe_mul]; norm_num

/-- The constant's bits denote one 64th. -/
theorem w64_eq : Ideal.ofBits .f32 0x3C800000#32 = ((1 / 64 : ℝ) : EReal) := by
  simp [Ideal.ofBits, Ideal.ieee, -EReal.coe_mul]; norm_num

/-- The kernel multiplies by one 64th where the layer divides by 64. -/
theorem mul_w64 (a : EReal) : a * Ideal.ofBits .f32 0x3C800000#32 = Ideal.div a c64 := by
  rw [w64_eq, c64_eq, Ideal.div_coe (by norm_num)]

/-- The factor on the queries is the named constant. -/
theorem scale_eq : Named.named (F := Ideal) Cert.ProjIdeal.κ "q_scale" (φ := .f32) 0x3E38AA3B#32 = scale :=
  IdealRules.named_const.ideal_named_scalar _ _ _ _ rfl

/-- The lane mask separates the first 64 lanes from the others. -/
theorem mask (x : Fin 128) :
    IntOp.cmpi CmpIPredicate.slt (BitVec.ofNat 32 x.val) 64#32 = if x.val < 64 then 1#1 else 0#1 := by
  revert x; decide +kernel

/-- A masked choice is a choice by the lane. -/
theorem sel {α : Type} (x : Fin 128) (a b : α) :
    Scalar.select (IntOp.cmpi CmpIPredicate.slt (BitVec.ofNat 32 x.val) 64#32) a b = if x.val < 64 then a else b := by
  rw [mask]
  by_cases h : x.val < 64 <;> simp [h, Scalar.select]

/-- A sum over 128 lanes is a sum over the two halves. -/
theorem sum_halves (f : Fin 128 → EReal) :
    (∑ x, f x) = (∑ d : Fin 64, f ⟨d.val, by omega⟩) + ∑ d : Fin 64, f ⟨64 + d.val, by omega⟩ :=
  Fin.sum_univ_add (a := 64) (b := 64) f

/-- The first half's sum. -/
theorem sum_low (f : Fin 128 → EReal) :
    (∑ x : Fin 128, if x.val < 64 then f x else 0) = ∑ d : Fin 64, f ⟨d.val, by omega⟩ := by
  rw [sum_halves]
  simp

/-- The second half's sum. -/
theorem sum_high (f : Fin 128 → EReal) :
    (∑ x : Fin 128, if x.val < 64 then 0 else f x) = ∑ d : Fin 64, f ⟨64 + d.val, by omega⟩ := by
  rw [sum_halves]
  simp

/-- The kernel's normalised column `l` of the 128 columns from `o` is the layer's normalised column `c = o + l`. -/
theorem head_of {f : Fin 128 → EReal} {v g : ℕ → EReal} {o c : ℕ} {l : Fin 128} {e : EReal} (ho : o % 128 = 0)
    (hf : ∀ x, f x = v (o + x.val)) (hc : c = o + l.val) (he : e = g (c % 64)) :
    f l * Ideal.rsqrt
        (Scalar.select (IntOp.cmpi CmpIPredicate.slt (BitVec.ofNat 32 l.val) 64#32)
            (∑ x : Fin 128, Scalar.select (IntOp.cmpi CmpIPredicate.slt (BitVec.ofNat 32 x.val) 64#32) (f x * f x) 0)
            (∑ x : Fin 128, Scalar.select (IntOp.cmpi CmpIPredicate.slt (BitVec.ofNat 32 x.val) 64#32) 0 (f x * f x))
          * Ideal.ofBits .f32 0x3C800000#32 + Ideal.ofBits .f32 0x358637BD#32) * e = hd v g c := by
  simp only [sel, sum_low, sum_high, mul_w64, hf]
  subst hc he
  unfold hd sq cEps
  by_cases h : l.val < 64
  · rw [if_pos h, show (o + l.val) / 64 * 64 = o by omega]
  · rw [if_neg h, show (o + l.val) / 64 * 64 = o + 64 by omega]
    simp only [Nat.add_assoc]

/-- The same for the first 128 columns. -/
theorem head_first {f : Fin 128 → EReal} {v g : ℕ → EReal} {l : Fin 128} {e : EReal}
    (hf : ∀ x, f x = v x.val) (he : e = g (l.val % 64)) :
    f l * Ideal.rsqrt
        (Scalar.select (IntOp.cmpi CmpIPredicate.slt (BitVec.ofNat 32 l.val) 64#32)
            (∑ x : Fin 128, Scalar.select (IntOp.cmpi CmpIPredicate.slt (BitVec.ofNat 32 x.val) 64#32) (f x * f x) 0)
            (∑ x : Fin 128, Scalar.select (IntOp.cmpi CmpIPredicate.slt (BitVec.ofNat 32 x.val) 64#32) 0 (f x * f x))
          * Ideal.ofBits .f32 0x3C800000#32 + Ideal.ofBits .f32 0x358637BD#32) * e = hd v g l.val :=
  head_of (o := 0) rfl (fun x => by rw [hf, Nat.zero_add]) (by omega) he

/-- The kernel's blocks at one grid point: 1024 positions from `T` of the input, the weights and the gains. -/
structure Ins (p : Par) (T : ℕ) (x0 : Vec Ideal S1x1024x1024 .f32) (x1 : Vec Ideal S1x1024 .f32)
    (x2 : Vec Ideal S1024x4096 .bf16) (x3 x4 : Vec Ideal S1x1024 .f32) : Prop where
  x : ∀ (r k : Fin 1024), x0 (ix3 0 r k) = p.x (T + r.val) k
  ng : ∀ k, x1 (ix2 0 k) = p.ng k
  w : ∀ k j, x2 (ix2 k j) = p.w k j.val
  gq : ∀ j : Fin 1024, x3 (ix2 0 j) = p.gq (j.val % 64)
  gk : ∀ j : Fin 1024, x4 (ix2 0 j) = p.gk (j.val % 64)

end Cert.MobaProj

end
-- ==== Proof.ProjRows.lean ====
/- The normalised rows of the kernel's four blocks of 256 positions, and their projections on the queries and keys. -/
module

public import proofs.«01_k».proof.Proof.Gen.ProjIdeal.Frame
public import proofs.«01_k».proof.Proof.ProjHead
public import proofs.«01_k».proof.Proof.Kit

@[expose] public section

noncomputable section

namespace Cert.MobaProj

open Idealize.ShloMosaic Cert.ProjIdeal Cert.ProjIdeal.Gen

variable {p : Par} {T : ℕ} {x0 : Vec Ideal S1x1024x1024 .f32} {x1 : Vec Ideal S1x1024 .f32}
  {x2 : Vec Ideal S1024x4096 .bf16} {x3 x4 : Vec Ideal S1x1024 .f32} (hI : Ins p T x0 x1 x2 x3 x4)
include hI

/-- The normalised rows of the first block. -/
theorem row0 (r : Fin 256) (k : Fin 1024) : k0_pay331 x0 x1 x2 x3 x4 (ix2 r k) = hn (p.x (T + r.val)) p.ng k := by
  unfold k0_pay331 k0_pay2
  pointwise [hI.x, hI.ng]
  rfl

/-- The normalised rows of the second block. -/
theorem row1 (r : Fin 256) (k : Fin 1024) :
    k0_pay347 x0 x1 x2 x3 x4 (ix2 r k) = hn (p.x (T + (256 + r.val))) p.ng k := by
  unfold k0_pay347 k0_pay346 k0_pay86 k0_pay85
  pointwise [hI.x, hI.ng]
  rfl

/-- The normalised rows of the third block. -/
theorem row2 (r : Fin 256) (k : Fin 1024) :
    k0_pay362 x0 x1 x2 x3 x4 (ix2 r k) = hn (p.x (T + (512 + r.val))) p.ng k := by
  unfold k0_pay362 k0_pay169
  pointwise [hI.x, hI.ng]
  rfl

/-- The normalised rows of the fourth block. -/
theorem row3 (r : Fin 256) (k : Fin 1024) :
    k0_pay380 x0 x1 x2 x3 x4 (ix2 r k) = hn (p.x (T + (768 + r.val))) p.ng k := by
  unfold k0_pay380 k0_pay379 k0_pay378 k0_pay377 k0_pay253 k0_pay252 k0_pay251 k0_pay250
  pointwise [hI.x, hI.ng]
  rfl

/-- The first block's query columns before their normalisation. -/
theorem query0 (r : Fin 256) (j : Fin 1024) :
    k0_pay3 (View.ld x0 r0_0) (View.ld x1 r0_1) (View.ld x2 r0_2) (ix2 r j) = pr (p.x (T + r.val)) p.ng p.w j.val := by
  have h := row0 hI
  unfold k0_pay331 at h
  unfold k0_pay3
  pointwise [h, hI.w]
  rfl

/-- The second block's query columns. -/
theorem query1 (r : Fin 256) (j : Fin 1024) :
    k0_pay87 (k0_pay346 x0 x1 x2 x3 x4) (View.ld x2 r0_2) (ix2 r j) = pr (p.x (T + (256 + r.val))) p.ng p.w j.val := by
  have h := row1 hI
  unfold k0_pay347 at h
  unfold k0_pay87
  pointwise [h, hI.w]
  rfl

/-- The third block's query columns. -/
theorem query2 (r : Fin 256) (j : Fin 1024) :
    k0_pay170 (View.ld x0 r0_41) (View.ld x1 r0_1) (View.ld x2 r0_2) (ix2 r j)
      = pr (p.x (T + (512 + r.val))) p.ng p.w j.val := by
  have h := row2 hI
  unfold k0_pay362 at h
  unfold k0_pay170
  pointwise [h, hI.w]
  rfl

/-- The fourth block's query columns. -/
theorem query3 (r : Fin 256) (j : Fin 1024) :
    k0_pay254 (k0_pay377 x0 x1 x2 x3 x4) (k0_pay378 x0 x1 x2 x3 x4) (k0_pay379 x0 x1 x2 x3 x4) (View.ld x2 r0_2) (ix2 r j)
      = pr (p.x (T + (768 + r.val))) p.ng p.w j.val := by
  have h := row3 hI
  unfold k0_pay380 at h
  unfold k0_pay254
  pointwise [h, hI.w]
  rfl

/-- The first block's key columns before their normalisation. -/
theorem key0 (r : Fin 256) (j : Fin 1024) :
    k0_pay41 (k0_pay331 x0 x1 x2 x3 x4) (View.ld x2 r0_11) (ix2 r j)
      = pr (p.x (T + r.val)) p.ng p.w (1024 + j.val) := by
  unfold k0_pay41
  pointwise [row0 hI, hI.w]
  rfl

/-- The second block's key columns. -/
theorem key1 (r : Fin 256) (j : Fin 1024) :
    k0_pay120 (k0_pay347 x0 x1 x2 x3 x4) (View.ld x2 r0_11) (ix2 r j)
      = pr (p.x (T + (256 + r.val))) p.ng p.w (1024 + j.val) := by
  unfold k0_pay120
  pointwise [row1 hI, hI.w]
  rfl

/-- The third block's key columns. -/
theorem key2 (r : Fin 256) (j : Fin 1024) :
    k0_pay205 (k0_pay362 x0 x1 x2 x3 x4) (View.ld x2 r0_11) (ix2 r j)
      = pr (p.x (T + (512 + r.val))) p.ng p.w (1024 + j.val) := by
  unfold k0_pay205
  pointwise [row2 hI, hI.w]
  rfl

/-- The fourth block's key columns. -/
theorem key3 (r : Fin 256) (j : Fin 1024) :
    k0_pay284 (k0_pay380 x0 x1 x2 x3 x4) (View.ld x2 r0_11) (ix2 r j)
      = pr (p.x (T + (768 + r.val))) p.ng p.w (1024 + j.val) := by
  unfold k0_pay284
  pointwise [row3 hI, hI.w]
  rfl

end Cert.MobaProj

end
-- ==== Proof.ProjKeys.lean ====
/- The kernel's normalised keys: eight groups of 128 columns in each block of 256 positions. -/
module

public import proofs.«01_k».proof.Proof.ProjRows

@[expose] public section

noncomputable section

namespace Cert.MobaProj

open Idealize.ShloMosaic Cert.ProjIdeal Cert.ProjIdeal.Gen

variable {p : Par} {T : ℕ} {x0 : Vec Ideal S1x1024x1024 .f32} {x1 : Vec Ideal S1x1024 .f32}
  {x2 : Vec Ideal S1024x4096 .bf16} {x3 x4 : Vec Ideal S1x1024 .f32} (hI : Ins p T x0 x1 x2 x3 x4)
include hI

/-- The first block's keys. -/
theorem keys0 (g : Fin 8) (r : Fin 256) (l : Fin 128) :
    (![k0_pay338 x0 x1 x2 x3 x4, k0_pay339 x0 x1 x2 x3 x4, k0_pay340 x0 x1 x2 x3 x4, k0_pay341 x0 x1 x2 x3 x4,
       k0_pay342 x0 x1 x2 x3 x4, k0_pay343 x0 x1 x2 x3 x4, k0_pay344 x0 x1 x2 x3 x4, k0_pay345 x0 x1 x2 x3 x4] :
       Fin 8 → FVec Ideal S256x128 .f32) g (ix2 r l)
      = K p (T + r.val) (g.val * 128 + l.val) := by
  fin_cases g
  all_goals
    simp only [k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62,
      k0_pay335, k0_pay336, k0_pay337, k0_pay338, k0_pay339, k0_pay340, k0_pay341, k0_pay342, k0_pay343, k0_pay344,
      k0_pay345, Matrix.cons_val]
    pointwise [key0 hI, hI.gk]
  · exact head_first (v := fun j => pr _ p.ng p.w (1024 + j)) (fun _ => rfl) rfl
  all_goals exact head_of (v := fun j => pr _ p.ng p.w (1024 + j)) (by decide) (fun _ => rfl) rfl rfl

/-- The second block's keys. -/
theorem keys1 (g : Fin 8) (r : Fin 256) (l : Fin 128) :
    (![k0_pay354 x0 x1 x2 x3 x4, k0_pay355 x0 x1 x2 x3 x4, k0_pay356 x0 x1 x2 x3 x4, k0_pay357 x0 x1 x2 x3 x4,
       k0_pay358 x0 x1 x2 x3 x4, k0_pay359 x0 x1 x2 x3 x4, k0_pay360 x0 x1 x2 x3 x4, k0_pay361 x0 x1 x2 x3 x4] :
       Fin 8 → FVec Ideal S256x128 .f32) g (ix2 r l)
      = K p (T + (256 + r.val)) (g.val * 128 + l.val) := by
  fin_cases g
  all_goals
    simp only [k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139,
      k0_pay140, k0_pay141, k0_pay142, k0_pay143, k0_pay144, k0_pay145, k0_pay351, k0_pay352, k0_pay353, k0_pay354,
      k0_pay355, k0_pay356, k0_pay357, k0_pay358, k0_pay359, k0_pay360, k0_pay361, Matrix.cons_val]
    pointwise [key1 hI, hI.gk]
  · exact head_first (v := fun j => pr _ p.ng p.w (1024 + j)) (fun _ => rfl) rfl
  all_goals exact head_of (v := fun j => pr _ p.ng p.w (1024 + j)) (by decide) (fun _ => rfl) rfl rfl

/-- The third block's keys. -/
theorem keys2 (g : Fin 8) (r : Fin 256) (l : Fin 128) :
    (![k0_pay369 x0 x1 x2 x3 x4, k0_pay370 x0 x1 x2 x3 x4, k0_pay371 x0 x1 x2 x3 x4, k0_pay372 x0 x1 x2 x3 x4,
       k0_pay373 x0 x1 x2 x3 x4, k0_pay374 x0 x1 x2 x3 x4, k0_pay375 x0 x1 x2 x3 x4, k0_pay376 x0 x1 x2 x3 x4] :
       Fin 8 → FVec Ideal S256x128 .f32) g (ix2 r l)
      = K p (T + (512 + r.val)) (g.val * 128 + l.val) := by
  fin_cases g
  all_goals
    simp only [k0_pay206, k0_pay207, k0_pay208, k0_pay209, k0_pay210, k0_pay211, k0_pay212, k0_pay213, k0_pay214,
      k0_pay215, k0_pay216, k0_pay217, k0_pay218, k0_pay219, k0_pay220, k0_pay221, k0_pay222, k0_pay223, k0_pay224,
      k0_pay225, k0_pay226, k0_pay227, k0_pay228, k0_pay229, k0_pay366, k0_pay367, k0_pay368, k0_pay369, k0_pay370,
      k0_pay371, k0_pay372, k0_pay373, k0_pay374, k0_pay375, k0_pay376, Matrix.cons_val]
    pointwise [key2 hI, hI.gk]
  · exact head_first (v := fun j => pr _ p.ng p.w (1024 + j)) (fun _ => rfl) rfl
  all_goals exact head_of (v := fun j => pr _ p.ng p.w (1024 + j)) (by decide) (fun _ => rfl) rfl rfl

/-- The fourth block's keys. -/
theorem keys3 (g : Fin 8) (r : Fin 256) (l : Fin 128) :
    (![k0_pay387 x0 x1 x2 x3 x4, k0_pay388 x0 x1 x2 x3 x4, k0_pay389 x0 x1 x2 x3 x4, k0_pay390 x0 x1 x2 x3 x4,
       k0_pay391 x0 x1 x2 x3 x4, k0_pay392 x0 x1 x2 x3 x4, k0_pay393 x0 x1 x2 x3 x4, k0_pay394 x0 x1 x2 x3 x4] :
       Fin 8 → FVec Ideal S256x128 .f32) g (ix2 r l)
      = K p (T + (768 + r.val)) (g.val * 128 + l.val) := by
  fin_cases g
  all_goals
    simp only [k0_pay285, k0_pay286, k0_pay287, k0_pay288, k0_pay289, k0_pay290, k0_pay291, k0_pay292, k0_pay293,
      k0_pay294, k0_pay295, k0_pay296, k0_pay297, k0_pay298, k0_pay299, k0_pay300, k0_pay301, k0_pay302, k0_pay303,
      k0_pay304, k0_pay305, k0_pay306, k0_pay307, k0_pay308, k0_pay309, k0_pay384, k0_pay385, k0_pay386, k0_pay387,
      k0_pay388, k0_pay389, k0_pay390, k0_pay391, k0_pay392, k0_pay393, k0_pay394, Matrix.cons_val]
    pointwise [key3 hI, hI.gk]
  · exact head_first (v := fun j => pr _ p.ng p.w (1024 + j)) (fun _ => rfl) rfl
  all_goals exact head_of (v := fun j => pr _ p.ng p.w (1024 + j)) (by decide) (fun _ => rfl) rfl rfl

end Cert.MobaProj

end
-- ==== Proof.ProjQueries.lean ====
/- The kernel's normalised queries: eight groups of 128 columns in each block of 256 positions. -/
module

public import proofs.«01_k».proof.Proof.ProjRows

@[expose] public section

noncomputable section

namespace Cert.MobaProj

open Idealize.ShloMosaic Cert.ProjIdeal Cert.ProjIdeal.Gen

variable {p : Par} {T : ℕ} {x0 : Vec Ideal S1x1024x1024 .f32} {x1 : Vec Ideal S1x1024 .f32}
  {x2 : Vec Ideal S1024x4096 .bf16} {x3 x4 : Vec Ideal S1x1024 .f32} (hI : Ins p T x0 x1 x2 x3 x4)
include hI

/-- The first block's queries. -/
theorem queries0 (g : Fin 8) (r : Fin 256) (l : Fin 128) :
    (![
        k0_pay32 (k0_pay11 (k0_pay333 x0 x1 x2 x3 x4) (k0_pay6 (View.ld x0 r0_0) (View.ld x1 r0_1) (View.ld
          x2 r0_2)) (k0_pay8 (View.ld x0 r0_0) (View.ld x1 r0_1) (View.ld x2 r0_2)) (k0_pay9 (View.ld x0
          r0_0) (View.ld x1 r0_1) (View.ld x2 r0_2)) k0_pay10),
        k0_pay33 (k0_pay12 (k0_pay332 x0 x1 x2 x3 x4) (k0_pay333 x0 x1 x2 x3 x4) (k0_pay334 x0 x1 x2 x3 x4)),
        k0_pay35 (k0_pay34 (k0_pay16 (k0_pay333 x0 x1 x2 x3 x4) (k0_pay334 x0 x1 x2 x3 x4) (k0_pay13
          (k0_pay332 x0 x1 x2 x3 x4)) (k0_pay14 (k0_pay332 x0 x1 x2 x3 x4)) (k0_pay15 (k0_pay332 x0 x1 x2 x3
          x4) (k0_pay334 x0 x1 x2 x3 x4)))),
        k0_pay36 (k0_pay19 (k0_pay333 x0 x1 x2 x3 x4) (k0_pay17 (k0_pay332 x0 x1 x2 x3 x4)) (k0_pay18
          (k0_pay332 x0 x1 x2 x3 x4) (k0_pay334 x0 x1 x2 x3 x4))),
        k0_pay37 (k0_pay20 (k0_pay332 x0 x1 x2 x3 x4) (k0_pay333 x0 x1 x2 x3 x4) (k0_pay334 x0 x1 x2 x3 x4)),
        k0_pay38 (k0_pay26 (k0_pay333 x0 x1 x2 x3 x4) (k0_pay21 (k0_pay332 x0 x1 x2 x3 x4)) (k0_pay23
          (k0_pay332 x0 x1 x2 x3 x4) (k0_pay334 x0 x1 x2 x3 x4)) (k0_pay24 (k0_pay332 x0 x1 x2 x3 x4)
          (k0_pay334 x0 x1 x2 x3 x4)) (k0_pay25 (k0_pay334 x0 x1 x2 x3 x4))),
        k0_pay39 (k0_pay27 (k0_pay332 x0 x1 x2 x3 x4) (k0_pay333 x0 x1 x2 x3 x4) (k0_pay334 x0 x1 x2 x3 x4)),
        k0_pay40 (k0_pay31 (k0_pay333 x0 x1 x2 x3 x4) (k0_pay334 x0 x1 x2 x3 x4) (k0_pay28 (k0_pay332 x0 x1
          x2 x3 x4)) (k0_pay29 (k0_pay332 x0 x1 x2 x3 x4)) (k0_pay30 (k0_pay332 x0 x1 x2 x3 x4) (k0_pay334
          x0 x1 x2 x3 x4)))] : Fin 8 → FVec Ideal S1x256x128 .bf16) g (ix3 0 r l)
      = Q p (T + r.val) (g.val * 128 + l.val) := by
  fin_cases g
  all_goals
    simp only [k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35,
      k0_pay36, k0_pay37, k0_pay38, k0_pay39, k0_pay40, k0_pay332, k0_pay333, k0_pay334, Matrix.cons_val]
    pointwise [query0 hI, hI.gq, scale_eq]
    refine congrArg (· * scale) ?_
  · exact head_first (v := fun j => pr _ p.ng p.w j) (fun _ => rfl) rfl
  all_goals exact head_of (v := fun j => pr _ p.ng p.w j) (by decide) (fun _ => rfl) rfl rfl

/-- The second block's queries. -/
theorem queries1 (g : Fin 8) (r : Fin 256) (l : Fin 128) :
    (![
        k0_pay111 (k0_pay90 (k0_pay346 x0 x1 x2 x3 x4) (View.ld x2 r0_2) (View.ld x3 r0_1)),
        k0_pay112 (k0_pay94 (k0_pay349 x0 x1 x2 x3 x4) (k0_pay350 x0 x1 x2 x3 x4) (k0_pay91 (k0_pay346 x0 x1
          x2 x3 x4) (View.ld x2 r0_2)) (k0_pay92 (k0_pay346 x0 x1 x2 x3 x4) (View.ld x2 r0_2)) (k0_pay93
          (k0_pay346 x0 x1 x2 x3 x4) (View.ld x2 r0_2))),
        k0_pay113 (k0_pay96 (k0_pay349 x0 x1 x2 x3 x4) (k0_pay95 (k0_pay348 x0 x1 x2 x3 x4) (k0_pay350 x0 x1
          x2 x3 x4))),
        k0_pay114 (k0_pay97 (k0_pay348 x0 x1 x2 x3 x4) (k0_pay349 x0 x1 x2 x3 x4) (k0_pay350 x0 x1 x2 x3
          x4)),
        k0_pay115 (k0_pay103 (k0_pay349 x0 x1 x2 x3 x4) (k0_pay98 (k0_pay348 x0 x1 x2 x3 x4)) (k0_pay100
          (k0_pay348 x0 x1 x2 x3 x4) (k0_pay350 x0 x1 x2 x3 x4)) (k0_pay101 (k0_pay350 x0 x1 x2 x3 x4))
          (k0_pay102 (k0_pay348 x0 x1 x2 x3 x4) (k0_pay350 x0 x1 x2 x3 x4))),
        k0_pay117 (k0_pay104 (k0_pay348 x0 x1 x2 x3 x4) (k0_pay349 x0 x1 x2 x3 x4) (k0_pay350 x0 x1 x2 x3
          x4)) (k0_pay116 (F := Ideal)),
        k0_pay118 (k0_pay108 (k0_pay349 x0 x1 x2 x3 x4) (k0_pay350 x0 x1 x2 x3 x4) (k0_pay105 (k0_pay348 x0
          x1 x2 x3 x4)) (k0_pay106 (k0_pay348 x0 x1 x2 x3 x4)) (k0_pay107 (k0_pay348 x0 x1 x2 x3 x4)
          (k0_pay350 x0 x1 x2 x3 x4))),
        k0_pay119 (k0_pay110 (k0_pay349 x0 x1 x2 x3 x4) (k0_pay109 (k0_pay348 x0 x1 x2 x3 x4) (k0_pay350 x0
          x1 x2 x3 x4)))] : Fin 8 → FVec Ideal S1x256x128 .bf16) g (ix3 0 r l)
      = Q p (T + (256 + r.val)) (g.val * 128 + l.val) := by
  fin_cases g
  all_goals
    simp only [k0_pay88, k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117,
      k0_pay118, k0_pay119, k0_pay348, k0_pay349, k0_pay350, Matrix.cons_val]
    pointwise [query1 hI, hI.gq, scale_eq]
    refine congrArg (· * scale) ?_
  · exact head_first (v := fun j => pr _ p.ng p.w j) (fun _ => rfl) rfl
  all_goals exact head_of (v := fun j => pr _ p.ng p.w j) (by decide) (fun _ => rfl) rfl rfl

/-- The third block's queries. -/
theorem queries2 (g : Fin 8) (r : Fin 256) (l : Fin 128) :
    (![
        k0_pay196 (k0_pay176 (k0_pay364 x0 x1 x2 x3 x4) (k0_pay365 x0 x1 x2 x3 x4) (k0_pay173 (View.ld x0
          r0_41) (View.ld x1 r0_1) (View.ld x2 r0_2)) (k0_pay174 (View.ld x0 r0_41) (View.ld x1 r0_1)
          (View.ld x2 r0_2)) (k0_pay175 (View.ld x0 r0_41) (View.ld x1 r0_1) (View.ld x2 r0_2))
          (Scalar.ofBits .f32 0x00000000#32)),
        k0_pay197 (k0_pay179 (k0_pay177 (k0_pay363 x0 x1 x2 x3 x4) (k0_pay365 x0 x1 x2 x3 x4)) (k0_pay178
          (k0_pay364 x0 x1 x2 x3 x4))),
        k0_pay198 (k0_pay180 (k0_pay363 x0 x1 x2 x3 x4) (k0_pay364 x0 x1 x2 x3 x4) (k0_pay365 x0 x1 x2 x3
          x4)) (Named.named κ "q_scale" 0x3E38AA3B#32),
        k0_pay199 (k0_pay186 (k0_pay364 x0 x1 x2 x3 x4) (k0_pay181 (k0_pay363 x0 x1 x2 x3 x4)) (k0_pay183
          (k0_pay365 x0 x1 x2 x3 x4)) (k0_pay184 (k0_pay363 x0 x1 x2 x3 x4) (k0_pay365 x0 x1 x2 x3 x4))
          (k0_pay185 (k0_pay363 x0 x1 x2 x3 x4) (k0_pay365 x0 x1 x2 x3 x4))),
        k0_pay200 (k0_pay187 (k0_pay363 x0 x1 x2 x3 x4) (k0_pay364 x0 x1 x2 x3 x4) (k0_pay365 x0 x1 x2 x3
          x4)),
        k0_pay201 (k0_pay191 (k0_pay364 x0 x1 x2 x3 x4) (k0_pay365 x0 x1 x2 x3 x4) (k0_pay188 (k0_pay363 x0
          x1 x2 x3 x4)) (k0_pay189 (k0_pay363 x0 x1 x2 x3 x4)) (k0_pay190 (k0_pay363 x0 x1 x2 x3 x4)
          (k0_pay365 x0 x1 x2 x3 x4)) (Scalar.ofBits .f32 0x00000000#32)),
        k0_pay202 (k0_pay194 (k0_pay192 (k0_pay363 x0 x1 x2 x3 x4) (k0_pay365 x0 x1 x2 x3 x4)) (k0_pay193
          (k0_pay364 x0 x1 x2 x3 x4))),
        k0_pay204 (k0_pay203 (k0_pay195 (k0_pay363 x0 x1 x2 x3 x4) (k0_pay364 x0 x1 x2 x3 x4) (k0_pay365 x0
          x1 x2 x3 x4)))] : Fin 8 → FVec Ideal S1x256x128 .bf16) g (ix3 0 r l)
      = Q p (T + (512 + r.val)) (g.val * 128 + l.val) := by
  fin_cases g
  all_goals
    simp only [k0_pay171, k0_pay172, k0_pay173, k0_pay174, k0_pay175, k0_pay176, k0_pay177, k0_pay178, k0_pay179,
      k0_pay180, k0_pay181, k0_pay182, k0_pay183, k0_pay184, k0_pay185, k0_pay186, k0_pay187, k0_pay188, k0_pay189,
      k0_pay190, k0_pay191, k0_pay192, k0_pay193, k0_pay194, k0_pay195, k0_pay196, k0_pay197, k0_pay198, k0_pay199,
      k0_pay200, k0_pay201, k0_pay202, k0_pay203, k0_pay204, k0_pay363, k0_pay364, k0_pay365, Matrix.cons_val]
    pointwise [query2 hI, hI.gq, scale_eq]
    refine congrArg (· * scale) ?_
  · exact head_first (v := fun j => pr _ p.ng p.w j) (fun _ => rfl) rfl
  all_goals exact head_of (v := fun j => pr _ p.ng p.w j) (by decide) (fun _ => rfl) rfl rfl

/-- The fourth block's queries. -/
theorem queries3 (g : Fin 8) (r : Fin 256) (l : Fin 128) :
    (![
        k0_pay275 (k0_pay257 (k0_pay377 x0 x1 x2 x3 x4) (k0_pay378 x0 x1 x2 x3 x4) (k0_pay379 x0 x1 x2 x3
          x4) (View.ld x2 r0_2) (View.ld x3 r0_1)),
        k0_pay276 (k0_pay259 (k0_pay382 x0 x1 x2 x3 x4) (k0_pay383 x0 x1 x2 x3 x4) (k0_pay258 (k0_pay377 x0
          x1 x2 x3 x4) (k0_pay378 x0 x1 x2 x3 x4) (k0_pay379 x0 x1 x2 x3 x4) (View.ld x2 r0_2))),
        k0_pay277 (k0_pay262 (k0_pay382 x0 x1 x2 x3 x4) (k0_pay260 (k0_pay381 x0 x1 x2 x3 x4)) (k0_pay261
          (k0_pay381 x0 x1 x2 x3 x4) (k0_pay383 x0 x1 x2 x3 x4))),
        k0_pay278 (k0_pay263 (k0_pay381 x0 x1 x2 x3 x4) (k0_pay382 x0 x1 x2 x3 x4) (k0_pay383 x0 x1 x2 x3
          x4)),
        k0_pay280 (k0_pay279 (k0_pay268 (k0_pay382 x0 x1 x2 x3 x4) (k0_pay383 x0 x1 x2 x3 x4) (k0_pay264
          (k0_pay381 x0 x1 x2 x3 x4)) (k0_pay265 (k0_pay381 x0 x1 x2 x3 x4)) (k0_pay266 (k0_pay381 x0 x1 x2
          x3 x4) (k0_pay383 x0 x1 x2 x3 x4)) (Scalar.ofBits .f32 0x00000000#32) (k0_pay267 (k0_pay383 x0 x1
          x2 x3 x4)))),
        k0_pay281 (k0_pay269 (k0_pay381 x0 x1 x2 x3 x4) (k0_pay382 x0 x1 x2 x3 x4) (k0_pay383 x0 x1 x2 x3
          x4)),
        k0_pay282 (k0_pay271 (k0_pay382 x0 x1 x2 x3 x4) (k0_pay383 x0 x1 x2 x3 x4) (k0_pay270 (k0_pay381 x0
          x1 x2 x3 x4))),
        k0_pay283 (k0_pay274 (k0_pay382 x0 x1 x2 x3 x4) (k0_pay272 (k0_pay381 x0 x1 x2 x3 x4)) (k0_pay273
          (k0_pay381 x0 x1 x2 x3 x4) (k0_pay383 x0 x1 x2 x3 x4)))] : Fin 8 → FVec Ideal S1x256x128 .bf16) g (ix3 0 r l)
      = Q p (T + (768 + r.val)) (g.val * 128 + l.val) := by
  fin_cases g
  all_goals
    simp only [k0_pay255, k0_pay256, k0_pay257, k0_pay258, k0_pay259, k0_pay260, k0_pay261, k0_pay262, k0_pay263,
      k0_pay264, k0_pay265, k0_pay266, k0_pay267, k0_pay268, k0_pay269, k0_pay270, k0_pay271, k0_pay272, k0_pay273,
      k0_pay274, k0_pay275, k0_pay276, k0_pay277, k0_pay278, k0_pay279, k0_pay280, k0_pay281, k0_pay282, k0_pay283,
      k0_pay381, k0_pay382, k0_pay383, Matrix.cons_val]
    pointwise [query3 hI, hI.gq, scale_eq]
    refine congrArg (· * scale) ?_
  · exact head_first (v := fun j => pr _ p.ng p.w j) (fun _ => rfl) rfl
  all_goals exact head_of (v := fun j => pr _ p.ng p.w j) (by decide) (fun _ => rfl) rfl rfl

end Cert.MobaProj

end
-- ==== Proof.ProjTile.lean ====
/- The five blocks that the kernel stores at a grid point, entry by entry. -/
module

public import proofs.«01_k».proof.Proof.ProjKeys
public import proofs.«01_k».proof.Proof.ProjQueries

@[expose] public section

noncomputable section

namespace Cert.MobaProj

open Idealize.ShloMosaic Cert.ProjIdeal Cert.ProjIdeal.Gen

/-- Stores that each agree with `G` in their rectangle leave `G` wherever the rectangles reach. -/
theorem reads_of {Val : EltTy → Type} [∀ e, Nonempty (Val e)] {s : Shape} {e : EltTy} {G : s.Idx → Val e} :
    ∀ {L : List (View.Piece Val s e)}, (∀ pc ∈ L, ∀ x, pc.2 x = G (pc.1.idx x)) →
      Cert.PoolConv.Reads L (fun y => ∃ pc ∈ L, y ∈ pc.1.set) G
  | [], _ => Cert.PoolConv.Reads.done fun y h => by simp at h
  | pc :: L, h => Cert.PoolConv.Reads.cons (fun x _ => h pc (by simp) x)
      ((reads_of fun q hq => h q (by simp [hq])).mono fun y ⟨⟨q, hq, hy⟩, hn⟩ => by
        rcases List.mem_cons.mp hq with rfl | hq
        · exact absurd hy hn
        · exact ⟨q, hq, hy⟩)

/-- A statement about each of eight groups of columns is eight statements. -/
theorem eight {P : Fin 8 → Prop} (h : ∀ g, P g) : P 0 ∧ P 1 ∧ P 2 ∧ P 3 ∧ P 4 ∧ P 5 ∧ P 6 ∧ P 7 :=
  ⟨h 0, h 1, h 2, h 3, h 4, h 5, h 6, h 7⟩

variable {p : Par} {T : ℕ} {x0 : Vec Ideal S1x1024x1024 .f32} {x1 : Vec Ideal S1x1024 .f32}
  {x2 : Vec Ideal S1024x4096 .bf16} {x3 x4 : Vec Ideal S1x1024 .f32} (hI : Ins p T x0 x1 x2 x3 x4)
include hI

/-- The block of queries. -/
theorem tile_q (y : S1x1024x1024.Idx) : out0_5 x0 x1 x2 x3 x4 y = Q p (T + (y 1).val) (y 2).val := by
  have h0 := eight (queries0 hI)
  have h1 := eight (queries1 hI)
  have h2 := eight (queries2 hI)
  have h3 := eight (queries3 hI)
  simp only [Matrix.cons_val] at h0 h1 h2 h3
  refine reads_of (Val := Elt Ideal) (e := .bf16) (G := fun y => Q p (T + (y 1).val) (y 2).val) ?_ y
    (cover0_5 _ _ _ _ _ _ _ _ _ _ _ _ _ _ _ _ _ _ _ _ _ _ _ _ _ _ _ _ _ _ _ _ y)
  simp only [List.forall_mem_cons]
  refine ⟨fun i => ?_, fun i => ?_, fun i => ?_, fun i => ?_, fun i => ?_, fun i => ?_, fun i => ?_, fun i => ?_,
    fun i => ?_, fun i => ?_, fun i => ?_, fun i => ?_, fun i => ?_, fun i => ?_, fun i => ?_, fun i => ?_, fun i
    => ?_, fun i => ?_, fun i => ?_, fun i => ?_, fun i => ?_, fun i => ?_, fun i => ?_, fun i => ?_, fun i => ?_,
    fun i => ?_, fun i => ?_, fun i => ?_, fun i => ?_, fun i => ?_, fun i => ?_, fun i => ?_, by simp⟩
  all_goals
    idx_vars i
    obtain rfl : i0 = 0 := Subsingleton.elim _ _
    simp only [h0, h1, h2, h3]
    pointwise

/-- The block of keys. -/
theorem tile_k (y : S1x1024x1024.Idx) : out0_6 x0 x1 x2 x3 x4 y = K p (T + (y 1).val) (y 2).val := by
  have h0 := eight (keys0 hI)
  have h1 := eight (keys1 hI)
  have h2 := eight (keys2 hI)
  have h3 := eight (keys3 hI)
  simp only [Matrix.cons_val] at h0 h1 h2 h3
  refine reads_of (Val := Elt Ideal) (e := .bf16) (G := fun y => K p (T + (y 1).val) (y 2).val) ?_ y
    (cover0_6 _ _ _ _ _ _ _ _ _ _ _ _ _ _ _ _ _ _ _ _ _ _ _ _ _ _ _ _ _ _ _ _ y)
  simp only [List.forall_mem_cons]
  refine ⟨fun i => ?_, fun i => ?_, fun i => ?_, fun i => ?_, fun i => ?_, fun i => ?_, fun i => ?_, fun i => ?_,
    fun i => ?_, fun i => ?_, fun i => ?_, fun i => ?_, fun i => ?_, fun i => ?_, fun i => ?_, fun i => ?_, fun i
    => ?_, fun i => ?_, fun i => ?_, fun i => ?_, fun i => ?_, fun i => ?_, fun i => ?_, fun i => ?_, fun i => ?_,
    fun i => ?_, fun i => ?_, fun i => ?_, fun i => ?_, fun i => ?_, fun i => ?_, fun i => ?_, by simp⟩
  all_goals
    idx_vars i
    obtain rfl : i0 = 0 := Subsingleton.elim _ _
    simp only [k0_pay63, k0_pay64, k0_pay66, k0_pay68, k0_pay71, k0_pay73, k0_pay75, k0_pay78, k0_pay80, k0_pay146,
      k0_pay148, k0_pay149, k0_pay151, k0_pay153, k0_pay155, k0_pay157, k0_pay159, k0_pay162, k0_pay230, k0_pay232,
      k0_pay234, k0_pay236, k0_pay238, k0_pay240, k0_pay241, k0_pay243, k0_pay245, k0_pay310, k0_pay313, k0_pay315,
      k0_pay317, k0_pay321, k0_pay323, k0_pay325, k0_pay327]
    pointwise [h0, h1, h2, h3]

/-- The block of the keys' means. -/
theorem tile_m (y : S1x4x1x1024.Idx) : out0_9 x0 x1 x2 x3 x4 y = Km p (T + (y 1).val * 256) (y 3).val := by
  have h0 := eight (keys0 hI)
  have h1 := eight (keys1 hI)
  have h2 := eight (keys2 hI)
  have h3 := eight (keys3 hI)
  simp only [Matrix.cons_val] at h0 h1 h2 h3
  refine reads_of (Val := Elt Ideal) (e := .f32) (G := fun y => Km p (T + (y 1).val * 256) (y 3).val) ?_ y
    (cover0_9 _ _ _ _ _ _ _ _ _ _ _ _ _ _ _ _ _ _ _ _ _ _ _ _ _ _ _ _ _ _ _ _ y)
  simp only [List.forall_mem_cons]
  refine ⟨fun i => ?_, fun i => ?_, fun i => ?_, fun i => ?_, fun i => ?_, fun i => ?_, fun i => ?_, fun i => ?_,
    fun i => ?_, fun i => ?_, fun i => ?_, fun i => ?_, fun i => ?_, fun i => ?_, fun i => ?_, fun i => ?_, fun i
    => ?_, fun i => ?_, fun i => ?_, fun i => ?_, fun i => ?_, fun i => ?_, fun i => ?_, fun i => ?_, fun i => ?_,
    fun i => ?_, fun i => ?_, fun i => ?_, fun i => ?_, fun i => ?_, fun i => ?_, fun i => ?_, by simp⟩
  all_goals
    idx_vars i
    simp only [k0_pay65, k0_pay67, k0_pay69, k0_pay70, k0_pay72, k0_pay74, k0_pay76, k0_pay77, k0_pay79, k0_pay81,
      k0_pay147, k0_pay150, k0_pay152, k0_pay154, k0_pay156, k0_pay158, k0_pay160, k0_pay161, k0_pay163, k0_pay231,
      k0_pay233, k0_pay235, k0_pay237, k0_pay239, k0_pay242, k0_pay244, k0_pay246, k0_pay247, k0_pay311, k0_pay312,
      k0_pay314, k0_pay316, k0_pay318, k0_pay319, k0_pay320, k0_pay322, k0_pay324, k0_pay326, k0_pay328, Km, c256]
    pointwise [h0, h1, h2, h3, Nat.add_assoc]

/-- The block of values, positions and columns exchanged. -/
theorem tile_v (y : S1x4x1024x256.Idx) :
    out0_7 x0 x1 x2 x3 x4 y = Vl p (T + ((y 1).val * 256 + (y 3).val)) (y 2).val := by
  refine reads_of (Val := Elt Ideal) (e := .bf16)
    (G := fun y => Vl p (T + ((y 1).val * 256 + (y 3).val)) (y 2).val) ?_ y (cover0_7 _ _ _ _ y)
  simp only [List.forall_mem_cons]
  refine ⟨fun i => ?_, fun i => ?_, fun i => ?_, fun i => ?_, by simp⟩
  all_goals
    idx_vars i
    simp only [k0_pay329, k0_pay248, k0_pay164, k0_pay83, k0_pay82]
    pointwise [row0 hI, row1 hI, row2 hI, row3 hI, hI.w]
    rfl

/-- The block of gates. -/
theorem tile_z (y : S1x1024x1024.Idx) : out0_8 x0 x1 x2 x3 x4 y = Gz p (T + (y 1).val) (y 2).val := by
  refine reads_of (Val := Elt Ideal) (e := .bf16) (G := fun y => Gz p (T + (y 1).val) (y 2).val) ?_ y
    (cover0_8 _ _ _ _ y)
  simp only [List.forall_mem_cons]
  refine ⟨fun i => ?_, fun i => ?_, fun i => ?_, fun i => ?_, by simp⟩
  all_goals
    idx_vars i
    simp only [k0_pay1, k0_pay330, k0_pay249, k0_pay168, k0_pay165, k0_pay166, k0_pay167, k0_pay84]
    pointwise [row0 hI, row1 hI, row2 hI, row3 hI, hI.w]
    rw [zero_sub]
    rfl

end Cert.MobaProj

end
-- ==== Proof.ProjInputs.lean ====
/- What the projection's windows read at a grid point: a block of one sequence, and the weights as the host lays them out. -/
module

public import proofs.«01_k».proof.Proof.Gen.ProjIdeal.Value
public import proofs.«01_k».proof.Proof.ProjTile
public import Idealize.ShloMosaic.Lib.Pipeline.Value

@[expose] public section

set_option maxRecDepth 16384

noncomputable section

namespace Cert.MobaProj

open Idealize.ShloMosaic Idealize.ShloMosaic.TcCoe Cert.ProjIdeal Cert.ProjIdeal.Gen

/-- Sequence `b` of the input and the weights; zero past an array's end. -/
def seq (a0 : Vec Ideal ⟨3, ![4, 4096, 1024]⟩ .f32) (a1 : Vec Ideal ⟨1, ![1024]⟩ .f32) (a2 : Vec Ideal ⟨2, ![1024, 4096]⟩ .f32)
    (a3 a4 : Vec Ideal ⟨1, ![64]⟩ .f32) (b : Fin 4) : Par where
  x t k := if h : t < 4096 then a0 (ix3 b ⟨t, h⟩ k) else 0
  ng k := a1 (ix1 k)
  w k j := if h : j < 4096 then a2 (ix2 k ⟨j, h⟩) else 0
  gq j := if h : j < 64 then a3 (ix1 ⟨j, h⟩) else 0
  gk j := if h : j < 64 then a4 (ix1 ⟨j, h⟩) else 0

variable {a0 : Vec Ideal ⟨3, ![4, 4096, 1024]⟩ .f32} {a1 : Vec Ideal ⟨1, ![1024]⟩ .f32} {a2 : Vec Ideal ⟨2, ![1024, 4096]⟩ .f32}
  {a3 a4 : Vec Ideal ⟨1, ![64]⟩ .f32} {b : Fin 4}

/-- The input at a position of the sequence. -/
theorem seq_x {t : ℕ} (h : t < 4096) (k : Fin 1024) : (seq a0 a1 a2 a3 a4 b).x t k = a0 (ix3 b ⟨t, h⟩ k) := dif_pos h

/-- A weight of the projection. -/
theorem seq_w (k : Fin 1024) {j : ℕ} (h : j < 4096) : (seq a0 a1 a2 a3 a4 b).w k j = a2 (ix2 k ⟨j, h⟩) := dif_pos h

/-- A gain of the queries. -/
theorem seq_gq {j : ℕ} (h : j < 64) : (seq a0 a1 a2 a3 a4 b).gq j = a3 (ix1 ⟨j, h⟩) := dif_pos h

/-- A gain of the keys. -/
theorem seq_gk {j : ℕ} (h : j < 64) : (seq a0 a1 a2 a3 a4 b).gk j = a4 (ix1 ⟨j, h⟩) := dif_pos h

/-- A row of 1024 numbers reshaped from a vector. -/
theorem row_at (v : Vec Ideal S1024 .f32) (k : Fin 1024) : shapeCast S1x1024 v shapeCasts_S1024_S1x1024 (ix2 0 k) = v (ix1 k) := by
  pointwise

/-- The 64 gains of a head, repeated for the 16 heads. -/
def heads (g : Vec Ideal S64 .f32) : Vec Ideal S1x1024 .f32 :=
  shapeCast S1x1024 (shapeCast S1024 (broadcastInDim S16x64 ![0, 1] bcast_S1x64_S16x64_0_1 (shapeCast S1x64 g shapeCasts_S64_S1x64))
    shapeCasts_S16x64_S1024) shapeCasts_S1024_S1x1024

/-- The gain of a column is that of its place within its head. -/
theorem heads_at (g : Vec Ideal S64 .f32) (k : Fin 1024) : heads g (ix2 0 k) = g (ix1 ⟨k.val % 64, Nat.mod_lt _ (by decide)⟩) := by
  unfold heads
  pointwise

variable (m : (ℓ : Loc nD τ sig) → Idealize.ShloMosaic.Buf (Elt Ideal) ℓ) (c : Dev nD)

/-- Argument 1 as one row. -/
theorem V_v0 : V m c main_v0 = shapeCast S1x1024 (m ((c : Thread nD τ).loc main_arg1)) shapeCasts_S1024_S1x1024 := by
  show StableHlo.after hostOps0 _ (Proc.devRef .tc main_v0) = _
  simp only [hostOps0]
  after_results
  rfl

/-- Argument 2, rounded. -/
theorem V_v1 : V m c main_v1 = (truncf (F := Ideal) (s := S1024x4096) .bf16 (m ((c : Thread nD τ).loc main_arg2)) bitsLt_bf16_f32) := by
  show StableHlo.after hostOps0 _ (Proc.devRef .tc main_v1) = _
  simp only [hostOps0]
  after_results

/-- Argument 3 repeated for the heads. -/
theorem V_v5 : V m c main_v5 = heads (m ((c : Thread nD τ).loc main_arg3)) := by
  show StableHlo.after hostOps0 _ (Proc.devRef .tc main_v5) = _
  simp only [hostOps0]
  after_results
  rfl

/-- Argument 4 repeated for the heads. -/
theorem V_v9 : V m c main_v9 = heads (m ((c : Thread nD τ).loc main_arg4)) := by
  show StableHlo.after hostOps0 _ (Proc.devRef .tc main_v9) = _
  simp only [hostOps0]
  after_results
  rfl

/-- The input's window moves with the grid point; the other windows stay. -/
theorem index_0 : ∀ t : Fin cfg0.N, win0_0.index t (0 : Fin 3) = t.val / 4 ∧ win0_0.index t (1 : Fin 3) = t.val % 4
    ∧ win0_0.index t (2 : Fin 3) = 0 := (by decide +kernel : ∀ t : Fin grid0.N, _)

/-- Window 1 stays at its first block. -/
theorem index_1 : ∀ (t : Fin cfg0.N) (a : Fin 2), win0_1.index t a = 0 := (by decide +kernel : ∀ (t : Fin grid0.N) (a : Fin 2), _)

/-- Window 2 stays at its first block. -/
theorem index_2 : ∀ (t : Fin cfg0.N) (a : Fin 2), win0_2.index t a = 0 := (by decide +kernel : ∀ (t : Fin grid0.N) (a : Fin 2), _)

/-- Window 3 stays at its first block. -/
theorem index_3 : ∀ (t : Fin cfg0.N) (a : Fin 2), win0_3.index t a = 0 := (by decide +kernel : ∀ (t : Fin grid0.N) (a : Fin 2), _)

/-- Window 4 stays at its first block. -/
theorem index_4 : ∀ (t : Fin cfg0.N) (a : Fin 2), win0_4.index t a = 0 := (by decide +kernel : ∀ (t : Fin grid0.N) (a : Fin 2), _)

/-- Sequence `b` and the weights, as core `c`'s memory holds them at the start. -/
abbrev held (b : Fin 4) : Par :=
  seq (m ((c : Thread nD τ).loc main_arg0)) (m ((c : Thread nD τ).loc main_arg1)) (m ((c : Thread nD τ).loc main_arg2))
    (m ((c : Thread nD τ).loc main_arg3)) (m ((c : Thread nD τ).loc main_arg4)) b

/-- Window 1 reads its whole array. -/
theorem blk_1 (t : Fin cfg0.N) (j : S1x1024.Idx) : iblk m c 1 t j = V m c main_v0 j :=
  congrArg (V m c main_v0) (funext fun a => Fin.ext (win0_1.rect_emb_val_of_index_zero t a (index_1 t a) j))

/-- Window 2 reads its whole array. -/
theorem blk_2 (t : Fin cfg0.N) (j : S1024x4096.Idx) : iblk m c 2 t j = V m c main_v1 j :=
  congrArg (V m c main_v1) (funext fun a => Fin.ext (win0_2.rect_emb_val_of_index_zero t a (index_2 t a) j))

/-- Window 3 reads its whole array. -/
theorem blk_3 (t : Fin cfg0.N) (j : S1x1024.Idx) : iblk m c 3 t j = V m c main_v5 j :=
  congrArg (V m c main_v5) (funext fun a => Fin.ext (win0_3.rect_emb_val_of_index_zero t a (index_3 t a) j))

/-- Window 4 reads its whole array. -/
theorem blk_4 (t : Fin cfg0.N) (j : S1x1024.Idx) : iblk m c 4 t j = V m c main_v9 j :=
  congrArg (V m c main_v9) (funext fun a => Fin.ext (win0_4.rect_emb_val_of_index_zero t a (index_4 t a) j))

/-- The input's block: 1024 positions of one sequence. -/
theorem blk_0 (t : Fin cfg0.N) (b : Fin 4) (hb : b.val = t.val / 4) (r k : Fin 1024) (h : 1024 * (t.val % 4) + r.val < 4096) :
    (iblk m c 0 t : Vec Ideal S1x1024x1024 .f32) (ix3 0 r k) = m ((c : Thread nD τ).loc main_arg0) (ix3 b ⟨1024 * (t.val % 4) + r.val, h⟩ k) := by
  rw [← V_main_arg0 m c]
  obtain ⟨e0, e1, e2⟩ := index_0 t
  refine congrArg (V m c main_arg0) (funext fun a => Fin.ext ?_)
  refine (win0_0.rect_emb_val t _ a).trans ?_
  match a with
  | ⟨0, _⟩ => show win0_0.index t (0 : Fin 3) * 1 + 0 = b.val; omega
  | ⟨1, _⟩ => show win0_0.index t (1 : Fin 3) * 1024 + r.val = 1024 * (t.val % 4) + r.val; omega
  | ⟨2, _⟩ => show win0_0.index t (2 : Fin 3) * 1024 + k.val = k.val; omega

/-- The windows' blocks at a point are its block's inputs. -/
theorem ins (t : Fin cfg0.N) (b : Fin 4) (hb : b.val = t.val / 4) :
    Ins (held m c b) (1024 * (t.val % 4)) (iblk m c 0 t) (iblk m c 1 t) (iblk m c 2 t) (iblk m c 3 t) (iblk m c 4 t) where
  x r k := by
    have h : 1024 * (t.val % 4) + r.val < 4096 := by omega
    exact (blk_0 m c t b hb r k h).trans (seq_x h k).symm
  ng k := (blk_1 m c t _).trans ((congrFun (V_v0 m c) _).trans (row_at _ k))
  w k j := (blk_2 m c t _).trans ((congrFun (V_v1 m c) _).trans (seq_w k j.isLt).symm)
  gq j := (blk_3 m c t _).trans ((congrFun (V_v5 m c) _).trans ((heads_at _ j).trans (seq_gq _).symm))
  gk j := (blk_4 m c t _).trans ((congrFun (V_v9 m c) _).trans ((heads_at _ j).trans (seq_gk _).symm))

end Cert.MobaProj

end
-- ==== Proof.ProjResult.lean ====
/- The projection's five arrays at an index: each grid point writes its own block of each. -/
module

public import proofs.«01_k».proof.Proof.ProjInputs

@[expose] public section

set_option maxRecDepth 16384

noncomputable section

namespace Cert.MobaProj

open Idealize.ShloMosaic Idealize.ShloMosaic.TcCoe Cert.ProjIdeal Cert.ProjIdeal.Gen Cert.ProjIdeal.Value

/-- The grid point that writes position `t` of sequence `b`. -/
def pt (b : Fin 4) (t : ℕ) (h : t < 4096) : Fin cfg0.N := (⟨4 * b.val + t / 1024, by show _ < 16; omega⟩ : Fin 16)

/-- The queries' window moves with the grid point. -/
theorem index_5 : ∀ t : Fin cfg0.N, win0_5.index t (0 : Fin 3) = t.val / 4 ∧ win0_5.index t (1 : Fin 3) = t.val % 4
    ∧ win0_5.index t (2 : Fin 3) = 0 := (by decide +kernel : ∀ t : Fin grid0.N, _)

/-- So does the keys'. -/
theorem index_6 : ∀ t : Fin cfg0.N, win0_6.index t (0 : Fin 3) = t.val / 4 ∧ win0_6.index t (1 : Fin 3) = t.val % 4
    ∧ win0_6.index t (2 : Fin 3) = 0 := (by decide +kernel : ∀ t : Fin grid0.N, _)

/-- So does the values'. -/
theorem index_7 : ∀ t : Fin cfg0.N, win0_7.index t (0 : Fin 4) = t.val / 4 ∧ win0_7.index t (1 : Fin 4) = t.val % 4
    ∧ win0_7.index t (2 : Fin 4) = 0 ∧ win0_7.index t (3 : Fin 4) = 0 := (by decide +kernel : ∀ t : Fin grid0.N, _)

/-- So does the gates'. -/
theorem index_8 : ∀ t : Fin cfg0.N, win0_8.index t (0 : Fin 3) = t.val / 4 ∧ win0_8.index t (1 : Fin 3) = t.val % 4
    ∧ win0_8.index t (2 : Fin 3) = 0 := (by decide +kernel : ∀ t : Fin grid0.N, _)

/-- So does the means'. -/
theorem index_9 : ∀ t : Fin cfg0.N, win0_9.index t (0 : Fin 4) = t.val / 4 ∧ win0_9.index t (1 : Fin 4) = t.val % 4
    ∧ win0_9.index t (2 : Fin 4) = 0 ∧ win0_9.index t (3 : Fin 4) = 0 := (by decide +kernel : ∀ t : Fin grid0.N, _)

variable (m : (ℓ : Loc nD τ sig) → Idealize.ShloMosaic.Buf (Elt Ideal) ℓ) (c : Dev nD)

/-- The point's number. -/
theorem pt_val (b : Fin 4) (t : ℕ) (h : t < 4096) : (pt b t h).val = 4 * b.val + t / 1024 := rfl

/-- The queries. -/
theorem result_q (b : Fin 4) (t : Fin 4096) (j : Fin 1024) :
    ((dats m 0 c).arrAt 5 cfg0.N : Vec Ideal S4x4096x1024 .bf16) (ix3 b t j) = Q (held m c b) t.val j.val := by
  have hp := pt_val b t.val t.isLt
  generalize pt b t.val t.isLt = s at hp
  obtain ⟨e0, e1, e2⟩ := index_5 s
  have h := congrFun ((blocks5 m c s (flush0_5 s)).trans (flushed5 m c s)) (ix3 0 ⟨t.val % 1024, Nat.mod_lt _ (by decide)⟩ j : S1x1024x1024.Idx)
  refine (congrArg ((dats m 0 c).arrAt 5 cfg0.N) (funext fun a => Fin.ext ?_)).trans (h.trans ?_)
  · refine Eq.trans ?_ (win0_5.rect_emb_val s _ a).symm
    match a with
    | ⟨0, _⟩ => show b.val = win0_5.index s (0 : Fin 3) * 1 + 0; omega
    | ⟨1, _⟩ => show t.val = win0_5.index s (1 : Fin 3) * 1024 + t.val % 1024; omega
    | ⟨2, _⟩ => show j.val = win0_5.index s (2 : Fin 3) * 1024 + j.val; omega
  · refine (tile_q (ins m c s b (by omega)) _).trans (congrArg (fun n => Q (held m c b) n j.val) ?_)
    show 1024 * (s.val % 4) + t.val % 1024 = t.val
    omega

/-- The keys. -/
theorem result_k (b : Fin 4) (t : Fin 4096) (j : Fin 1024) :
    ((dats m 0 c).arrAt 6 cfg0.N : Vec Ideal S4x4096x1024 .bf16) (ix3 b t j) = K (held m c b) t.val j.val := by
  have hp := pt_val b t.val t.isLt
  generalize pt b t.val t.isLt = s at hp
  obtain ⟨e0, e1, e2⟩ := index_6 s
  have h := congrFun ((blocks6 m c s (flush0_6 s)).trans (flushed6 m c s)) (ix3 0 ⟨t.val % 1024, Nat.mod_lt _ (by decide)⟩ j : S1x1024x1024.Idx)
  refine (congrArg ((dats m 0 c).arrAt 6 cfg0.N) (funext fun a => Fin.ext ?_)).trans (h.trans ?_)
  · refine Eq.trans ?_ (win0_6.rect_emb_val s _ a).symm
    match a with
    | ⟨0, _⟩ => show b.val = win0_6.index s (0 : Fin 3) * 1 + 0; omega
    | ⟨1, _⟩ => show t.val = win0_6.index s (1 : Fin 3) * 1024 + t.val % 1024; omega
    | ⟨2, _⟩ => show j.val = win0_6.index s (2 : Fin 3) * 1024 + j.val; omega
  · refine (tile_k (ins m c s b (by omega)) _).trans (congrArg (fun n => K (held m c b) n j.val) ?_)
    show 1024 * (s.val % 4) + t.val % 1024 = t.val
    omega

/-- The values, with the positions of each block of 256 last. -/
theorem result_v (b : Fin 4) (n : Fin 16) (j : Fin 1024) (r : Fin 256) :
    ((dats m 0 c).arrAt 7 cfg0.N : Vec Ideal S4x16x1024x256 .bf16) (ix4 b n j r) = Vl (held m c b) (n.val * 256 + r.val) j.val := by
  have hp := pt_val b (n.val * 256) (by omega)
  generalize pt b (n.val * 256) _ = s at hp
  obtain ⟨e0, e1, e2, e3⟩ := index_7 s
  have h := congrFun ((blocks7 m c s (flush0_7 s)).trans (flushed7 m c s)) (ix4 0 ⟨n.val % 4, Nat.mod_lt _ (by decide)⟩ j r : S1x4x1024x256.Idx)
  refine (congrArg ((dats m 0 c).arrAt 7 cfg0.N) (funext fun a => Fin.ext ?_)).trans (h.trans ?_)
  · refine Eq.trans ?_ (win0_7.rect_emb_val s _ a).symm
    match a with
    | ⟨0, _⟩ => show b.val = win0_7.index s (0 : Fin 4) * 1 + 0; omega
    | ⟨1, _⟩ => show n.val = win0_7.index s (1 : Fin 4) * 4 + n.val % 4; omega
    | ⟨2, _⟩ => show j.val = win0_7.index s (2 : Fin 4) * 1024 + j.val; omega
    | ⟨3, _⟩ => show r.val = win0_7.index s (3 : Fin 4) * 256 + r.val; omega
  · refine (tile_v (ins m c s b (by omega)) _).trans (congrArg (fun n => Vl (held m c b) n j.val) ?_)
    show 1024 * (s.val % 4) + (n.val % 4 * 256 + r.val) = n.val * 256 + r.val
    omega

/-- The gates. -/
theorem result_z (b : Fin 4) (t : Fin 4096) (j : Fin 1024) :
    ((dats m 0 c).arrAt 8 cfg0.N : Vec Ideal S4x4096x1024 .bf16) (ix3 b t j) = Gz (held m c b) t.val j.val := by
  have hp := pt_val b t.val t.isLt
  generalize pt b t.val t.isLt = s at hp
  obtain ⟨e0, e1, e2⟩ := index_8 s
  have h := congrFun ((blocks8 m c s (flush0_8 s)).trans (flushed8 m c s)) (ix3 0 ⟨t.val % 1024, Nat.mod_lt _ (by decide)⟩ j : S1x1024x1024.Idx)
  refine (congrArg ((dats m 0 c).arrAt 8 cfg0.N) (funext fun a => Fin.ext ?_)).trans (h.trans ?_)
  · refine Eq.trans ?_ (win0_8.rect_emb_val s _ a).symm
    match a with
    | ⟨0, _⟩ => show b.val = win0_8.index s (0 : Fin 3) * 1 + 0; omega
    | ⟨1, _⟩ => show t.val = win0_8.index s (1 : Fin 3) * 1024 + t.val % 1024; omega
    | ⟨2, _⟩ => show j.val = win0_8.index s (2 : Fin 3) * 1024 + j.val; omega
  · refine (tile_z (ins m c s b (by omega)) _).trans (congrArg (fun n => Gz (held m c b) n j.val) ?_)
    show 1024 * (s.val % 4) + t.val % 1024 = t.val
    omega

/-- The keys' means over the blocks of 256 positions. -/
theorem result_m (b : Fin 4) (n : Fin 16) (u : Fin 1) (j : Fin 1024) :
    ((dats m 0 c).arrAt 9 cfg0.N : Vec Ideal S4x16x1x1024 .f32) (ix4 b n u j) = Km (held m c b) (n.val * 256) j.val := by
  have hp := pt_val b (n.val * 256) (by omega)
  generalize pt b (n.val * 256) _ = s at hp
  obtain ⟨e0, e1, e2, e3⟩ := index_9 s
  have h := congrFun ((blocks9 m c s (flush0_9 s)).trans (flushed9 m c s)) (ix4 0 ⟨n.val % 4, Nat.mod_lt _ (by decide)⟩ 0 j : S1x4x1x1024.Idx)
  refine (congrArg ((dats m 0 c).arrAt 9 cfg0.N) (funext fun a => Fin.ext ?_)).trans (h.trans ?_)
  · refine Eq.trans ?_ (win0_9.rect_emb_val s _ a).symm
    match a with
    | ⟨0, _⟩ => show b.val = win0_9.index s (0 : Fin 4) * 1 + 0; omega
    | ⟨1, _⟩ => show n.val = win0_9.index s (1 : Fin 4) * 4 + n.val % 4; omega
    | ⟨2, _⟩ => show u.val = win0_9.index s (2 : Fin 4) * 1 + 0; omega
    | ⟨3, _⟩ => show j.val = win0_9.index s (3 : Fin 4) * 1024 + j.val; omega
  · refine (tile_m (ins m c s b (by omega)) _).trans (congrArg (fun n => Km (held m c b) n j.val) ?_)
    show 1024 * (s.val % 4) + n.val % 4 * 256 = n.val * 256
    omega

end Cert.MobaProj

end
-- ==== Proof.ProjRef.lean ====
/- The projection's reference at an index. -/
module

public import proofs.«01_k».proof.Proof.Gen.ProjReferenceIdeal.Read
public import proofs.«01_k».proof.Proof.ProjInputs

@[expose] public section

set_option maxRecDepth 16384

noncomputable section

namespace Cert.MobaProj.Ref

open Idealize.ShloMosaic Cert.ProjReferenceIdeal Cert.ProjReferenceIdeal.Read

variable {a0 : Vec Ideal S4x4096x1024 .f32} {a1 : Vec Ideal S1024 .f32} {a2 : Vec Ideal S1024x4096 .f32} {a3 a4 : Vec Ideal S64 .f32}

/-- The normalised row times its gains. -/
theorem hn_at (b : Fin 4) (t : Fin 4096) (k : Fin 1024) :
    val_main_v12 (F := Ideal) a0 a1 (ix3 b t k) = hn ((seq a0 a1 a2 a3 a4 b).x t.val) (seq a0 a1 a2 a3 a4 b).ng k := by
  have hx : (seq a0 a1 a2 a3 a4 b).x t.val = fun k => a0 (ix3 b t k) := funext fun k => seq_x t.isLt k
  rw [hx]
  unfold hn val_main_v12 val_main_v11 val_main_v10 val_main_v9 val_main_v8 val_main_v7 val_main_v6 val_main_v5 val_main_v4 val_main_v3 val_main_v2
    val_main_v1 val_main_v0 val_main_cst val_main_cst_0 val_main_cst_1
  pointwise
  rfl

/-- A column of the projection. -/
theorem pr_at (b : Fin 4) (t : Fin 4096) (j : Fin 4096) :
    val_main_v13 (F := Ideal) a0 a1 a2 (ix3 b t j)
      = pr ((seq a0 a1 a2 a3 a4 b).x t.val) (seq a0 a1 a2 a3 a4 b).ng (seq a0 a1 a2 a3 a4 b).w j.val := by
  unfold pr val_main_v13
  pointwise [hn_at (a2 := a2) (a3 := a3) (a4 := a4)]
  exact Finset.sum_congr rfl fun k _ => congrArg _ (seq_w k j.isLt).symm

/-- The values, with the positions of each block of 256 last. -/
theorem v_at (b : Fin 4) (n : Fin 16) (j : Fin 1024) (r : Fin 256) :
    val_main_v57 (F := Ideal) a0 a1 a2 (ix4 b n j r) = Vl (seq a0 a1 a2 a3 a4 b) (n.val * 256 + r.val) j.val := by
  unfold Vl val_main_v57 val_main_v56 val_main_v55 val_main_v16
  pointwise [pr_at (a3 := a3) (a4 := a4)]

/-- The gates. -/
theorem z_at (b : Fin 4) (t : Fin 4096) (j : Fin 1024) :
    val_main_v65 (F := Ideal) a0 a1 a2 (ix3 b t j) = Gz (seq a0 a1 a2 a3 a4 b) t.val j.val := by
  unfold Gz silu val_main_v65 val_main_v64 val_main_v63 val_main_v62 val_main_v61 val_main_v60 val_main_v59 val_main_v58 val_main_v17
    val_main_cst_10 val_main_cst_11
  pointwise [pr_at (a3 := a3) (a4 := a4)]

/-- A head's normalisation, at a column given by its head and its place there. -/
theorem hd_split (v g : ℕ → EReal) (h : ℕ) (d : Fin 64) :
    hd v g (h * 64 + d.val) = v (h * 64 + d.val) * Ideal.rsqrt (Ideal.div (∑ e : Fin 64, v (h * 64 + e.val) * v (h * 64 + e.val)) c64 + cEps) * g d.val := by
  have e1 : (h * 64 + d.val) / 64 = h := by omega
  have e2 : (h * 64 + d.val) % 64 = d.val := by omega
  unfold hd sq
  rw [e1, e2]

/-- The keys by head, before their reordering into rows. -/
theorem head_k (b : Fin 4) (t : Fin 4096) (h : Fin 16) (d : Fin 64) :
    val_main_v50 (F := Ideal) a0 a1 a2 a4 (ix4 b t h d) = K (seq a0 a1 a2 a3 a4 b) t.val (h.val * 64 + d.val) := by
  unfold K
  rw [hd_split, seq_gk d.isLt]
  unfold val_main_v50 val_main_v49 val_main_v48 val_main_v47 val_main_v46 val_main_v45 val_main_v44 val_main_v43 val_main_v42 val_main_v41
    val_main_v40 val_main_v39 val_main_v38 val_main_v37 val_main_v15 val_main_cst_7 val_main_cst_8 val_main_cst_9
  pointwise [pr_at (a3 := a3) (a4 := a4)]
  rfl

/-- The bits denote an eighth. -/
theorem eighth : Ideal.ofBits .f32 0x3E000000#32 = ((1 / 8 : ℝ) : EReal) := by
  simp [Ideal.ofBits, Ideal.ieee, -EReal.coe_mul]; norm_num

/-- The bits denote two. -/
theorem two : Ideal.ofBits .f32 0x40000000#32 = ((2 : ℝ) : EReal) := by
  simp [Ideal.ofBits, Ideal.ieee, -EReal.coe_mul]; norm_num

/-- Dividing an eighth by the logarithm of two is multiplying by the scale. -/
theorem scale_at (z : EReal) : Ideal.div (z * Ideal.ofBits .f32 0x3E000000#32) (Ideal.log (Ideal.ofBits .f32 0x40000000#32)) = z * scale := by
  have h2 : Real.log 2 ≠ 0 := (Real.log_pos (by norm_num)).ne'
  have hl : Ideal.log ((2 : ℝ) : EReal) = ((Real.log 2 : ℝ) : EReal) := by
    show (if (2 : ℝ) ≤ 0 then ⊥ else ((Real.log 2 : ℝ) : EReal)) = _
    rw [if_neg (by norm_num)]
  rw [eighth, two, hl, Ideal.div_coe h2, mul_assoc, ← EReal.coe_mul]
  refine congrArg (fun r : ℝ => z * (r : EReal)) ?_
  field_simp

/-- The queries by head, before their reordering into rows. -/
theorem head_q (b : Fin 4) (t : Fin 4096) (h : Fin 16) (d : Fin 64) :
    val_main_v36 (F := Ideal) a0 a1 a2 a3 (ix4 b t h d) = Q (seq a0 a1 a2 a3 a4 b) t.val (h.val * 64 + d.val) := by
  unfold Q
  rw [hd_split, seq_gq d.isLt, ← scale_at]
  unfold val_main_v36 val_main_v35 val_main_v34 val_main_v33 val_main_v32 val_main_v31 val_main_v30 val_main_v29 val_main_v28 val_main_v27 val_main_v26
    val_main_v25 val_main_v24 val_main_v23 val_main_v22 val_main_v21 val_main_v20 val_main_v19 val_main_v18 val_main_v14 val_main_cst_2 val_main_cst_3
    val_main_cst_4 val_main_cst_5 val_main_cst_6
  pointwise [pr_at (a3 := a3) (a4 := a4)]
  rfl

/-- The queries. -/
theorem q_at (b : Fin 4) (t : Fin 4096) (j : Fin 1024) :
    val_main_v53 (F := Ideal) a0 a1 a2 a3 (ix3 b t j) = Q (seq a0 a1 a2 a3 a4 b) t.val j.val := by
  unfold val_main_v53 val_main_v52
  pointwise [head_q (a4 := a4)]
  exact congrArg (Q _ _) (Nat.div_add_mod' j.val 64)

/-- The keys, before their rounding. -/
theorem row_k (b : Fin 4) (t : Fin 4096) (j : Fin 1024) :
    val_main_v51 (F := Ideal) a0 a1 a2 a4 (ix3 b t j) = K (seq a0 a1 a2 a3 a4 b) t.val j.val := by
  unfold val_main_v51
  pointwise [head_k (a3 := a3)]
  exact congrArg (K _ _) (Nat.div_add_mod' j.val 64)

/-- The keys. -/
theorem k_at (b : Fin 4) (t : Fin 4096) (j : Fin 1024) :
    val_main_v54 (F := Ideal) a0 a1 a2 a4 (ix3 b t j) = K (seq a0 a1 a2 a3 a4 b) t.val j.val := by
  unfold val_main_v54
  pointwise [row_k (a3 := a3)]

/-- The keys' means over the blocks of 256 positions. -/
theorem m_at (b : Fin 4) (n : Fin 16) (u : Fin 1) (j : Fin 1024) :
    val_main_v70 (F := Ideal) a0 a1 a2 a4 (ix4 b n u j) = Km (seq a0 a1 a2 a3 a4 b) (n.val * 256) j.val := by
  unfold Km val_main_v70 val_main_v69 val_main_v68 val_main_v67 val_main_v66 val_main_cst_12 val_main_cst_13
  pointwise [row_k (a3 := a3)]
  rfl

end Cert.MobaProj.Ref

end
-- ==== Proof.OutRing.lean ====
/- The output projection's rings: the slots, the blocks of the three arrays left in HBM, the semaphores, and
   what a slot holds before a grid point. -/
module

public import proofs.«01_k».proof.Proof.Gen.OutIdeal.Launch
public import proofs.«01_k».proof.Proof.Gen.OutIdeal.Skeleton
public import proofs.«01_k».proof.Proof.Gen.OutIdeal.Points
public import Idealize.ShloMosaic.Lib.Pipeline.FrameBody
public import Idealize.ShloMosaic.Lib.Ring
public import Idealize.ShloMosaic.Lib.Ring.AtN
public import Idealize.ShloMosaic.Lib.Tactic
public import Idealize.ShloMosaic.Lib.WordCmp

@[expose] public section

set_option maxRecDepth 16384

noncomputable section

namespace Cert.MobaOut

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The branches -/

/-- The first point, which starts the first four blocks. -/
abbrev first (i : grid0.Coords) : Prop := k0_cond1 i = 1#1
/-- A tile of a sequence's first half waits for a block of the first array of heads. -/
abbrev waitsLo (i : grid0.Coords) : Prop := k0_cond2 i = 1#1
/-- A tile of the second half waits for a block of the second. -/
abbrev waitsHi (i : grid0.Coords) : Prop := k0_cond3 i = 1#1
/-- A block four points on is still to start. -/
abbrev starts (i : grid0.Coords) : Prop := k0_cond4 i = 1#1
/-- It is of the first array of heads. -/
abbrev startsLo (i : grid0.Coords) : Prop := k0_cond5 i = 1#1
/-- It is of the second. -/
abbrev startsHi (i : grid0.Coords) : Prop := k0_cond6 i = 1#1

theorem first_iff : ∀ t : Fin grid0.N, first (grid0.coords t) ↔ t.val = 0 := by decide +kernel
theorem waitsLo_iff : ∀ t : Fin grid0.N, waitsLo (grid0.coords t) ↔ t.val % 4 < 2 := by decide +kernel
theorem waitsHi_iff : ∀ t : Fin grid0.N, waitsHi (grid0.coords t) ↔ ¬ t.val % 4 < 2 := by decide +kernel
theorem starts_iff : ∀ t : Fin grid0.N, starts (grid0.coords t) ↔ t.val < 12 := by decide +kernel
theorem startsLo_iff : ∀ t : Fin grid0.N, startsLo (grid0.coords t) ↔ t.val % 4 < 2 := by decide +kernel
theorem startsHi_iff : ∀ t : Fin grid0.N, startsHi (grid0.coords t) ↔ ¬ t.val % 4 < 2 := by decide +kernel

/-! ## Slots, blocks, semaphores -/

/-- The two scratch rings and the three arrays left in HBM, whole. -/
abbrev bufX : Memref sig .tc .vmem S4x1024x1024 .f32 := Memref.whole cc0_scratch0
abbrev bufG : Memref sig .tc .vmem S4x1024x1024 .bf16 := Memref.whole cc0_scratch1
abbrev hbmX : Memref sig .tc .hbm S4x4096x1024 .f32 := Memref.whole main_arg0
abbrev hbmLo : Memref sig .tc .hbm S4x2048x1024 .bf16 := Memref.whole main_arg1
abbrev hbmHi : Memref sig .tc .hbm S4x2048x1024 .bf16 := Memref.whole main_arg2

/-- What a memref's buffer holds on a core, and the buffer held whole. -/
abbrev Held (c : Dev nD) {sp : Space} {S : Shape} {e : EltTy} (M : Memref sig .tc sp S e) : Type := Buf (Elt F) (M.view.loc (c : Thread nD τ))
abbrev heldPt (c : Dev nD) {sp : Space} {S : Shape} {e : EltTy} (M : Memref sig .tc sp S e) (f : Held (F := F) c M) : sProp 𝕄 :=
  M.view.loc (c : Thread nD τ) ↦{fullShare} f

theorem inb_slot (s : Fin 4) : ∀ a, (![s.val, 0, 0] : Fin 3 → Nat) a + S1x1024x1024.size a ≤ S4x1024x1024.size a := by
  have := s.isLt; intro a; fin_cases a <;> simp <;> omega
theorem inb_srcX (b : Fin 16) : ∀ a, (![b.val / 4, 1024 * (b.val % 4), 0] : Fin 3 → Nat) a + S1x1024x1024.size a ≤ S4x4096x1024.size a := by
  have := b.isLt; intro a; fin_cases a <;> simp <;> omega
theorem inb_srcG (b : Fin 16) : ∀ a, (![b.val / 4, 1024 * (b.val % 2), 0] : Fin 3 → Nat) a + S1x1024x1024.size a ≤ S4x2048x1024.size a := by
  have := b.isLt; intro a; fin_cases a <;> simp <;> omega
theorem inb_cell (s : Fin 4) : ∀ a, (![s.val] : Fin 1 → Nat) a + S1.size a ≤ S4.size a := by
  have := s.isLt; intro a; fin_cases a <;> simp <;> omega

/-- Slot `s` of each ring. -/
def slotX (s : Fin 4) : Memref sig .tc .vmem S1024x1024 .f32 :=
  (bufX.slice (Rect.unit (s := S4x1024x1024) ![s.val, 0, 0] S1x1024x1024.size (inb_slot s)) (fun _ => rfl)).squeeze S1024x1024 squeezes_S1x1024x1024_S1024x1024
def slotG (s : Fin 4) : Memref sig .tc .vmem S1024x1024 .bf16 :=
  (bufG.slice (Rect.unit (s := S4x1024x1024) ![s.val, 0, 0] S1x1024x1024.size (inb_slot s)) (fun _ => rfl)).squeeze S1024x1024 squeezes_S1x1024x1024_S1024x1024
/-- Block `b` of the residual; the block of each array of heads that tile `b` reads when the tile is in its half. -/
def srcX (b : Fin 16) : Memref sig .tc .hbm S1024x1024 .f32 :=
  (hbmX.slice (Rect.unit (s := S4x4096x1024) ![b.val / 4, 1024 * (b.val % 4), 0] S1x1024x1024.size (inb_srcX b)) (fun _ => rfl)).squeeze S1024x1024 squeezes_S1x1024x1024_S1024x1024
def srcLo (b : Fin 16) : Memref sig .tc .hbm S1024x1024 .bf16 :=
  (hbmLo.slice (Rect.unit (s := S4x2048x1024) ![b.val / 4, 1024 * (b.val % 2), 0] S1x1024x1024.size (inb_srcG b)) (fun _ => rfl)).squeeze S1024x1024 squeezes_S1x1024x1024_S1024x1024
def srcHi (b : Fin 16) : Memref sig .tc .hbm S1024x1024 .bf16 :=
  (hbmHi.slice (Rect.unit (s := S4x2048x1024) ![b.val / 4, 1024 * (b.val % 2), 0] S1x1024x1024.size (inb_srcG b)) (fun _ => rfl)).squeeze S1024x1024 squeezes_S1x1024x1024_S1024x1024
/-- Semaphore `s` of each ring. -/
def semsX (s : Fin 4) : DmaSems sig S_ := (cc0_scratch2.slice (Rect.unit (s := S4) ![s.val] S1.size (inb_cell s))).squeeze S_ squeezes_S1_S_
def semsG (s : Fin 4) : DmaSems sig S_ := (cc0_scratch3.slice (Rect.unit (s := S4) ![s.val] S1.size (inb_cell s))).squeeze S_ squeezes_S1_S_
abbrev cellX (s : Fin 4) : SemLoc sig := SemLoc.dma (semsX s).sem
abbrev cellG (s : Fin 4) : SemLoc sig := SemLoc.dma (semsG s).sem

/-! ## Shares

Block `k` is read under its own share of its array, so that a slot's next block can start while the last one's
share is being put back together. -/

/-- What is left of the whole after `k` shares have been split off; the share split off next. -/
def rem : ℕ → PosShare TreeShare
  | 0 => fullShare
  | k + 1 => (rem k).right
def part (k : ℕ) : PosShare TreeShare := (rem k).left

/-- Splitting one share off. -/
theorem rem_split (k : ℕ) {ℓ : Loc nD τ sig} (S : Finset (Idx ℓ)) (W : Buf (Elt F) ℓ) :
    (ℓ ↦[S]{rem k} W : sProp 𝕄) ⊣⊢ iprop((ℓ ↦[S]{part k} W) ∗ (ℓ ↦[S]{rem (k + 1)} W)) :=
  pointsTo_share (PosShare.mem_left_op_right (rem k))

/-- The share of the residual block `k` is read under. -/
abbrev shareX (k : ℕ) : PosShare TreeShare := part (k % 8)
/-- The share of an array of heads. -/
abbrev shareG (k : ℕ) : PosShare TreeShare := part (k / 4 % 2 * 2 + k % 2)

/-! ## What a slot holds -/

section Families
variable (c : Dev nD) (X : Held (F := F) c hbmX) (Lo : Held (F := F) c hbmLo) (Hi : Held (F := F) c hbmHi)

/-- A slot held at `f`; a semaphore at zero. -/
abbrev slotPtX (s : Fin 4) (f : Held (F := F) c (slotX s)) : sProp 𝕄 := (slotX s).view.loc (c : Thread nD τ) ↦[(slotX s).view.set]{fullShare} f
abbrev slotPtG (s : Fin 4) (f : Held (F := F) c (slotG s)) : sProp 𝕄 := (slotG s).view.loc (c : Thread nD τ) ↦[(slotG s).view.set]{fullShare} f
abbrev idleX (s : Fin 4) : sProp 𝕄 := semVal ((c : Thread nD τ), cellX s) 0
abbrev idleG (s : Fin 4) : sProp 𝕄 := semVal ((c : Thread nD τ), cellG s) 0
/-- Block `k` of an array under its share, -/
abbrev blockX (k : ℕ) : sProp 𝕄 := (srcX (Ring.bk 16 k)).view.loc (c : Thread nD τ) ↦[(srcX (Ring.bk 16 k)).view.set]{shareX k} X
abbrev blockLo (k : ℕ) : sProp 𝕄 := (srcLo (Ring.bk 16 k)).view.loc (c : Thread nD τ) ↦[(srcLo (Ring.bk 16 k)).view.set]{shareG k} Lo
abbrev blockHi (k : ℕ) : sProp 𝕄 := (srcHi (Ring.bk 16 k)).view.loc (c : Thread nD τ) ↦[(srcHi (Ring.bk 16 k)).view.set]{shareG k} Hi
/-- the rest of the array under that share, -/
def restX (k : ℕ) : sProp 𝕄 := ((c : Thread nD τ).loc main_arg0) ↦[Finset.univ \ (srcX (Ring.bk 16 k)).view.set]{shareX k} X
def restLo (k : ℕ) : sProp 𝕄 := ((c : Thread nD τ).loc main_arg1) ↦[Finset.univ \ (srcLo (Ring.bk 16 k)).view.set]{shareG k} Lo
def restHi (k : ℕ) : sProp 𝕄 := ((c : Thread nD τ).loc main_arg2) ↦[Finset.univ \ (srcHi (Ring.bk 16 k)).view.set]{shareG k} Hi
/-- and the array whole under it. -/
def copyX (q : PosShare TreeShare) : sProp 𝕄 := ((c : Thread nD τ).loc main_arg0) ↦[Finset.univ]{q} X
def copyLo (q : PosShare TreeShare) : sProp 𝕄 := ((c : Thread nD τ).loc main_arg1) ↦[Finset.univ]{q} Lo
def copyHi (q : PosShare TreeShare) : sProp 𝕄 := ((c : Thread nD τ).loc main_arg2) ↦[Finset.univ]{q} Hi

theorem copyX_split (k : ℕ) : copyX (F := F) c X (shareX k) ⊣⊢ iprop(blockX c X k ∗ restX c X k) := by
  unfold copyX restX; exact pointsTo_split_subset (Finset.subset_univ _)
theorem copyLo_split (k : ℕ) : copyLo (F := F) c Lo (shareG k) ⊣⊢ iprop(blockLo c Lo k ∗ restLo c Lo k) := by
  unfold copyLo restLo; exact pointsTo_split_subset (Finset.subset_univ _)
theorem copyHi_split (k : ℕ) : copyHi (F := F) c Hi (shareG k) ⊣⊢ iprop(blockHi c Hi k ∗ restHi c Hi k) := by
  unfold copyHi restHi; exact pointsTo_split_subset (Finset.subset_univ _)

/-- A slot's contents once block `k` has landed in it over `f`. -/
abbrev landX (s : Fin 4) (k : ℕ) (f : Held (F := F) c (slotX s)) : Held (F := F) c (slotX s) :=
  (slotX s).view.writes (Elt F) f [⟨Rect.whole S1024x1024, ReadAs.same.apply ((srcX (Ring.bk 16 k)).view.read (Elt F) X)⟩]
abbrev landLo (s : Fin 4) (k : ℕ) (f : Held (F := F) c (slotG s)) : Held (F := F) c (slotG s) :=
  (slotG s).view.writes (Elt F) f [⟨Rect.whole S1024x1024, ReadAs.same.apply ((srcLo (Ring.bk 16 k)).view.read (Elt F) Lo)⟩]
abbrev landHi (s : Fin 4) (k : ℕ) (f : Held (F := F) c (slotG s)) : Held (F := F) c (slotG s) :=
  (slotG s).view.writes (Elt F) f [⟨Rect.whole S1024x1024, ReadAs.same.apply ((srcHi (Ring.bk 16 k)).view.read (Elt F) Hi)⟩]
/-- Block `k` on its way into slot `s`. -/
abbrev flyX (s : Fin 4) (k : ℕ) (f : Held (F := F) c (slotX s)) : sProp 𝕄 :=
  Transfers.Flight countersEmb (c : Thread nD τ) (cellX s) default ((slotX s).view.amount (cellX s)) iprop(slotPtX c s (landX c X s k f) ∗ blockX c X k)
abbrev flyLo (s : Fin 4) (k : ℕ) (f : Held (F := F) c (slotG s)) : sProp 𝕄 :=
  Transfers.Flight countersEmb (c : Thread nD τ) (cellG s) default ((slotG s).view.amount (cellG s)) iprop(slotPtG c s (landLo c Lo s k f) ∗ blockLo c Lo k)
abbrev flyHi (s : Fin 4) (k : ℕ) (f : Held (F := F) c (slotG s)) : sProp 𝕄 :=
  Transfers.Flight countersEmb (c : Thread nD τ) (cellG s) default ((slotG s).view.amount (cellG s)) iprop(slotPtG c s (landHi c Hi s k f) ∗ blockHi c Hi k)

/-- Slot `s` with block `k` on its way: the transfer, the rest of the block's share, the slot's other share. -/
def busyX (s : Fin 4) (k : ℕ) : sProp 𝕄 := iprop(∃ f, flyX c X s k f ∗ restX c X k ∗ copyX c X (shareX (k + 4)))
def busyLo (s : Fin 4) (k : ℕ) : sProp 𝕄 := iprop(∃ f, flyLo c Lo s k f ∗ restLo c Lo k ∗ copyLo c Lo (shareG (k + 4)))
def busyHi (s : Fin 4) (k : ℕ) : sProp 𝕄 := iprop(∃ f, flyHi c Hi s k f ∗ restHi c Hi k ∗ copyHi c Hi (shareG (k + 4)))
/-- Slot `s` free, both its shares whole. -/
def freeX (s : Fin 4) (k : ℕ) : sProp 𝕄 := iprop(idleX c s ∗ (∃ f, slotPtX c s f) ∗ copyX c X (shareX k) ∗ copyX c X (shareX (k + 4)))
def freeLo (s : Fin 4) (k : ℕ) : sProp 𝕄 := iprop(idleG c s ∗ (∃ f, slotPtG c s f) ∗ copyLo c Lo (shareG k) ∗ copyLo c Lo (shareG (k + 4)))
def freeHi (s : Fin 4) (k : ℕ) : sProp 𝕄 := iprop(idleG c s ∗ (∃ f, slotPtG c s f) ∗ copyHi c Hi (shareG k) ∗ copyHi c Hi (shareG (k + 4)))
end Families

end Cert.MobaOut

end
-- ==== Proof.OutNames.lean ====
/- The output projection's operands at a grid point, named as slots, blocks and semaphores. -/
module

public import proofs.«01_k».proof.Proof.OutRing

@[expose] public section

set_option maxRecDepth 16384
set_option synthInstance.maxSize 4096

noncomputable section

namespace Cert.MobaOut

open Cert.OutIdeal Cert.OutIdeal.Gen
open Idealize.ShloMosaic Idealize.ShloMosaic.TcCoe Idealize.ShloMosaic.Tactic
open Idealize.SL Idealize.SL.Sem

/-! ## A slice at known offsets -/

theorem slotX_at (s : Fin 4) {o : Fin 3 → Nat} (h : ∀ a, o a + S1x1024x1024.size a ≤ S4x1024x1024.size a) (e : o = ![s.val, 0, 0]) :
    (bufX.slice (Rect.unit (s := S4x1024x1024) o S1x1024x1024.size h) (fun _ => rfl)).squeeze S1024x1024 squeezes_S1x1024x1024_S1024x1024 = slotX s := by
  subst e; rfl
theorem slotG_at (s : Fin 4) {o : Fin 3 → Nat} (h : ∀ a, o a + S1x1024x1024.size a ≤ S4x1024x1024.size a) (e : o = ![s.val, 0, 0]) :
    (bufG.slice (Rect.unit (s := S4x1024x1024) o S1x1024x1024.size h) (fun _ => rfl)).squeeze S1024x1024 squeezes_S1x1024x1024_S1024x1024 = slotG s := by
  subst e; rfl
theorem srcX_at (b : Fin 16) {o : Fin 3 → Nat} (h : ∀ a, o a + S1x1024x1024.size a ≤ S4x4096x1024.size a) (e : o = ![b.val / 4, 1024 * (b.val % 4), 0]) :
    (hbmX.slice (Rect.unit (s := S4x4096x1024) o S1x1024x1024.size h) (fun _ => rfl)).squeeze S1024x1024 squeezes_S1x1024x1024_S1024x1024 = srcX b := by
  subst e; rfl
theorem srcLo_at (b : Fin 16) {o : Fin 3 → Nat} (h : ∀ a, o a + S1x1024x1024.size a ≤ S4x2048x1024.size a) (e : o = ![b.val / 4, 1024 * (b.val % 2), 0]) :
    (hbmLo.slice (Rect.unit (s := S4x2048x1024) o S1x1024x1024.size h) (fun _ => rfl)).squeeze S1024x1024 squeezes_S1x1024x1024_S1024x1024 = srcLo b := by
  subst e; rfl
theorem srcHi_at (b : Fin 16) {o : Fin 3 → Nat} (h : ∀ a, o a + S1x1024x1024.size a ≤ S4x2048x1024.size a) (e : o = ![b.val / 4, 1024 * (b.val % 2), 0]) :
    (hbmHi.slice (Rect.unit (s := S4x2048x1024) o S1x1024x1024.size h) (fun _ => rfl)).squeeze S1024x1024 squeezes_S1x1024x1024_S1024x1024 = srcHi b := by
  subst e; rfl
theorem semsX_at (s : Fin 4) {o : Fin 1 → Nat} (h : ∀ a, o a + S1.size a ≤ S4.size a) (e : o = ![s.val]) :
    (cc0_scratch2.slice (Rect.unit (s := S4) o S1.size h)).squeeze S_ squeezes_S1_S_ = semsX s := by
  subst e; rfl
theorem semsG_at (s : Fin 4) {o : Fin 1 → Nat} (h : ∀ a, o a + S1.size a ≤ S4.size a) (e : o = ![s.val]) :
    (cc0_scratch3.slice (Rect.unit (s := S4) o S1.size h)).squeeze S_ squeezes_S1_S_ = semsG s := by
  subst e; rfl

/-! ## The offsets at a grid point -/

theorem off3 : ∀ t : Fin grid0.N, k0_off3 (grid0.coords t) = ![(Ring.sl 4 t.val).val] := by decide +kernel
theorem off4 : ∀ t : Fin grid0.N, k0_off4 (grid0.coords t) = ![(Ring.sl 4 t.val).val, 0, 0] := by decide +kernel
theorem off6 : ∀ t : Fin grid0.N, k0_off6 (grid0.coords t) = ![(Ring.sl 4 t.val).val] := by decide +kernel
theorem off7 : ∀ t : Fin grid0.N, k0_off7 (grid0.coords t) = ![(Ring.sl 4 t.val).val, 0, 0] := by decide +kernel
theorem off9 : ∀ t : Fin grid0.N, k0_off9 (grid0.coords t) = ![(Ring.sl 4 t.val).val] := by decide +kernel
theorem off10 : ∀ t : Fin grid0.N, k0_off10 (grid0.coords t) = ![(Ring.sl 4 t.val).val, 0, 0] := by decide +kernel
theorem off12 : ∀ t : Fin grid0.N, k0_off12 (grid0.coords t) = ![(Ring.sl 4 t.val).val, 0, 0] := by decide +kernel
theorem off13 : ∀ t : Fin grid0.N, k0_off13 (grid0.coords t) = ![(Ring.sl 4 t.val).val] := by decide +kernel
theorem off14 : ∀ t : Fin grid0.N, k0_off14 (grid0.coords t) = ![(Ring.sl 4 t.val).val, 0, 0] := by decide +kernel
theorem off15 : ∀ t : Fin grid0.N, starts (grid0.coords t) → k0_off15 (grid0.coords t) = ![(Ring.bk 16 (t.val + 4)).val / 4, 1024 * ((Ring.bk 16 (t.val + 4)).val % 4), 0] := by decide +kernel
theorem off16 : ∀ t : Fin grid0.N, k0_off16 (grid0.coords t) = ![(Ring.sl 4 t.val).val] := by decide +kernel
theorem off17 : ∀ t : Fin grid0.N, k0_off17 (grid0.coords t) = ![(Ring.sl 4 t.val).val, 0, 0] := by decide +kernel
theorem off18 : ∀ t : Fin grid0.N, starts (grid0.coords t) → startsLo (grid0.coords t) → k0_off18 (grid0.coords t) = ![(Ring.bk 16 (t.val + 4)).val / 4, 1024 * ((Ring.bk 16 (t.val + 4)).val % 2), 0] := by decide +kernel
theorem off19 : ∀ t : Fin grid0.N, k0_off19 (grid0.coords t) = ![(Ring.sl 4 t.val).val] := by decide +kernel
theorem off20 : ∀ t : Fin grid0.N, k0_off20 (grid0.coords t) = ![(Ring.sl 4 t.val).val, 0, 0] := by decide +kernel
theorem off21 : ∀ t : Fin grid0.N, starts (grid0.coords t) → startsHi (grid0.coords t) → k0_off21 (grid0.coords t) = ![(Ring.bk 16 (t.val + 4)).val / 4, 1024 * ((Ring.bk 16 (t.val + 4)).val % 2), 0] := by decide +kernel

/-- A load from a ring, in its slot's spelling. -/
instance (priority := high) closed12 (t : Fin grid0.N) : ClosedOff (k0_off12 (grid0.coords t)) := ⟨![(Ring.sl 4 t.val).val, 0, 0], off12 t⟩

/-! ## The operands of each point -/

section Canon
variable (t : Fin grid0.N)
@[sl_canon] theorem canon3 : (cc0_scratch2.slice (Rect.unit (s := S4) (k0_off3 (grid0.coords t)) S1.size (k0_off3_inb (grid0.coords t)))).squeeze S_ squeezes_S1_S_ = semsX (Ring.sl 4 t.val) :=
  semsX_at _ _ (off3 t)
@[sl_canon] theorem canon4 : (bufX.slice (Rect.unit (s := S4x1024x1024) (k0_off4 (grid0.coords t)) S1x1024x1024.size (k0_off4_inb (grid0.coords t))) (fun _ => rfl)).squeeze S1024x1024 squeezes_S1x1024x1024_S1024x1024 = slotX (Ring.sl 4 t.val) :=
  slotX_at _ _ (off4 t)
@[sl_canon] theorem canon6 (h : waitsLo (grid0.coords t)) : (cc0_scratch3.slice (Rect.unit (s := S4) (k0_off6 (grid0.coords t)) S1.size (k0_off6_inb (grid0.coords t) h))).squeeze S_ squeezes_S1_S_ = semsG (Ring.sl 4 t.val) :=
  semsG_at _ _ (off6 t)
@[sl_canon] theorem canon7 (h : waitsLo (grid0.coords t)) : (bufG.slice (Rect.unit (s := S4x1024x1024) (k0_off7 (grid0.coords t)) S1x1024x1024.size (k0_off7_inb (grid0.coords t) h)) (fun _ => rfl)).squeeze S1024x1024 squeezes_S1x1024x1024_S1024x1024 = slotG (Ring.sl 4 t.val) :=
  slotG_at _ _ (off7 t)
@[sl_canon] theorem canon9 (h : waitsHi (grid0.coords t)) : (cc0_scratch3.slice (Rect.unit (s := S4) (k0_off9 (grid0.coords t)) S1.size (k0_off9_inb (grid0.coords t) h))).squeeze S_ squeezes_S1_S_ = semsG (Ring.sl 4 t.val) :=
  semsG_at _ _ (off9 t)
@[sl_canon] theorem canon10 (h : waitsHi (grid0.coords t)) : (bufG.slice (Rect.unit (s := S4x1024x1024) (k0_off10 (grid0.coords t)) S1x1024x1024.size (k0_off10_inb (grid0.coords t) h)) (fun _ => rfl)).squeeze S1024x1024 squeezes_S1x1024x1024_S1024x1024 = slotG (Ring.sl 4 t.val) :=
  slotG_at _ _ (off10 t)
@[sl_canon] theorem canon13 (h : starts (grid0.coords t)) : (cc0_scratch2.slice (Rect.unit (s := S4) (k0_off13 (grid0.coords t)) S1.size (k0_off13_inb (grid0.coords t) h))).squeeze S_ squeezes_S1_S_ = semsX (Ring.sl 4 t.val) :=
  semsX_at _ _ (off13 t)
@[sl_canon] theorem canon14 (h : starts (grid0.coords t)) : (bufX.slice (Rect.unit (s := S4x1024x1024) (k0_off14 (grid0.coords t)) S1x1024x1024.size (k0_off14_inb (grid0.coords t) h)) (fun _ => rfl)).squeeze S1024x1024 squeezes_S1x1024x1024_S1024x1024 = slotX (Ring.sl 4 t.val) :=
  slotX_at _ _ (off14 t)
@[sl_canon] theorem canon15 (h : starts (grid0.coords t)) : (hbmX.slice (Rect.unit (s := S4x4096x1024) (k0_off15 (grid0.coords t)) S1x1024x1024.size (k0_off15_inb (grid0.coords t) h)) (fun _ => rfl)).squeeze S1024x1024 squeezes_S1x1024x1024_S1024x1024 = srcX (Ring.bk 16 (t.val + 4)) :=
  srcX_at _ _ (off15 t h)
@[sl_canon] theorem canon16 (h : starts (grid0.coords t)) (h' : startsLo (grid0.coords t)) : (cc0_scratch3.slice (Rect.unit (s := S4) (k0_off16 (grid0.coords t)) S1.size (k0_off16_inb (grid0.coords t) h h'))).squeeze S_ squeezes_S1_S_ = semsG (Ring.sl 4 t.val) :=
  semsG_at _ _ (off16 t)
@[sl_canon] theorem canon17 (h : starts (grid0.coords t)) (h' : startsLo (grid0.coords t)) : (bufG.slice (Rect.unit (s := S4x1024x1024) (k0_off17 (grid0.coords t)) S1x1024x1024.size (k0_off17_inb (grid0.coords t) h h')) (fun _ => rfl)).squeeze S1024x1024 squeezes_S1x1024x1024_S1024x1024 = slotG (Ring.sl 4 t.val) :=
  slotG_at _ _ (off17 t)
@[sl_canon] theorem canon18 (h : starts (grid0.coords t)) (h' : startsLo (grid0.coords t)) : (hbmLo.slice (Rect.unit (s := S4x2048x1024) (k0_off18 (grid0.coords t)) S1x1024x1024.size (k0_off18_inb (grid0.coords t) h h')) (fun _ => rfl)).squeeze S1024x1024 squeezes_S1x1024x1024_S1024x1024 = srcLo (Ring.bk 16 (t.val + 4)) :=
  srcLo_at _ _ (off18 t h h')
@[sl_canon] theorem canon19 (h : starts (grid0.coords t)) (h' : startsHi (grid0.coords t)) : (cc0_scratch3.slice (Rect.unit (s := S4) (k0_off19 (grid0.coords t)) S1.size (k0_off19_inb (grid0.coords t) h h'))).squeeze S_ squeezes_S1_S_ = semsG (Ring.sl 4 t.val) :=
  semsG_at _ _ (off19 t)
@[sl_canon] theorem canon20 (h : starts (grid0.coords t)) (h' : startsHi (grid0.coords t)) : (bufG.slice (Rect.unit (s := S4x1024x1024) (k0_off20 (grid0.coords t)) S1x1024x1024.size (k0_off20_inb (grid0.coords t) h h')) (fun _ => rfl)).squeeze S1024x1024 squeezes_S1x1024x1024_S1024x1024 = slotG (Ring.sl 4 t.val) :=
  slotG_at _ _ (off20 t)
@[sl_canon] theorem canon21 (h : starts (grid0.coords t)) (h' : startsHi (grid0.coords t)) : (hbmHi.slice (Rect.unit (s := S4x2048x1024) (k0_off21 (grid0.coords t)) S1x1024x1024.size (k0_off21_inb (grid0.coords t) h h')) (fun _ => rfl)).squeeze S1024x1024 squeezes_S1x1024x1024_S1024x1024 = srcHi (Ring.bk 16 (t.val + 4)) :=
  srcHi_at _ _ (off21 t h h')
end Canon

end Cert.MobaOut

end
-- ==== Proof.OutRunLo.lean ====
/- The output projection's body at a point of a sequence's first half, a block still to start. -/
module

public import proofs.«01_k».proof.Proof.OutNames

@[expose] public section

set_option maxRecDepth 16384

noncomputable section

namespace Cert.MobaOut

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body at grid point `t` on any staging memrefs. -/
abbrev bodyOn (t : Fin grid0.N) (arg4 : Memref sig .tc .vmem S1024x1024 .bf16) (harg4 : arg4.IsWhole) (arg5 : Memref sig .tc .vmem S1x1024x1024 .f32) (harg5 : arg5.IsWhole) : Prog (TpuEff nD τ sig (Elt F) Λ₀ .tc) PUnit :=
  cc0_moba_out (grid0.coords t) hbmX (Memref.isWhole_whole _) hbmLo (Memref.isWhole_whole _) hbmHi (Memref.isWhole_whole _) arg4 harg4 arg5 harg5 bufX (Memref.isWhole_whole _) bufG (Memref.isWhole_whole _) cc0_scratch2 cc0_scratch3

set_option maxHeartbeats 1000000 in
/-- The slot's two blocks are waited for and read; the blocks four points on are started into it. -/
noncomputable def runLo (c : Dev nD) (t : Fin grid0.N) (arg4 : Memref sig .tc .vmem S1024x1024 .bf16) (harg4 : arg4.IsWhole) (arg5 : Memref sig .tc .vmem S1x1024x1024 .f32) (harg5 : arg5.IsWhole)
    (h1 : ¬first (grid0.coords t)) (h2 : waitsLo (grid0.coords t)) (h3 : ¬waitsHi (grid0.coords t)) (h4 : starts (grid0.coords t)) (h5 : startsLo (grid0.coords t)) (h6 : ¬startsHi (grid0.coords t))
    (w : Vec F S1024x1024 .bf16) (X : Held (F := F) c hbmX) (Lo : Held (F := F) c hbmLo) :
    { L : List (View.Piece (Elt F) S1x1024x1024 .f32) //
      ∀ (W : Waits sig Unit) (K : PUnit → sProp 𝕄),
        iprop(owns (c : Thread nD τ) arg4 fullShare w ∗ (∃ d, owns (c : Thread nD τ) arg5 fullShare d)
            ∗ busyX c X (Ring.sl 4 t.val) t.val ∗ busyLo c Lo (Ring.sl 4 t.val) t.val ∗ owes (c : Thread nD τ) 0 W
            ∗ (iprop(owns (c : Thread nD τ) arg4 fullShare w ∗ (∃ f, arg5.view.loc (c : Thread nD τ) ↦[arg5.view.set]{fullShare} arg5.view.writes (Elt F) f L)
                ∗ busyX c X (Ring.sl 4 t.val) (t.val + 4) ∗ busyLo c Lo (Ring.sl 4 t.val) (t.val + 4) ∗ (∃ W', owes (c : Thread nD τ) 0 W')) -∗ K ⟨⟩))
          ⊢ wp frame (wpE (defs₀ (F := F)) Variants.none c none) Set.univ (bodyOn t arg4 harg4 arg5 harg5) K } := by
  refine ⟨?_, fun W K => ?run⟩
  case run =>
    haveI : Fact (¬first (grid0.coords t)) := ⟨h1⟩
    haveI : Fact (waitsLo (grid0.coords t)) := ⟨h2⟩
    haveI : Fact (¬waitsHi (grid0.coords t)) := ⟨h3⟩
    haveI : Fact (starts (grid0.coords t)) := ⟨h4⟩
    haveI : Fact (startsLo (grid0.coords t)) := ⟨h5⟩
    haveI : Fact (¬startsHi (grid0.coords t)) := ⟨h6⟩
    have eX : shareX (t.val + 4 + 4) = shareX t.val := by unfold shareX; congr 1; omega
    have eG : shareG (t.val + 4 + 4) = shareG t.val := by unfold shareG; congr 1; omega
    have hcanon16 := canon16 t h4 h5
    have hcanon17 := canon17 t h4 h5
    have hcanon18 := canon18 t h4 h5
    unfold bodyOn
    simp only [cc0_moba_out_eq_skeleton]; unfold cc0_moba_out_skel
    simp only [k0_part4_eq_skeleton, k0_part5_eq_skeleton, k0_part3_eq_skeleton]
    unfold owns busyX busyLo
    rw [eX, eG]
    iintro ⟨⟨%f0, %hf0, H0⟩, ⟨%d1, %f1, -, H1⟩, ⟨%fx, Hx, Hxr, Hxc⟩, ⟨%fg, Hg, Hgr, Hgc⟩, HW, Hk⟩
    ihave Hxs := (copyX_split c X (t.val + 4)).1 $$ Hxc
    icases Hxs with ⟨Hxb, Hxq⟩
    ihave Hgs := (copyLo_split c Lo (t.val + 4)).1 $$ Hgc
    icases Hgs with ⟨Hgb, Hgq⟩
    obtain rfl := harg4.eq_unread hf0
    sl_exec (disch := first | sl_exact h1 | sl_exact h2 | sl_exact h3 | sl_exact h4 | sl_exact h5 | sl_exact h6)
    sl_step
    iapply Hk
    isplitl [H0]
    · iexists _; isplitr; · ipureintro; exact harg4.read_unread _
      iexact H0
    isplitl [H1]; · iexists _; iexact H1
    isplitl [Hx Hxq Hxr Hx_src]
    · iexists _; isplitl [Hx]; · iexact Hx
      isplitl [Hxq]; · iexact Hxq
      iapply (copyX_split c X t.val).2; isplitl [Hx_src]; · iexact Hx_src
      iexact Hxr
    isplitl [Hg Hgq Hgr Hg_src]
    · iexists _; isplitl [Hg]; · iexact Hg
      isplitl [Hgq]; · iexact Hgq
      iapply (copyLo_split c Lo t.val).2; isplitl [Hg_src]; · iexact Hg_src
      iexact Hgr
    iexists _; iexact HW

end Cert.MobaOut

end
-- ==== Proof.OutRunHi.lean ====
/- The output projection's body at a point of a sequence's second half, a block still to start. -/
module

public import proofs.«01_k».proof.Proof.OutRunLo

@[expose] public section

set_option maxRecDepth 16384

noncomputable section

namespace Cert.MobaOut

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- As in the first half, the heads from the second array. -/
noncomputable def runHi (c : Dev nD) (t : Fin grid0.N) (arg4 : Memref sig .tc .vmem S1024x1024 .bf16) (harg4 : arg4.IsWhole) (arg5 : Memref sig .tc .vmem S1x1024x1024 .f32) (harg5 : arg5.IsWhole)
    (h1 : ¬first (grid0.coords t)) (h2 : ¬waitsLo (grid0.coords t)) (h3 : waitsHi (grid0.coords t)) (h4 : starts (grid0.coords t)) (h5 : ¬startsLo (grid0.coords t)) (h6 : startsHi (grid0.coords t))
    (w : Vec F S1024x1024 .bf16) (X : Held (F := F) c hbmX) (Hi : Held (F := F) c hbmHi) :
    { L : List (View.Piece (Elt F) S1x1024x1024 .f32) //
      ∀ (W : Waits sig Unit) (K : PUnit → sProp 𝕄),
        iprop(owns (c : Thread nD τ) arg4 fullShare w ∗ (∃ d, owns (c : Thread nD τ) arg5 fullShare d)
            ∗ busyX c X (Ring.sl 4 t.val) t.val ∗ busyHi c Hi (Ring.sl 4 t.val) t.val ∗ owes (c : Thread nD τ) 0 W
            ∗ (iprop(owns (c : Thread nD τ) arg4 fullShare w ∗ (∃ f, arg5.view.loc (c : Thread nD τ) ↦[arg5.view.set]{fullShare} arg5.view.writes (Elt F) f L)
                ∗ busyX c X (Ring.sl 4 t.val) (t.val + 4) ∗ busyHi c Hi (Ring.sl 4 t.val) (t.val + 4) ∗ (∃ W', owes (c : Thread nD τ) 0 W')) -∗ K ⟨⟩))
          ⊢ wp frame (wpE (defs₀ (F := F)) Variants.none c none) Set.univ (bodyOn t arg4 harg4 arg5 harg5) K } := by
  refine ⟨?_, fun W K => ?run⟩
  case run =>
    haveI : Fact (waitsHi (grid0.coords t)) := ⟨h3⟩
    haveI : Fact (starts (grid0.coords t)) := ⟨h4⟩
    have eX : shareX (t.val + 4 + 4) = shareX t.val := by unfold shareX; congr 1; omega
    have eG : shareG (t.val + 4 + 4) = shareG t.val := by unfold shareG; congr 1; omega
    have hcanon19 := canon19 t h4 h6
    have hcanon20 := canon20 t h4 h6
    have hcanon21 := canon21 t h4 h6
    unfold bodyOn
    simp only [cc0_moba_out_eq_skeleton]; unfold cc0_moba_out_skel
    simp only [k0_part4_eq_skeleton, k0_part5_eq_skeleton, k0_part3_eq_skeleton]
    unfold owns busyX busyHi
    rw [eX, eG]
    iintro ⟨⟨%f0, %hf0, H0⟩, ⟨%d1, %f1, -, H1⟩, ⟨%fx, Hx, Hxr, Hxc⟩, ⟨%fg, Hg, Hgr, Hgc⟩, HW, Hk⟩
    ihave Hxs := (copyX_split c X (t.val + 4)).1 $$ Hxc
    icases Hxs with ⟨Hxb, Hxq⟩
    ihave Hgs := (copyHi_split c Hi (t.val + 4)).1 $$ Hgc
    icases Hgs with ⟨Hgb, Hgq⟩
    obtain rfl := harg4.eq_unread hf0
    sl_exec (disch := first | sl_exact h1 | sl_exact h2 | sl_exact h3 | sl_exact h4 | sl_exact h5 | sl_exact h6)
    sl_step
    iapply Hk
    isplitl [H0]
    · iexists _; isplitr; · ipureintro; exact harg4.read_unread _
      iexact H0
    isplitl [H1]; · iexists _; iexact H1
    isplitl [Hx Hxq Hxr Hx_src]
    · iexists _; isplitl [Hx]; · iexact Hx
      isplitl [Hxq]; · iexact Hxq
      iapply (copyX_split c X t.val).2; isplitl [Hx_src]; · iexact Hx_src
      iexact Hxr
    isplitl [Hg Hgq Hgr Hg_src]
    · iexists _; isplitl [Hg]; · iexact Hg
      isplitl [Hgq]; · iexact Hgq
      iapply (copyHi_split c Hi t.val).2; isplitl [Hg_src]; · iexact Hg_src
      iexact Hgr
    iexists _; iexact HW

end Cert.MobaOut

end
-- ==== Proof.OutRunEnd.lean ====
/- The output projection's body at the last four points, where no block is started. -/
module

public import proofs.«01_k».proof.Proof.OutRunHi

@[expose] public section

set_option maxRecDepth 16384

noncomputable section

namespace Cert.MobaOut

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The slot's last blocks are waited for and read, in the first half: the slot is left free. -/
noncomputable def runLoEnd (c : Dev nD) (t : Fin grid0.N) (arg4 : Memref sig .tc .vmem S1024x1024 .bf16) (harg4 : arg4.IsWhole) (arg5 : Memref sig .tc .vmem S1x1024x1024 .f32) (harg5 : arg5.IsWhole)
    (h1 : ¬first (grid0.coords t)) (h2 : waitsLo (grid0.coords t)) (h3 : ¬waitsHi (grid0.coords t)) (h4 : ¬starts (grid0.coords t))
    (w : Vec F S1024x1024 .bf16) (X : Held (F := F) c hbmX) (Lo : Held (F := F) c hbmLo) :
    { L : List (View.Piece (Elt F) S1x1024x1024 .f32) //
      ∀ (W : Waits sig Unit) (K : PUnit → sProp 𝕄),
        iprop(owns (c : Thread nD τ) arg4 fullShare w ∗ (∃ d, owns (c : Thread nD τ) arg5 fullShare d)
            ∗ busyX c X (Ring.sl 4 t.val) t.val ∗ busyLo c Lo (Ring.sl 4 t.val) t.val ∗ owes (c : Thread nD τ) 0 W
            ∗ (iprop(owns (c : Thread nD τ) arg4 fullShare w ∗ (∃ f, arg5.view.loc (c : Thread nD τ) ↦[arg5.view.set]{fullShare} arg5.view.writes (Elt F) f L)
                ∗ freeX c X (Ring.sl 4 t.val) (t.val + 4) ∗ freeLo c Lo (Ring.sl 4 t.val) (t.val + 4) ∗ (∃ W', owes (c : Thread nD τ) 0 W')) -∗ K ⟨⟩))
          ⊢ wp frame (wpE (defs₀ (F := F)) Variants.none c none) Set.univ (bodyOn t arg4 harg4 arg5 harg5) K } := by
  refine ⟨?_, fun W K => ?run⟩
  case run =>
    haveI : Fact (waitsLo (grid0.coords t)) := ⟨h2⟩
    have eX : shareX (t.val + 4 + 4) = shareX t.val := by unfold shareX; congr 1; omega
    have eG : shareG (t.val + 4 + 4) = shareG t.val := by unfold shareG; congr 1; omega
    unfold bodyOn
    simp only [cc0_moba_out_eq_skeleton]; unfold cc0_moba_out_skel
    simp only [k0_part4_eq_skeleton, k0_part5_eq_skeleton]
    unfold owns busyX busyLo freeX freeLo
    rw [eX, eG]
    iintro ⟨⟨%f0, %hf0, H0⟩, ⟨%d1, %f1, -, H1⟩, ⟨%fx, Hx, Hxr, Hxc⟩, ⟨%fg, Hg, Hgr, Hgc⟩, HW, Hk⟩
    obtain rfl := harg4.eq_unread hf0
    sl_exec (disch := first | sl_exact h1 | sl_exact h2 | sl_exact h3 | sl_exact h4)
    sl_step
    iapply Hk
    isplitl [H0]
    · iexists _; isplitr; · ipureintro; exact harg4.read_unread _
      iexact H0
    isplitl [H1]; · iexists _; iexact H1
    isplitl [Hx Hx_dst Hxc Hxr Hx_src]
    · isplitl [Hx]; · iexact Hx
      isplitl [Hx_dst]; · iexists _; iexact Hx_dst
      isplitl [Hxc]; · iexact Hxc
      iapply (copyX_split c X t.val).2; isplitl [Hx_src]; · iexact Hx_src
      iexact Hxr
    isplitl [Hg Hg_dst Hgc Hgr Hg_src]
    · isplitl [Hg]; · iexact Hg
      isplitl [Hg_dst]; · iexists _; iexact Hg_dst
      isplitl [Hgc]; · iexact Hgc
      iapply (copyLo_split c Lo t.val).2; isplitl [Hg_src]; · iexact Hg_src
      iexact Hgr
    iexists _; iexact HW

set_option maxHeartbeats 1000000 in
/-- The same in the second half. -/
noncomputable def runHiEnd (c : Dev nD) (t : Fin grid0.N) (arg4 : Memref sig .tc .vmem S1024x1024 .bf16) (harg4 : arg4.IsWhole) (arg5 : Memref sig .tc .vmem S1x1024x1024 .f32) (harg5 : arg5.IsWhole)
    (h1 : ¬first (grid0.coords t)) (h2 : ¬waitsLo (grid0.coords t)) (h3 : waitsHi (grid0.coords t)) (h4 : ¬starts (grid0.coords t))
    (w : Vec F S1024x1024 .bf16) (X : Held (F := F) c hbmX) (Hi : Held (F := F) c hbmHi) :
    { L : List (View.Piece (Elt F) S1x1024x1024 .f32) //
      ∀ (W : Waits sig Unit) (K : PUnit → sProp 𝕄),
        iprop(owns (c : Thread nD τ) arg4 fullShare w ∗ (∃ d, owns (c : Thread nD τ) arg5 fullShare d)
            ∗ busyX c X (Ring.sl 4 t.val) t.val ∗ busyHi c Hi (Ring.sl 4 t.val) t.val ∗ owes (c : Thread nD τ) 0 W
            ∗ (iprop(owns (c : Thread nD τ) arg4 fullShare w ∗ (∃ f, arg5.view.loc (c : Thread nD τ) ↦[arg5.view.set]{fullShare} arg5.view.writes (Elt F) f L)
                ∗ freeX c X (Ring.sl 4 t.val) (t.val + 4) ∗ freeHi c Hi (Ring.sl 4 t.val) (t.val + 4) ∗ (∃ W', owes (c : Thread nD τ) 0 W')) -∗ K ⟨⟩))
          ⊢ wp frame (wpE (defs₀ (F := F)) Variants.none c none) Set.univ (bodyOn t arg4 harg4 arg5 harg5) K } := by
  refine ⟨?_, fun W K => ?run⟩
  case run =>
    haveI : Fact (waitsHi (grid0.coords t)) := ⟨h3⟩
    have eX : shareX (t.val + 4 + 4) = shareX t.val := by unfold shareX; congr 1; omega
    have eG : shareG (t.val + 4 + 4) = shareG t.val := by unfold shareG; congr 1; omega
    unfold bodyOn
    simp only [cc0_moba_out_eq_skeleton]; unfold cc0_moba_out_skel
    simp only [k0_part4_eq_skeleton, k0_part5_eq_skeleton]
    unfold owns busyX busyHi freeX freeHi
    rw [eX, eG]
    iintro ⟨⟨%f0, %hf0, H0⟩, ⟨%d1, %f1, -, H1⟩, ⟨%fx, Hx, Hxr, Hxc⟩, ⟨%fg, Hg, Hgr, Hgc⟩, HW, Hk⟩
    obtain rfl := harg4.eq_unread hf0
    sl_exec (disch := first | sl_exact h1 | sl_exact h2 | sl_exact h3 | sl_exact h4)
    sl_step
    iapply Hk
    isplitl [H0]
    · iexists _; isplitr; · ipureintro; exact harg4.read_unread _
      iexact H0
    isplitl [H1]; · iexists _; iexact H1
    isplitl [Hx Hx_dst Hxc Hxr Hx_src]
    · isplitl [Hx]; · iexact Hx
      isplitl [Hx_dst]; · iexists _; iexact Hx_dst
      isplitl [Hxc]; · iexact Hxc
      iapply (copyX_split c X t.val).2; isplitl [Hx_src]; · iexact Hx_src
      iexact Hxr
    isplitl [Hg Hg_dst Hgc Hgr Hg_src]
    · isplitl [Hg]; · iexact Hg
      isplitl [Hg_dst]; · iexists _; iexact Hg_dst
      isplitl [Hgc]; · iexact Hgc
      iapply (copyHi_split c Hi t.val).2; isplitl [Hg_src]; · iexact Hg_src
      iexact Hgr
    iexists _; iexact HW

end Cert.MobaOut

end
-- ==== Proof.OutRunFirst.lean ====
/- The output projection's body at the first point, which starts the first four blocks. -/
module

public import proofs.«01_k».proof.Proof.OutRunEnd

@[expose] public section

set_option maxRecDepth 16384

noncomputable section

namespace Cert.MobaOut

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem sl_first (t : Fin grid0.N) (h : t.val = 0) (j : ℕ) (hj : j < 4) : (Ring.sl 4 (t.val + j)).val = j := by
  rw [h, Nat.zero_add]; exact Nat.mod_eq_of_lt hj
theorem bk_first (t : Fin grid0.N) (h : t.val = 0) (j : ℕ) (hj : j < 4) : (Ring.bk 16 (t.val + j)).val = j := by
  rw [h, Nat.zero_add]; exact Nat.mod_eq_of_lt (by omega)

set_option maxHeartbeats 2000000 in
/-- All four slots are filled, the first two of the heads from the first array, the last two from the second;
    the first is waited for, read, and filled again. -/
noncomputable def runFirst (c : Dev nD) (t : Fin grid0.N) (arg4 : Memref sig .tc .vmem S1024x1024 .bf16) (harg4 : arg4.IsWhole) (arg5 : Memref sig .tc .vmem S1x1024x1024 .f32) (harg5 : arg5.IsWhole)
    (h0 : t.val = 0)
    (h1 : first (grid0.coords t)) (h2 : waitsLo (grid0.coords t)) (h3 : ¬waitsHi (grid0.coords t)) (h4 : starts (grid0.coords t)) (h5 : startsLo (grid0.coords t)) (h6 : ¬startsHi (grid0.coords t))
    (w : Vec F S1024x1024 .bf16) (X : Held (F := F) c hbmX) (Lo : Held (F := F) c hbmLo) (Hi : Held (F := F) c hbmHi) :
    { L : List (View.Piece (Elt F) S1x1024x1024 .f32) //
      ∀ (W : Waits sig Unit) (K : PUnit → sProp 𝕄),
        iprop(owns (c : Thread nD τ) arg4 fullShare w ∗ (∃ d, owns (c : Thread nD τ) arg5 fullShare d)
            ∗ (freeX c X (Ring.sl 4 t.val) t.val ∗ freeLo c Lo (Ring.sl 4 t.val) t.val)
            ∗ (freeX c X (Ring.sl 4 (t.val + 1)) (t.val + 1) ∗ freeLo c Lo (Ring.sl 4 (t.val + 1)) (t.val + 1))
            ∗ (freeX c X (Ring.sl 4 (t.val + 2)) (t.val + 2) ∗ freeHi c Hi (Ring.sl 4 (t.val + 2)) (t.val + 2))
            ∗ (freeX c X (Ring.sl 4 (t.val + 3)) (t.val + 3) ∗ freeHi c Hi (Ring.sl 4 (t.val + 3)) (t.val + 3))
            ∗ owes (c : Thread nD τ) 0 W
            ∗ (iprop(owns (c : Thread nD τ) arg4 fullShare w ∗ (∃ f, arg5.view.loc (c : Thread nD τ) ↦[arg5.view.set]{fullShare} arg5.view.writes (Elt F) f L)
                ∗ (busyX c X (Ring.sl 4 t.val) (t.val + 4) ∗ busyLo c Lo (Ring.sl 4 t.val) (t.val + 4))
                ∗ (busyX c X (Ring.sl 4 (t.val + 1)) (t.val + 1) ∗ busyLo c Lo (Ring.sl 4 (t.val + 1)) (t.val + 1))
                ∗ (busyX c X (Ring.sl 4 (t.val + 2)) (t.val + 2) ∗ busyHi c Hi (Ring.sl 4 (t.val + 2)) (t.val + 2))
                ∗ (busyX c X (Ring.sl 4 (t.val + 3)) (t.val + 3) ∗ busyHi c Hi (Ring.sl 4 (t.val + 3)) (t.val + 3))
                ∗ (∃ W', owes (c : Thread nD τ) 0 W')) -∗ K ⟨⟩))
          ⊢ wp frame (wpE (defs₀ (F := F)) Variants.none c none) Set.univ (bodyOn t arg4 harg4 arg5 harg5) K } := by
  refine ⟨?_, fun W K => ?run⟩
  case run =>
    haveI : Fact (waitsLo (grid0.coords t)) := ⟨h2⟩
    haveI : Fact (starts (grid0.coords t)) := ⟨h4⟩
    have eX : shareX (t.val + 4 + 4) = shareX t.val := by unfold shareX; congr 1; omega
    have eG : shareG (t.val + 4 + 4) = shareG t.val := by unfold shareG; congr 1; omega
    have s0 := sl_first t h0 0 (by omega)
    have s1 := sl_first t h0 1 (by omega)
    have s2 := sl_first t h0 2 (by omega)
    have s3 := sl_first t h0 3 (by omega)
    have b0 := bk_first t h0 0 (by omega)
    have b1 := bk_first t h0 1 (by omega)
    have b2 := bk_first t h0 2 (by omega)
    have b3 := bk_first t h0 3 (by omega)
    rw [Nat.add_zero] at s0 b0
    have hcanon16 := canon16 t h4 h5
    have hcanon17 := canon17 t h4 h5
    have hcanon18 := canon18 t h4 h5
    have hcanonX0 := slotX_at (Ring.sl 4 t.val) inb_S4x1024x1024_S1x1024x1024_0_0_0 (by rw [s0])
    have hcanonX1 := slotX_at (Ring.sl 4 (t.val + 1)) inb_S4x1024x1024_S1x1024x1024_1_0_0 (by rw [s1])
    have hcanonX2 := slotX_at (Ring.sl 4 (t.val + 2)) inb_S4x1024x1024_S1x1024x1024_2_0_0 (by rw [s2])
    have hcanonX3 := slotX_at (Ring.sl 4 (t.val + 3)) inb_S4x1024x1024_S1x1024x1024_3_0_0 (by rw [s3])
    have hcanonG0 := slotG_at (Ring.sl 4 t.val) inb_S4x1024x1024_S1x1024x1024_0_0_0 (by rw [s0])
    have hcanonG1 := slotG_at (Ring.sl 4 (t.val + 1)) inb_S4x1024x1024_S1x1024x1024_1_0_0 (by rw [s1])
    have hcanonG2 := slotG_at (Ring.sl 4 (t.val + 2)) inb_S4x1024x1024_S1x1024x1024_2_0_0 (by rw [s2])
    have hcanonG3 := slotG_at (Ring.sl 4 (t.val + 3)) inb_S4x1024x1024_S1x1024x1024_3_0_0 (by rw [s3])
    have hcanonSX0 := semsX_at (Ring.sl 4 t.val) inb_S4_S1_0 (by rw [s0])
    have hcanonSX1 := semsX_at (Ring.sl 4 (t.val + 1)) inb_S4_S1_1 (by rw [s1])
    have hcanonSX2 := semsX_at (Ring.sl 4 (t.val + 2)) inb_S4_S1_2 (by rw [s2])
    have hcanonSX3 := semsX_at (Ring.sl 4 (t.val + 3)) inb_S4_S1_3 (by rw [s3])
    have hcanonSG0 := semsG_at (Ring.sl 4 t.val) inb_S4_S1_0 (by rw [s0])
    have hcanonSG1 := semsG_at (Ring.sl 4 (t.val + 1)) inb_S4_S1_1 (by rw [s1])
    have hcanonSG2 := semsG_at (Ring.sl 4 (t.val + 2)) inb_S4_S1_2 (by rw [s2])
    have hcanonSG3 := semsG_at (Ring.sl 4 (t.val + 3)) inb_S4_S1_3 (by rw [s3])
    have hcanonBX0 := srcX_at (Ring.bk 16 t.val) inb_S4x4096x1024_S1x1024x1024_0_0_0 (by rw [b0])
    have hcanonBX1 := srcX_at (Ring.bk 16 (t.val + 1)) inb_S4x4096x1024_S1x1024x1024_0_1024_0 (by rw [b1])
    have hcanonBX2 := srcX_at (Ring.bk 16 (t.val + 2)) inb_S4x4096x1024_S1x1024x1024_0_2048_0 (by rw [b2])
    have hcanonBX3 := srcX_at (Ring.bk 16 (t.val + 3)) inb_S4x4096x1024_S1x1024x1024_0_3072_0 (by rw [b3])
    have hcanonBL0 := srcLo_at (Ring.bk 16 t.val) (o := k0_off1 0#32) (k0_off1_inb (grid0.coords t) h1 0) (by rw [b0]; decide +kernel)
    have hcanonBL1 := srcLo_at (Ring.bk 16 (t.val + 1)) (o := k0_off1 1#32) (k0_off1_inb (grid0.coords t) h1 1) (by rw [b1]; decide +kernel)
    have hcanonBH2 := srcHi_at (Ring.bk 16 (t.val + 2)) (o := k0_off2 0#32) (k0_off2_inb (grid0.coords t) h1 0) (by rw [b2]; decide +kernel)
    have hcanonBH3 := srcHi_at (Ring.bk 16 (t.val + 3)) (o := k0_off2 1#32) (k0_off2_inb (grid0.coords t) h1 1) (by rw [b3]; decide +kernel)
    unfold bodyOn
    simp only [cc0_moba_out_eq_skeleton]; unfold cc0_moba_out_skel
    simp only [k0_part4_eq_skeleton, k0_part5_eq_skeleton, k0_part3_eq_skeleton, k0_part2_eq_skeleton, k0_part1_eq_skeleton]
    unfold owns freeX freeLo freeHi busyX busyLo busyHi
    rw [eX, eG]
    iintro ⟨⟨%f0, %hf0, H0⟩, ⟨%d1, %f1, -, H1⟩, ⟨⟨Hx0, ⟨%fx0, Hx0s⟩, Hx0c, Hx0d⟩, ⟨Hg0, ⟨%fg0, Hg0s⟩, Hg0c, Hg0d⟩⟩, ⟨⟨Hx1, ⟨%fx1, Hx1s⟩, Hx1c, Hx1d⟩, ⟨Hg1, ⟨%fg1, Hg1s⟩, Hg1c, Hg1d⟩⟩, ⟨⟨Hx2, ⟨%fx2, Hx2s⟩, Hx2c, Hx2d⟩, ⟨Hg2, ⟨%fg2, Hg2s⟩, Hg2c, Hg2d⟩⟩, ⟨⟨Hx3, ⟨%fx3, Hx3s⟩, Hx3c, Hx3d⟩, ⟨Hg3, ⟨%fg3, Hg3s⟩, Hg3c, Hg3d⟩⟩, HW, Hk⟩
    ihave Hx0c := (copyX_split c X t.val).1 $$ Hx0c
    icases Hx0c with ⟨Hx0b, Hx0r⟩
    ihave Hg0c := (copyLo_split c Lo t.val).1 $$ Hg0c
    icases Hg0c with ⟨Hg0b, Hg0r⟩
    ihave Hx0d := (copyX_split c X (t.val + 4)).1 $$ Hx0d
    icases Hx0d with ⟨Hx4b, Hx4r⟩
    ihave Hg0d := (copyLo_split c Lo (t.val + 4)).1 $$ Hg0d
    icases Hg0d with ⟨Hg4b, Hg4r⟩
    ihave Hx1c := (copyX_split c X (t.val + 1)).1 $$ Hx1c
    icases Hx1c with ⟨Hx1b, Hx1r⟩
    ihave Hg1c := (copyLo_split c Lo (t.val + 1)).1 $$ Hg1c
    icases Hg1c with ⟨Hg1b, Hg1r⟩
    ihave Hx2c := (copyX_split c X (t.val + 2)).1 $$ Hx2c
    icases Hx2c with ⟨Hx2b, Hx2r⟩
    ihave Hg2c := (copyHi_split c Hi (t.val + 2)).1 $$ Hg2c
    icases Hg2c with ⟨Hg2b, Hg2r⟩
    ihave Hx3c := (copyX_split c X (t.val + 3)).1 $$ Hx3c
    icases Hx3c with ⟨Hx3b, Hx3r⟩
    ihave Hg3c := (copyHi_split c Hi (t.val + 3)).1 $$ Hg3c
    icases Hg3c with ⟨Hg3b, Hg3r⟩
    obtain rfl := harg4.eq_unread hf0
    sl_exec (disch := first | sl_exact h1 | sl_exact h2 | sl_exact h3 | sl_exact h4 | sl_exact h5 | sl_exact h6)
    sl_step
    iapply Hk
    isplitl [H0]
    · iexists _; isplitr; · ipureintro; exact harg4.read_unread _
      iexact H0
    isplitl [H1]; · iexists _; iexact H1
    isplitl [Hx0 Hx4r Hx0r Hx0b Hg0 Hg4r Hg0r Hg0b]
    · isplitl [Hx0 Hx4r Hx0r Hx0b]
      · iexists _; isplitl [Hx0]; · iexact Hx0
        isplitl [Hx4r]; · iexact Hx4r
        iapply (copyX_split c X t.val).2; isplitl [Hx0b]; · iexact Hx0b
        iexact Hx0r
      iexists _; isplitl [Hg0]; · iexact Hg0
      isplitl [Hg4r]; · iexact Hg4r
      iapply (copyLo_split c Lo t.val).2; isplitl [Hg0b]; · iexact Hg0b
      iexact Hg0r
    isplitl [Hx1 Hx1r Hx1d Hg1 Hg1r Hg1d]
    · isplitl [Hx1 Hx1r Hx1d]
      · iexists _; isplitl [Hx1]; · iexact Hx1
        isplitl [Hx1r]; · iexact Hx1r
        iexact Hx1d
      iexists _; isplitl [Hg1]; · iexact Hg1
      isplitl [Hg1r]; · iexact Hg1r
      iexact Hg1d
    isplitl [Hx2 Hx2r Hx2d Hg2 Hg2r Hg2d]
    · isplitl [Hx2 Hx2r Hx2d]
      · iexists _; isplitl [Hx2]; · iexact Hx2
        isplitl [Hx2r]; · iexact Hx2r
        iexact Hx2d
      iexists _; isplitl [Hg2]; · iexact Hg2
      isplitl [Hg2r]; · iexact Hg2r
      iexact Hg2d
    isplitl [Hx3 Hx3r Hx3d Hg3 Hg3r Hg3d]
    · isplitl [Hx3 Hx3r Hx3d]
      · iexists _; isplitl [Hx3]; · iexact Hx3
        isplitl [Hx3r]; · iexact Hx3r
        iexact Hx3d
      iexists _; isplitl [Hg3]; · iexact Hg3
      isplitl [Hg3r]; · iexact Hg3r
      iexact Hg3d
    iexists _; iexact HW

end Cert.MobaOut

end
-- ==== Proof.OutSlots.lean ====
/- The rings of the output projection before a grid point, and how a point takes its slot out and puts it back. -/
module

public import proofs.«01_k».proof.Proof.OutRunFirst

@[expose] public section

set_option maxRecDepth 16384

noncomputable section

namespace Cert.MobaOut

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Slot `s` before point `k`: its next block is on its way, or there is none and the slot is free. -/
def slotAt (free busy : Fin 4 → ℕ → sProp 𝕄) (s : Fin 4) (k : ℕ) : sProp 𝕄 :=
  if k = 0 then free s s.val
  else if 4 * ((k + 3 - s.val) / 4) + s.val < 16 then busy s (4 * ((k + 3 - s.val) / 4) + s.val)
  else free s (4 * ((k + 3 - s.val) / 4) + s.val)

/-- The point's own slot holds the point's block; -/
theorem slotAt_here (free busy : Fin 4 → ℕ → sProp 𝕄) (t : ℕ) (h0 : 0 < t) (h : t < 16) : slotAt free busy (Ring.sl 4 t) t = busy (Ring.sl 4 t) t := by
  have e : 4 * ((t + 3 - (Ring.sl 4 t).val) / 4) + (Ring.sl 4 t).val = t := by
    show 4 * ((t + 3 - t % 4) / 4) + t % 4 = t; omega
  unfold slotAt; rw [if_neg (by omega), e, if_pos h]
/-- after the point, the block four points on, -/
theorem slotAt_next (free busy : Fin 4 → ℕ → sProp 𝕄) (t : ℕ) (h : t < 12) : slotAt free busy (Ring.sl 4 t) (t + 1) = busy (Ring.sl 4 t) (t + 4) := by
  have e : 4 * ((t + 1 + 3 - (Ring.sl 4 t).val) / 4) + (Ring.sl 4 t).val = t + 4 := by
    show 4 * ((t + 1 + 3 - t % 4) / 4) + t % 4 = t + 4; omega
  unfold slotAt; rw [if_neg (by omega), e, if_pos (by omega)]
/-- or nothing. -/
theorem slotAt_end (free busy : Fin 4 → ℕ → sProp 𝕄) (t : ℕ) (h : ¬t < 12) : slotAt free busy (Ring.sl 4 t) (t + 1) = free (Ring.sl 4 t) (t + 4) := by
  have e : 4 * ((t + 1 + 3 - (Ring.sl 4 t).val) / 4) + (Ring.sl 4 t).val = t + 4 := by
    show 4 * ((t + 1 + 3 - t % 4) / 4) + t % 4 = t + 4; omega
  unfold slotAt; rw [if_neg (by omega), e, if_neg (by omega)]
/-- The other slots stay as they are. -/
theorem slotAt_other (free busy : Fin 4 → ℕ → sProp 𝕄) (s : Fin 4) (t : ℕ) (h0 : 0 < t) (h : t % 4 ≠ s.val) : slotAt free busy s (t + 1) = slotAt free busy s t := by
  have hs := s.isLt
  have e : (t + 1 + 3 - s.val) / 4 = (t + 3 - s.val) / 4 := by omega
  unfold slotAt; rw [if_neg (show ¬t + 1 = 0 by omega), if_neg (show ¬t = 0 by omega), e]

section Rings
variable (c : Dev nD) (X : Held (F := F) c hbmX) (Lo : Held (F := F) c hbmLo) (Hi : Held (F := F) c hbmHi)

/-- A slot of both rings, its heads from the first array; from the second. -/
abbrev slotLo (s : Fin 4) (k : ℕ) : sProp 𝕄 :=
  slotAt (fun s k => iprop(freeX c X s k ∗ freeLo c Lo s k)) (fun s k => iprop(busyX c X s k ∗ busyLo c Lo s k)) s k
abbrev slotHi (s : Fin 4) (k : ℕ) : sProp 𝕄 :=
  slotAt (fun s k => iprop(freeX c X s k ∗ freeHi c Hi s k)) (fun s k => iprop(busyX c X s k ∗ busyHi c Hi s k)) s k

/-- Both rings before point `k`. -/
def ringAt (k : ℕ) : sProp 𝕄 := iprop(slotLo c X Lo 0 k ∗ slotLo c X Lo 1 k ∗ slotHi c X Hi 2 k ∗ slotHi c X Hi 3 k)

/-- A point of a first half takes its slot out, and puts it back as the next point finds it. -/
theorem ring_lo (t : ℕ) (h0 : 0 < t) (h : t % 4 < 2) :
    ringAt c X Lo Hi t ⊢ iprop(slotLo c X Lo (Ring.sl 4 t) t ∗ (slotLo c X Lo (Ring.sl 4 t) (t + 1) -∗ ringAt c X Lo Hi (t + 1))) := by
  unfold ringAt
  obtain h' | h' : t % 4 = 0 ∨ t % 4 = 1 := by omega
  · rw [show Ring.sl 4 t = 0 from Fin.ext h']
    unfold slotLo slotHi
    rw [slotAt_other _ _ 1 t h0 (by rw [h']; decide), slotAt_other _ _ 2 t h0 (by rw [h']; decide), slotAt_other _ _ 3 t h0 (by rw [h']; decide)]
    iintro ⟨H0, H1, H2, H3⟩
    isplitl [H0]; · iexact H0
    iintro H0
    isplitl [H0]; · iexact H0
    isplitl [H1]; · iexact H1
    isplitl [H2]; · iexact H2
    iexact H3
  · rw [show Ring.sl 4 t = 1 from Fin.ext h']
    unfold slotLo slotHi
    rw [slotAt_other _ _ 0 t h0 (by rw [h']; decide), slotAt_other _ _ 2 t h0 (by rw [h']; decide), slotAt_other _ _ 3 t h0 (by rw [h']; decide)]
    iintro ⟨H0, H1, H2, H3⟩
    isplitl [H1]; · iexact H1
    iintro H1
    isplitl [H0]; · iexact H0
    isplitl [H1]; · iexact H1
    isplitl [H2]; · iexact H2
    iexact H3

/-- So does a point of a second half. -/
theorem ring_hi (t : ℕ) (h0 : 0 < t) (h : ¬t % 4 < 2) :
    ringAt c X Lo Hi t ⊢ iprop(slotHi c X Hi (Ring.sl 4 t) t ∗ (slotHi c X Hi (Ring.sl 4 t) (t + 1) -∗ ringAt c X Lo Hi (t + 1))) := by
  unfold ringAt
  obtain h' | h' : t % 4 = 2 ∨ t % 4 = 3 := by omega
  · rw [show Ring.sl 4 t = 2 from Fin.ext h']
    unfold slotLo slotHi
    rw [slotAt_other _ _ 0 t h0 (by rw [h']; decide), slotAt_other _ _ 1 t h0 (by rw [h']; decide), slotAt_other _ _ 3 t h0 (by rw [h']; decide)]
    iintro ⟨H0, H1, H2, H3⟩
    isplitl [H2]; · iexact H2
    iintro H2
    isplitl [H0]; · iexact H0
    isplitl [H1]; · iexact H1
    isplitl [H2]; · iexact H2
    iexact H3
  · rw [show Ring.sl 4 t = 3 from Fin.ext h']
    unfold slotLo slotHi
    rw [slotAt_other _ _ 0 t h0 (by rw [h']; decide), slotAt_other _ _ 1 t h0 (by rw [h']; decide), slotAt_other _ _ 2 t h0 (by rw [h']; decide)]
    iintro ⟨H0, H1, H2, H3⟩
    isplitl [H3]; · iexact H3
    iintro H3
    isplitl [H0]; · iexact H0
    isplitl [H1]; · iexact H1
    isplitl [H2]; · iexact H2
    iexact H3

/-- Before the first point every slot is free; -/
theorem ring_start (t : ℕ) (h : t = 0) :
    ringAt c X Lo Hi t = iprop((freeX c X (Ring.sl 4 t) t ∗ freeLo c Lo (Ring.sl 4 t) t)
      ∗ (freeX c X (Ring.sl 4 (t + 1)) (t + 1) ∗ freeLo c Lo (Ring.sl 4 (t + 1)) (t + 1))
      ∗ (freeX c X (Ring.sl 4 (t + 2)) (t + 2) ∗ freeHi c Hi (Ring.sl 4 (t + 2)) (t + 2))
      ∗ (freeX c X (Ring.sl 4 (t + 3)) (t + 3) ∗ freeHi c Hi (Ring.sl 4 (t + 3)) (t + 3))) := by
  subst h; rfl
/-- after it the first four blocks but one, and the fifth, are on their way; -/
theorem ring_started (t : ℕ) (h : t = 0) :
    ringAt c X Lo Hi (t + 1) = iprop((busyX c X (Ring.sl 4 t) (t + 4) ∗ busyLo c Lo (Ring.sl 4 t) (t + 4))
      ∗ (busyX c X (Ring.sl 4 (t + 1)) (t + 1) ∗ busyLo c Lo (Ring.sl 4 (t + 1)) (t + 1))
      ∗ (busyX c X (Ring.sl 4 (t + 2)) (t + 2) ∗ busyHi c Hi (Ring.sl 4 (t + 2)) (t + 2))
      ∗ (busyX c X (Ring.sl 4 (t + 3)) (t + 3) ∗ busyHi c Hi (Ring.sl 4 (t + 3)) (t + 3))) := by
  subst h; rfl
/-- after the last every slot is free again. -/
theorem ring_last : ringAt c X Lo Hi 16 = ringAt c X Lo Hi 0 := rfl
end Rings

end Cert.MobaOut

end
-- ==== Proof.OutKit.lean ====
/- The output projection's region: what it finds, and its rings at the launch and after the last point. -/
module

public import proofs.«01_k».proof.Proof.OutSlots

@[expose] public section

set_option maxRecDepth 16384

noncomputable section

namespace Cert.MobaOut

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Kit
variable (m : (ℓ : Loc nD τ sig) → Buf (Elt F) ℓ) (ρ : Dev nD → PrngReg)

/-! ## The program up to the region -/

/-- Core `c`'s buffers when the region is entered, the weights rounded. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Only the rounded weights are written before the region. -/
theorem V_kept (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne h))

/-- A window's block at a point, as the region finds its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weights' buffer holds the weights at every point, fetched there or not. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The arguments end as launched. -/
theorem frame_of (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_kept m c _ (by decide)),
      ((h c).2 main_arg1 (Pipeline.mem_restRefs_of main_arg1 (by decide) (by decide))).trans (V_kept m c _ (by decide)),
      ((h c).2 main_arg2 (Pipeline.mem_restRefs_of main_arg2 (by decide) (by decide))).trans (V_kept m c _ (by decide)),
      ((h c).2 main_arg3 (Pipeline.mem_restRefs_of main_arg3 (by decide) (by decide))).trans (V_kept m c _ (by decide))⟩) h

/-! ## What the launch hands the region -/

/-- The rings' semaphores, in the pool. -/
abbrev osem0 : Fin 8 → SemLoc sig := fun j => (![SemLoc.dma 3, SemLoc.dma 4, SemLoc.dma 5, SemLoc.dma 6, SemLoc.dma 7, SemLoc.dma 8, SemLoc.dma 9, SemLoc.dma 10] : Fin 8 → SemLoc sig) j
theorem ownSemFacts0 : Pipeline.OwnSemFacts spec0 osem0 := by decide
/-- A semaphore at zero. -/
abbrev zero (c : Dev nD) (l : SemLoc sig) : sProp 𝕄 := semVal ((c : Thread nD τ), l) 0
theorem ownSems00_eq (c : Dev nD) :
    (Pipeline.ownSems0 (Ix := Unit) (Name := ℕ) (U := Pipeline.UD sig nD τ) (Lvl := ℕ) (Val := Elt F) (τ := τ) osem0 c : sProp 𝕄)
      = iprop(zero c (SemLoc.dma 3) ∗ zero c (SemLoc.dma 4) ∗ zero c (SemLoc.dma 5) ∗ zero c (SemLoc.dma 6) ∗ zero c (SemLoc.dma 7) ∗ zero c (SemLoc.dma 8) ∗ zero c (SemLoc.dma 9) ∗ zero c (SemLoc.dma 10)) := by
  rw [Pipeline.ownSems0_eq_of_list c osem0 [0, 1, 2, 3, 4, 5, 6, 7] (by decide) (by decide)]; rfl
/-- The arrays left in HBM. -/
def H0 : Finset (Ref sig .tc) := {main_arg0, main_arg1, main_arg2}
theorem H0_sub : H0 ⊆ Pipeline.restRefs sig spec0 := by decide
theorem hbmPts0_eq (c : Dev nD) :
    (bigSep H0 (fun b => ((c : Thread nD τ).loc b) ↦{fullShare} V m c b) : sProp 𝕄) = iprop(heldPt c hbmX (V m c main_arg0) ∗ heldPt c hbmLo (V m c main_arg1) ∗ heldPt c hbmHi (V m c main_arg2)) := by
  rw [BI.bigSep_eq_bigSepL_of_eq [main_arg0, main_arg1, main_arg2] (by decide) (by decide)]; rfl
theorem PhiD0_eq (c : Dev nD) :
    (Pipeline.ΦD osem0 spec0 H0 (V m) c : sProp 𝕄)
      = iprop(iprop((∃ d, owns (c : Thread nD τ) bufX fullShare d) ∗ (∃ d, owns (c : Thread nD τ) bufG fullShare d)) ∗ (∃ r, prngReg c r) ∗ iprop(zero c (SemLoc.dma 3) ∗ zero c (SemLoc.dma 4) ∗ zero c (SemLoc.dma 5) ∗ zero c (SemLoc.dma 6) ∗ zero c (SemLoc.dma 7) ∗ zero c (SemLoc.dma 8) ∗ zero c (SemLoc.dma 9) ∗ zero c (SemLoc.dma 10)) ∗ iprop(heldPt c hbmX (V m c main_arg0) ∗ heldPt c hbmLo (V m c main_arg1) ∗ heldPt c hbmHi (V m c main_arg2))) := by
  rw [Pipeline.ΦD_eq, scopedRest0_eq, ownSems00_eq, hbmPts0_eq]; simp only [bufX, bufG, owns_whole]; try rfl
end Kit

/-! ## The slots of a scratch, disjoint and covering it -/

abbrev slotSet (s : Fin 4) : Finset S4x1024x1024.Idx := (Rect.unit (s := S4x1024x1024) ![s.val, 0, 0] S1x1024x1024.size (inb_slot s)).set
theorem slotX_set (s : Fin 4) : (slotX s).view.set = slotSet s := by
  simp only [slotX, Memref.view_squeeze, View.set_reshape]; exact View.set_slice_whole _ _
theorem slotG_set (s : Fin 4) : (slotG s).view.set = slotSet s := by
  simp only [slotG, Memref.view_squeeze, View.set_reshape]; exact View.set_slice_whole _ _
theorem slots_disjoint (s s' : Fin 4) (h : s ≠ s') : Disjoint (slotSet s) (slotSet s') :=
  Ring.lead_disjoint (s := S4x1024x1024) (0 : Fin 3) 1 (fun s : Fin 4 => (![s.val, 0, 0] : Fin 3 → Nat)) S1x1024x1024.size inb_slot (fun s => by simp) rfl s s' h
theorem slots_cover : Finset.univ.biUnion slotSet = Finset.univ :=
  Ring.lead_cover (s := S4x1024x1024) (0 : Fin 3) 1 (fun s : Fin 4 => (![s.val, 0, 0] : Fin 3 → Nat)) S1x1024x1024.size inb_slot (fun s => by simp)
    (fun s a ha => by fin_cases a <;> first | exact absurd rfl ha | rfl) rfl (fun a ha => by fin_cases a <;> first | exact absurd rfl ha | rfl) rfl

section Whole
variable (c : Dev nD)
theorem slotPtX_eq (s : Fin 4) (f) : slotPtX (F := F) c s f = (((c : Thread nD τ).loc cc0_scratch0) ↦[slotSet s]{fullShare} f : sProp 𝕄) := by
  unfold slotPtX; rw [slotX_set]; rfl
theorem slotPtG_eq (s : Fin 4) (f) : slotPtG (F := F) c s f = (((c : Thread nD τ).loc cc0_scratch1) ↦[slotSet s]{fullShare} f : sProp 𝕄) := by
  unfold slotPtG; rw [slotG_set]; rfl
set_option maxHeartbeats 1000000 in
/-- A scratch whole at anything is its slots at something each, and back. -/
theorem slotsX : iprop(∃ d, owns (c : Thread nD τ) bufX fullShare d) ⊣⊢ (iprop((∃ f, slotPtX (F := F) c 0 f) ∗ (∃ f, slotPtX (F := F) c 1 f) ∗ (∃ f, slotPtX (F := F) c 2 f) ∗ ∃ f, slotPtX (F := F) c 3 f) : sProp 𝕄) := by
  simp only [bufX, owns_whole]
  exact ⟨Ring.slots4_split (U := Pipeline.UD sig nD τ) (ℓ := (c : Thread nD τ).loc cc0_scratch0) (q := fullShare) slotSet slots_disjoint slots_cover
      (slotPtX c 0) (slotPtX c 1) (slotPtX c 2) (slotPtX c 3) (slotPtX_eq c 0) (slotPtX_eq c 1) (slotPtX_eq c 2) (slotPtX_eq c 3),
    Ring.slots4_join (U := Pipeline.UD sig nD τ) (ℓ := (c : Thread nD τ).loc cc0_scratch0) (q := fullShare) slotSet slots_disjoint slots_cover
      (slotPtX c 0) (slotPtX c 1) (slotPtX c 2) (slotPtX c 3) (slotPtX_eq c 0) (slotPtX_eq c 1) (slotPtX_eq c 2) (slotPtX_eq c 3)⟩
set_option maxHeartbeats 1000000 in
theorem slotsG : iprop(∃ d, owns (c : Thread nD τ) bufG fullShare d) ⊣⊢ (iprop((∃ f, slotPtG (F := F) c 0 f) ∗ (∃ f, slotPtG (F := F) c 1 f) ∗ (∃ f, slotPtG (F := F) c 2 f) ∗ ∃ f, slotPtG (F := F) c 3 f) : sProp 𝕄) := by
  simp only [bufG, owns_whole]
  exact ⟨Ring.slots4_split (U := Pipeline.UD sig nD τ) (ℓ := (c : Thread nD τ).loc cc0_scratch1) (q := fullShare) slotSet slots_disjoint slots_cover
      (slotPtG c 0) (slotPtG c 1) (slotPtG c 2) (slotPtG c 3) (slotPtG_eq c 0) (slotPtG_eq c 1) (slotPtG_eq c 2) (slotPtG_eq c 3),
    Ring.slots4_join (U := Pipeline.UD sig nD τ) (ℓ := (c : Thread nD τ).loc cc0_scratch1) (q := fullShare) slotSet slots_disjoint slots_cover
      (slotPtG c 0) (slotPtG c 1) (slotPtG c 2) (slotPtG c 3) (slotPtG_eq c 0) (slotPtG_eq c 1) (slotPtG_eq c 2) (slotPtG_eq c 3)⟩

/-- Splitting four shares off an array. -/
theorem split4 (k : ℕ) {ℓ : Loc nD τ sig} (W : Buf (Elt F) ℓ) :
    (ℓ ↦[Finset.univ]{rem k} W : sProp 𝕄) ⊣⊢ iprop((ℓ ↦[Finset.univ]{part k} W) ∗ (ℓ ↦[Finset.univ]{part (k + 1)} W) ∗ (ℓ ↦[Finset.univ]{part (k + 2)} W) ∗ (ℓ ↦[Finset.univ]{part (k + 3)} W) ∗ (ℓ ↦[Finset.univ]{rem (k + 4)} W)) := by
  refine ⟨?_, ?_⟩
  · iintro H
    ihave G0 := (rem_split (F := F) k Finset.univ W).1 $$ H
    icases G0 with ⟨H0, R1⟩
    ihave G1 := (rem_split (F := F) (k + 1) Finset.univ W).1 $$ R1
    icases G1 with ⟨H1, R2⟩
    ihave G2 := (rem_split (F := F) (k + 2) Finset.univ W).1 $$ R2
    icases G2 with ⟨H2, R3⟩
    ihave G3 := (rem_split (F := F) (k + 3) Finset.univ W).1 $$ R3
    icases G3 with ⟨H3, H4⟩
    isplitl [H0]; · iexact H0
    isplitl [H1]; · iexact H1
    isplitl [H2]; · iexact H2
    isplitl [H3]; · iexact H3
    iexact H4
  · iintro ⟨H0, H1, H2, H3, H4⟩
    iapply (rem_split (F := F) k Finset.univ W).2
    isplitl [H0]; · iexact H0
    iapply (rem_split (F := F) (k + 1) Finset.univ W).2
    isplitl [H1]; · iexact H1
    iapply (rem_split (F := F) (k + 2) Finset.univ W).2
    isplitl [H2]; · iexact H2
    iapply (rem_split (F := F) (k + 3) Finset.univ W).2
    isplitl [H3]; · iexact H3
    iexact H4
end Whole

theorem cellX_0 : cellX 0 = SemLoc.dma 3 := by decide
theorem cellX_1 : cellX 1 = SemLoc.dma 4 := by decide
theorem cellX_2 : cellX 2 = SemLoc.dma 5 := by decide
theorem cellX_3 : cellX 3 = SemLoc.dma 6 := by decide
theorem cellG_0 : cellG 0 = SemLoc.dma 7 := by decide
theorem cellG_1 : cellG 1 = SemLoc.dma 8 := by decide
theorem cellG_2 : cellG 2 = SemLoc.dma 9 := by decide
theorem cellG_3 : cellG 3 = SemLoc.dma 10 := by decide

section InOut
variable (c : Dev nD) (X : Held (F := F) c hbmX) (Lo : Held (F := F) c hbmLo) (Hi : Held (F := F) c hbmHi)

/-- So for each of the three. -/
theorem copyX_split4 (k : ℕ) : copyX (F := F) c X (rem k) ⊣⊢ iprop(copyX c X (part k) ∗ copyX c X (part (k + 1)) ∗ copyX c X (part (k + 2)) ∗ copyX c X (part (k + 3)) ∗ copyX c X (rem (k + 4))) := split4 k X
theorem copyLo_split4 (k : ℕ) : copyLo (F := F) c Lo (rem k) ⊣⊢ iprop(copyLo c Lo (part k) ∗ copyLo c Lo (part (k + 1)) ∗ copyLo c Lo (part (k + 2)) ∗ copyLo c Lo (part (k + 3)) ∗ copyLo c Lo (rem (k + 4))) := split4 k Lo
theorem copyHi_split4 (k : ℕ) : copyHi (F := F) c Hi (rem k) ⊣⊢ iprop(copyHi c Hi (part k) ∗ copyHi c Hi (part (k + 1)) ∗ copyHi c Hi (part (k + 2)) ∗ copyHi c Hi (part (k + 3)) ∗ copyHi c Hi (rem (k + 4))) := split4 k Hi

/-- The launch's pieces: the scratches, the semaphores, the arrays. -/
def launched : sProp 𝕄 :=
  iprop(((∃ d, owns (c : Thread nD τ) bufX fullShare d) ∗ (∃ d, owns (c : Thread nD τ) bufG fullShare d))
    ∗ (idleX c 0 ∗ idleX c 1 ∗ idleX c 2 ∗ idleX c 3 ∗ idleG c 0 ∗ idleG c 1 ∗ idleG c 2 ∗ idleG c 3)
    ∗ (copyX c X (rem 0) ∗ copyLo c Lo (rem 0) ∗ copyHi c Hi (rem 0)))
/-- The rings before a point, and what of the arrays no block is read under. -/
def rings (k : ℕ) : sProp 𝕄 := iprop((copyX c X (rem 8) ∗ copyLo c Lo (rem 4) ∗ copyHi c Hi (rem 4)) ∗ ringAt c X Lo Hi k)

/-- The rings before the first point, slot by slot. -/
theorem ring_zero : ringAt c X Lo Hi 0 = iprop(((idleX c 0 ∗ (∃ f, slotPtX c 0 f) ∗ copyX c X (part 0) ∗ copyX c X (part 4)) ∗ (idleG c 0 ∗ (∃ f, slotPtG c 0 f) ∗ copyLo c Lo (part 0) ∗ copyLo c Lo (part 2)))
      ∗ ((idleX c 1 ∗ (∃ f, slotPtX c 1 f) ∗ copyX c X (part 1) ∗ copyX c X (part 5)) ∗ (idleG c 1 ∗ (∃ f, slotPtG c 1 f) ∗ copyLo c Lo (part 1) ∗ copyLo c Lo (part 3)))
      ∗ ((idleX c 2 ∗ (∃ f, slotPtX c 2 f) ∗ copyX c X (part 2) ∗ copyX c X (part 6)) ∗ (idleG c 2 ∗ (∃ f, slotPtG c 2 f) ∗ copyHi c Hi (part 0) ∗ copyHi c Hi (part 2)))
      ∗ ((idleX c 3 ∗ (∃ f, slotPtX c 3 f) ∗ copyX c X (part 3) ∗ copyX c X (part 7)) ∗ (idleG c 3 ∗ (∃ f, slotPtG c 3 f) ∗ copyHi c Hi (part 1) ∗ copyHi c Hi (part 3)))) := rfl

set_option maxHeartbeats 2000000 in
theorem rings_in : launched c X Lo Hi ⊢ rings c X Lo Hi 0 := by
  unfold launched rings
  rw [ring_zero]
  iintro ⟨⟨HSX, HSG⟩, ⟨A0, A1, A2, A3, B0, B1, B2, B3⟩, ⟨HX, HL, HH⟩⟩
  ihave HSX' := (slotsX (F := F) c).1 $$ HSX
  icases HSX' with ⟨SX0, SX1, SX2, SX3⟩
  ihave HSG' := (slotsG (F := F) c).1 $$ HSG
  icases HSG' with ⟨SG0, SG1, SG2, SG3⟩
  ihave HX' := (copyX_split4 (F := F) c X 0).1 $$ HX
  icases HX' with ⟨X0, X1, X2, X3, HX⟩
  ihave HX' := (copyX_split4 (F := F) c X 4).1 $$ HX
  icases HX' with ⟨X4, X5, X6, X7, HX⟩
  ihave HL' := (copyLo_split4 (F := F) c Lo 0).1 $$ HL
  icases HL' with ⟨L0, L1, L2, L3, HL⟩
  ihave HH' := (copyHi_split4 (F := F) c Hi 0).1 $$ HH
  icases HH' with ⟨H0, H1, H2, H3, HH⟩
  isplitl [HX HL HH]
  · isplitl [HX]; · iexact HX
    isplitl [HL]; · iexact HL
    iexact HH
  isplitl [A0 SX0 X0 X4 B0 SG0 L0 L2]
  · isplitl [A0 SX0 X0 X4]
    · isplitl [A0]; · iexact A0
      isplitl [SX0]; · iexact SX0
      isplitl [X0]; · iexact X0
      iexact X4
    isplitl [B0]; · iexact B0
    isplitl [SG0]; · iexact SG0
    isplitl [L0]; · iexact L0
    iexact L2
  isplitl [A1 SX1 X1 X5 B1 SG1 L1 L3]
  · isplitl [A1 SX1 X1 X5]
    · isplitl [A1]; · iexact A1
      isplitl [SX1]; · iexact SX1
      isplitl [X1]; · iexact X1
      iexact X5
    isplitl [B1]; · iexact B1
    isplitl [SG1]; · iexact SG1
    isplitl [L1]; · iexact L1
    iexact L3
  isplitl [A2 SX2 X2 X6 B2 SG2 H0 H2]
  · isplitl [A2 SX2 X2 X6]
    · isplitl [A2]; · iexact A2
      isplitl [SX2]; · iexact SX2
      isplitl [X2]; · iexact X2
      iexact X6
    isplitl [B2]; · iexact B2
    isplitl [SG2]; · iexact SG2
    isplitl [H0]; · iexact H0
    iexact H2
  isplitl [A3 SX3 X3 X7]
  · isplitl [A3]; · iexact A3
    isplitl [SX3]; · iexact SX3
    isplitl [X3]; · iexact X3
    iexact X7
  isplitl [B3]; · iexact B3
  isplitl [SG3]; · iexact SG3
  isplitl [H1]; · iexact H1
  iexact H3

set_option maxHeartbeats 2000000 in
theorem rings_out : rings c X Lo Hi 16 ⊢ launched c X Lo Hi := by
  unfold launched rings
  rw [ring_last, ring_zero]
  iintro ⟨⟨HX, HL, HH⟩, ⟨⟨A0, SX0, X0, X4⟩, ⟨B0, SG0, L0, L2⟩⟩, ⟨⟨A1, SX1, X1, X5⟩, ⟨B1, SG1, L1, L3⟩⟩, ⟨⟨A2, SX2, X2, X6⟩, ⟨B2, SG2, H0, H2⟩⟩, ⟨⟨A3, SX3, X3, X7⟩, ⟨B3, SG3, H1, H3⟩⟩⟩
  isplitl [SX0 SX1 SX2 SX3 SG0 SG1 SG2 SG3]
  · isplitl [SX0 SX1 SX2 SX3]
    · iapply (slotsX (F := F) c).2
      isplitl [SX0]; · iexact SX0
      isplitl [SX1]; · iexact SX1
      isplitl [SX2]; · iexact SX2
      iexact SX3
    iapply (slotsG (F := F) c).2
    isplitl [SG0]; · iexact SG0
    isplitl [SG1]; · iexact SG1
    isplitl [SG2]; · iexact SG2
    iexact SG3
  isplitl [A0 A1 A2 A3 B0 B1 B2 B3]
  · isplitl [A0]; · iexact A0
    isplitl [A1]; · iexact A1
    isplitl [A2]; · iexact A2
    isplitl [A3]; · iexact A3
    isplitl [B0]; · iexact B0
    isplitl [B1]; · iexact B1
    isplitl [B2]; · iexact B2
    iexact B3
  isplitl [X0 X1 X2 X3 X4 X5 X6 X7 HX]
  · iapply (copyX_split4 (F := F) c X 0).2
    isplitl [X0]; · iexact X0
    isplitl [X1]; · iexact X1
    isplitl [X2]; · iexact X2
    isplitl [X3]; · iexact X3
    iapply (copyX_split4 (F := F) c X 4).2
    isplitl [X4]; · iexact X4
    isplitl [X5]; · iexact X5
    isplitl [X6]; · iexact X6
    isplitl [X7]; · iexact X7
    iexact HX
  isplitl [L0 L1 L2 L3 HL]
  · iapply (copyLo_split4 (F := F) c Lo 0).2
    isplitl [L0]; · iexact L0
    isplitl [L1]; · iexact L1
    isplitl [L2]; · iexact L2
    isplitl [L3]; · iexact L3
    iexact HL
  iapply (copyHi_split4 (F := F) c Hi 0).2
  isplitl [H0]; · iexact H0
  isplitl [H1]; · iexact H1
  isplitl [H2]; · iexact H2
  isplitl [H3]; · iexact H3
  iexact HH
end InOut

/-- What the launch hands the region, in the rings' terms. -/
theorem PhiD_eq (m : (ℓ : Loc nD τ sig) → Buf (Elt F) ℓ) (c : Dev nD) :
    (Pipeline.ΦD osem0 spec0 H0 (V m) c : sProp 𝕄) ⊣⊢ iprop((∃ r, prngReg c r) ∗ launched c (V m c main_arg0) (V m c main_arg1) (V m c main_arg2)) := by
  rw [PhiD0_eq]
  unfold launched idleX idleG
  rw [cellX_0, cellX_1, cellX_2, cellX_3, cellG_0, cellG_1, cellG_2, cellG_3]
  refine ⟨?_, ?_⟩
  · iintro ⟨HS, Hg, Hq, HA⟩
    isplitl [Hg]; · iexact Hg
    isplitl [HS]; · iexact HS
    isplitl [Hq]; · iexact Hq
    iexact HA
  · iintro ⟨Hg, HS, Hq, HA⟩
    isplitl [HS]; · iexact HS
    isplitl [Hg]; · iexact Hg
    isplitl [Hq]; · iexact Hq
    iexact HA

end Cert.MobaOut

end
-- ==== Proof.OutStore.lean ====
/- What the output projection's body stores at a grid point. -/
module

public import proofs.«01_k».proof.Proof.OutSlots
public import Idealize.ShloMosaic.Lib.VecWindow

@[expose] public section

set_option maxRecDepth 16384

noncomputable section

namespace Cert.MobaOut

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Pay
variable (c : Dev nD) (t : Fin grid0.N) (X : Held (F := F) c hbmX) (Lo : Held (F := F) c hbmLo) (Hi : Held (F := F) c hbmHi)

/-- The point's blocks, loaded from its slot. -/
def loadX : Vec F S1x1024x1024 .f32 :=
  bufX.view.readAt (Elt F) (Rect.unit (s := S4x1024x1024) (k0_off12 (grid0.coords t)) S1x1024x1024.size (k0_off12_inb (grid0.coords t))).toLoadRect
    (landX c X (Ring.sl 4 t.val) t.val (slotX (Ring.sl 4 t.val)).view.junk)
def loadLo : Vec F S1x1024x1024 .bf16 :=
  bufG.view.readAt (Elt F) (Rect.unit (s := S4x1024x1024) (k0_off12 (grid0.coords t)) S1x1024x1024.size (k0_off12_inb (grid0.coords t))).toLoadRect
    (landLo c Lo (Ring.sl 4 t.val) t.val (slotG (Ring.sl 4 t.val)).view.junk)
def loadHi : Vec F S1x1024x1024 .bf16 :=
  bufG.view.readAt (Elt F) (Rect.unit (s := S4x1024x1024) (k0_off12 (grid0.coords t)) S1x1024x1024.size (k0_off12_inb (grid0.coords t))).toLoadRect
    (landHi c Hi (Ring.sl 4 t.val) t.val (slotG (Ring.sl 4 t.val)).view.junk)
/-- The heads' block is of the first array in a sequence's first half, of the second in its second. -/
def loadG : Vec F S1x1024x1024 .bf16 := if t.val % 4 < 2 then loadLo c t Lo else loadHi c t Hi

/-- What the point stores, over the weights `w`. -/
def outAt (w : Vec F S1024x1024 .bf16) : Vec F S1x1024x1024 .f32 := k0_pay1 (k0_pay2 (loadX c t X) (loadG c t Lo Hi) w)

variable (arg4 : Memref sig .tc .vmem S1024x1024 .bf16) (harg4 : arg4.IsWhole) (arg5 : Memref sig .tc .vmem S1x1024x1024 .f32) (harg5 : arg5.IsWhole)

/-- The one store, over the weights as the body loads them from their buffer. -/
abbrev stored (g : Vec F S1x1024x1024 .bf16) (w : Vec F S1024x1024 .bf16) : List (View.Piece (Elt F) S1x1024x1024 .f32) :=
  [⟨Rect.unit ![0, 0, 0] ![1, 1024, 1024] inb_S1x1024x1024_S1x1024x1024_0_0_0,
    k0_pay1 (k0_pay2 (loadX c t X) g (View.readAt (Elt F) arg4.view (Rect.unit ![0, 0] S1024x1024.size inb_S1024x1024_S1024x1024_0_0).toLoadRect (harg4.unread w)))⟩]

/-- A buffer after the one store holds what was stored. -/
theorem owns_stored (g : Vec F S1x1024x1024 .bf16) (hg : g = loadG c t Lo Hi) (w : Vec F S1024x1024 .bf16) (L : List (View.Piece (Elt F) S1x1024x1024 .f32))
    (hL : L = stored c t X arg4 harg4 g w) :
    (iprop(∃ f, arg5.view.loc (c : Thread nD τ) ↦[arg5.view.set]{fullShare} arg5.view.writes (Elt F) f L) : sProp 𝕄)
      ⊢ owns (c : Thread nD τ) arg5 fullShare (outAt c t X Lo Hi w) := by
  subst hL hg
  unfold owns
  iintro ⟨%f, H⟩
  iexists _; isplitr
  swap; · iexact H
  ipureintro
  unfold stored outAt
  refine (View.read_writes_full arg5.view f _ _ _).trans ?_
  rw [View.readAt_full, harg4.read_unread]

theorem stores_lo (h1 h2 h3 h4 h5 h6) (w : Vec F S1024x1024 .bf16) : (runLo c t arg4 harg4 arg5 harg5 h1 h2 h3 h4 h5 h6 w X Lo).1 = stored c t X arg4 harg4 (loadLo c t Lo) w := rfl
theorem stores_hi (h1 h2 h3 h4 h5 h6) (w : Vec F S1024x1024 .bf16) : (runHi c t arg4 harg4 arg5 harg5 h1 h2 h3 h4 h5 h6 w X Hi).1 = stored c t X arg4 harg4 (loadHi c t Hi) w := rfl
theorem stores_loEnd (h1 h2 h3 h4) (w : Vec F S1024x1024 .bf16) : (runLoEnd c t arg4 harg4 arg5 harg5 h1 h2 h3 h4 w X Lo).1 = stored c t X arg4 harg4 (loadLo c t Lo) w := rfl
theorem stores_hiEnd (h1 h2 h3 h4) (w : Vec F S1024x1024 .bf16) : (runHiEnd c t arg4 harg4 arg5 harg5 h1 h2 h3 h4 w X Hi).1 = stored c t X arg4 harg4 (loadHi c t Hi) w := rfl
theorem stores_first (h0 h1 h2 h3 h4 h5 h6) (w : Vec F S1024x1024 .bf16) : (runFirst c t arg4 harg4 arg5 harg5 h0 h1 h2 h3 h4 h5 h6 w X Lo Hi).1 = stored c t X arg4 harg4 (loadLo c t Lo) w := rfl

theorem loadG_lo (h : t.val % 4 < 2) : loadLo c t Lo = loadG c t Lo Hi := by unfold loadG; rw [if_pos h]
theorem loadG_hi (h : ¬t.val % 4 < 2) : loadHi c t Hi = loadG c t Lo Hi := by unfold loadG; rw [if_neg h]
end Pay

end Cert.MobaOut

end
-- ==== Proof.OutFrame.lean ====
/- The output projection runs: every point's body, the launch, and what every buffer ends with. -/
module

public import proofs.«01_k».proof.Proof.OutKit
public import proofs.«01_k».proof.Proof.OutStore
public import Idealize.ShloMosaic.Lib.Claim

@[expose] public section

set_option maxRecDepth 16384

noncomputable section

namespace Cert.MobaOut

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Each window's staging buffer at a point. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)

/-- The arrays left in HBM, as the region finds them. -/
abbrev arrX (c : Dev nD) : Held (F := F) c hbmX := V m c main_arg0
abbrev arrLo (c : Dev nD) : Held (F := F) c hbmLo := V m c main_arg1
abbrev arrHi (c : Dev nD) : Held (F := F) c hbmHi := V m c main_arg2

/-- What point `t` stores. -/
abbrev outsAt0 (c : Dev nD) (t : Fin cfg0.N) : Vec F S1x1024x1024 .f32 := outAt c t (arrX m c) (arrLo m c) (arrHi m c) (iblk m c 0 t)

/-- The region invariant before point `k`: the generator register at some state, and the rings. -/
def PhiR (c : Dev nD) (k : ℕ) : sProp 𝕄 := iprop((∃ r, prngReg c r) ∗ rings c (arrX m c) (arrLo m c) (arrHi m c) k)

/-- The proof data: the arrays as the region finds them, what each point leaves, the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outsAt0 m c t
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = outsAt0 m c t := by dsimp only [dats]
theorem before0_0 (c : Dev nD) (t : Fin cfg0.N) (d) : (dats m 0 c).before 0 t d = iblk m c 0 t :=
  before0_0_of m (dats m 0 c) (A_eq m c 0) (after0_0 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 2000000 in
/-- The body at any point: the first starts every slot, every other takes its own out and puts it back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [after0_0, after0_1]
  rw [PhiR_castSucc m c t, PhiR_succ m c t]
  unfold Dat.owesAt Pipeline.owesWithin
  rw [show (dats m 0 c).owed t.castSucc = 0 from rfl, show (dats m 0 c).owed t.succ = 0 from rfl]
  unfold PhiR rings
  have hN : t.val < 16 := lt_of_lt_of_eq t.isLt (show cfg0.N = 16 from N_0)
  by_cases h0 : t.val = 0
  · rw [ring_start c _ _ _ t.val h0, ring_started c _ _ _ t.val h0]
    have hlo : t.val % 4 < 2 := by omega
    iintro ⟨⟨Hg, HR, Hs0, Hs1, Hs2, Hs3⟩, ⟨%W, -, HW⟩, ⟨%d0, H0⟩, ⟨%d1, H1⟩⟩
    iapply ((runFirst c t (ms0_0 t) (hs0_0 t) (ms0_1 t) (hs0_1 t) h0 ((first_iff t).mpr h0) ((waitsLo_iff t).mpr hlo) (fun h => (waitsHi_iff t).mp h hlo) ((starts_iff t).mpr (by omega)) ((startsLo_iff t).mpr hlo) (fun h => (startsHi_iff t).mp h hlo)
      (iblk m c 0 t) (arrX m c) (arrLo m c) (arrHi m c)).2 W _)
    isplitl [H0]; · iexact H0
    isplitl [H1]; · iexists _; iexact H1
    isplitl [Hs0]; · iexact Hs0
    isplitl [Hs1]; · iexact Hs1
    isplitl [Hs2]; · iexact Hs2
    isplitl [Hs3]; · iexact Hs3
    isplitl [HW]; · iexact HW
    iintro ⟨H0, H1, Hs0, Hs1, Hs2, Hs3, ⟨%W', HW'⟩⟩
    isplitl [Hg HR Hs0 Hs1 Hs2 Hs3]
    · isplitl [Hg]; · iexact Hg
      isplitl [HR]; · iexact HR
      isplitl [Hs0]; · iexact Hs0
      isplitl [Hs1]; · iexact Hs1
      isplitl [Hs2]; · iexact Hs2
      iexact Hs3
    isplitl [HW']
    · iexists W'; isplitr; · ipureintro; exact fun _ _ => Or.inl trivial
      iexact HW'
    isplitl [H0]; · iexact H0
    iapply (owns_stored c t (arrX m c) (arrLo m c) (arrHi m c) (ms0_0 t) (hs0_0 t) (ms0_1 t) _ (loadG_lo c t _ _ hlo) (iblk m c 0 t) _ (stores_first c t _ _ _ _ (hs0_0 t) _ (hs0_1 t) _ _ _ _ _ _ _ _))
    iexact H1
  by_cases hlo : t.val % 4 < 2
  · have hr := ring_lo c (arrX m c) (arrLo m c) (arrHi m c) t.val (by omega) hlo
    unfold slotLo at hr
    by_cases hst : t.val < 12
    · rw [slotAt_here _ _ t.val (by omega) hN, slotAt_next _ _ t.val hst] at hr
      iintro ⟨⟨Hg, HR, HS⟩, ⟨%W, -, HW⟩, ⟨%d0, H0⟩, ⟨%d1, H1⟩⟩
      ihave HS' := hr $$ HS
      icases HS' with ⟨⟨HsX, HsG⟩, Hback⟩
      iapply ((runLo c t (ms0_0 t) (hs0_0 t) (ms0_1 t) (hs0_1 t) (fun h => h0 ((first_iff t).mp h)) ((waitsLo_iff t).mpr hlo) (fun h => (waitsHi_iff t).mp h hlo) ((starts_iff t).mpr hst) ((startsLo_iff t).mpr hlo) (fun h => (startsHi_iff t).mp h hlo)
        (iblk m c 0 t) (arrX m c) (arrLo m c)).2 W _)
      isplitl [H0]; · iexact H0
      isplitl [H1]; · iexists _; iexact H1
      isplitl [HsX]; · iexact HsX
      isplitl [HsG]; · iexact HsG
      isplitl [HW]; · iexact HW
      iintro ⟨H0, H1, HsX, HsG, ⟨%W', HW'⟩⟩
      isplitl [Hg HR HsX HsG Hback]
      · isplitl [Hg]; · iexact Hg
        isplitl [HR]; · iexact HR
        iapply Hback
        isplitl [HsX]; · iexact HsX
        iexact HsG
      isplitl [HW']
      · iexists W'; isplitr; · ipureintro; exact fun _ _ => Or.inl trivial
        iexact HW'
      isplitl [H0]; · iexact H0
      iapply (owns_stored c t (arrX m c) (arrLo m c) (arrHi m c) (ms0_0 t) (hs0_0 t) (ms0_1 t) _ (loadG_lo c t _ _ hlo) (iblk m c 0 t) _ (stores_lo c t _ _ _ (hs0_0 t) _ (hs0_1 t) _ _ _ _ _ _ _))
      iexact H1
    · rw [slotAt_here _ _ t.val (by omega) hN, slotAt_end _ _ t.val hst] at hr
      iintro ⟨⟨Hg, HR, HS⟩, ⟨%W, -, HW⟩, ⟨%d0, H0⟩, ⟨%d1, H1⟩⟩
      ihave HS' := hr $$ HS
      icases HS' with ⟨⟨HsX, HsG⟩, Hback⟩
      iapply ((runLoEnd c t (ms0_0 t) (hs0_0 t) (ms0_1 t) (hs0_1 t) (fun h => h0 ((first_iff t).mp h)) ((waitsLo_iff t).mpr hlo) (fun h => (waitsHi_iff t).mp h hlo) (fun h => hst ((starts_iff t).mp h))
        (iblk m c 0 t) (arrX m c) (arrLo m c)).2 W _)
      isplitl [H0]; · iexact H0
      isplitl [H1]; · iexists _; iexact H1
      isplitl [HsX]; · iexact HsX
      isplitl [HsG]; · iexact HsG
      isplitl [HW]; · iexact HW
      iintro ⟨H0, H1, HsX, HsG, ⟨%W', HW'⟩⟩
      isplitl [Hg HR HsX HsG Hback]
      · isplitl [Hg]; · iexact Hg
        isplitl [HR]; · iexact HR
        iapply Hback
        isplitl [HsX]; · iexact HsX
        iexact HsG
      isplitl [HW']
      · iexists W'; isplitr; · ipureintro; exact fun _ _ => Or.inl trivial
        iexact HW'
      isplitl [H0]; · iexact H0
      iapply (owns_stored c t (arrX m c) (arrLo m c) (arrHi m c) (ms0_0 t) (hs0_0 t) (ms0_1 t) _ (loadG_lo c t _ _ hlo) (iblk m c 0 t) _ (stores_loEnd c t _ _ _ (hs0_0 t) _ (hs0_1 t) _ _ _ _ _))
      iexact H1
  · have hr := ring_hi c (arrX m c) (arrLo m c) (arrHi m c) t.val (by omega) hlo
    unfold slotHi at hr
    by_cases hst : t.val < 12
    · rw [slotAt_here _ _ t.val (by omega) hN, slotAt_next _ _ t.val hst] at hr
      iintro ⟨⟨Hg, HR, HS⟩, ⟨%W, -, HW⟩, ⟨%d0, H0⟩, ⟨%d1, H1⟩⟩
      ihave HS' := hr $$ HS
      icases HS' with ⟨⟨HsX, HsG⟩, Hback⟩
      iapply ((runHi c t (ms0_0 t) (hs0_0 t) (ms0_1 t) (hs0_1 t) (fun h => h0 ((first_iff t).mp h)) (fun h => hlo ((waitsLo_iff t).mp h)) ((waitsHi_iff t).mpr hlo) ((starts_iff t).mpr hst) (fun h => hlo ((startsLo_iff t).mp h)) ((startsHi_iff t).mpr hlo)
        (iblk m c 0 t) (arrX m c) (arrHi m c)).2 W _)
      isplitl [H0]; · iexact H0
      isplitl [H1]; · iexists _; iexact H1
      isplitl [HsX]; · iexact HsX
      isplitl [HsG]; · iexact HsG
      isplitl [HW]; · iexact HW
      iintro ⟨H0, H1, HsX, HsG, ⟨%W', HW'⟩⟩
      isplitl [Hg HR HsX HsG Hback]
      · isplitl [Hg]; · iexact Hg
        isplitl [HR]; · iexact HR
        iapply Hback
        isplitl [HsX]; · iexact HsX
        iexact HsG
      isplitl [HW']
      · iexists W'; isplitr; · ipureintro; exact fun _ _ => Or.inl trivial
        iexact HW'
      isplitl [H0]; · iexact H0
      iapply (owns_stored c t (arrX m c) (arrLo m c) (arrHi m c) (ms0_0 t) (hs0_0 t) (ms0_1 t) _ (loadG_hi c t _ _ hlo) (iblk m c 0 t) _ (stores_hi c t _ _ _ (hs0_0 t) _ (hs0_1 t) _ _ _ _ _ _ _))
      iexact H1
    · rw [slotAt_here _ _ t.val (by omega) hN, slotAt_end _ _ t.val hst] at hr
      iintro ⟨⟨Hg, HR, HS⟩, ⟨%W, -, HW⟩, ⟨%d0, H0⟩, ⟨%d1, H1⟩⟩
      ihave HS' := hr $$ HS
      icases HS' with ⟨⟨HsX, HsG⟩, Hback⟩
      iapply ((runHiEnd c t (ms0_0 t) (hs0_0 t) (ms0_1 t) (hs0_1 t) (fun h => h0 ((first_iff t).mp h)) (fun h => hlo ((waitsLo_iff t).mp h)) ((waitsHi_iff t).mpr hlo) (fun h => hst ((starts_iff t).mp h))
        (iblk m c 0 t) (arrX m c) (arrHi m c)).2 W _)
      isplitl [H0]; · iexact H0
      isplitl [H1]; · iexists _; iexact H1
      isplitl [HsX]; · iexact HsX
      isplitl [HsG]; · iexact HsG
      isplitl [HW]; · iexact HW
      iintro ⟨H0, H1, HsX, HsG, ⟨%W', HW'⟩⟩
      isplitl [Hg HR HsX HsG Hback]
      · isplitl [Hg]; · iexact Hg
        isplitl [HR]; · iexact HR
        iapply Hback
        isplitl [HsX]; · iexact HsX
        iexact HsG
      isplitl [HW']
      · iexists W'; isplitr; · ipureintro; exact fun _ _ => Or.inl trivial
        iexact HW'
      isplitl [H0]; · iexact H0
      iapply (owns_stored c t (arrX m c) (arrLo m c) (arrHi m c) (ms0_0 t) (hs0_0 t) (ms0_1 t) _ (loadG_hi c t _ _ hlo) (iblk m c 0 t) _ (stores_hiEnd c t _ _ _ (hs0_0 t) _ (hs0_1 t) _ _ _ _ _))
      iexact H1

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point; the invariant after the last hands it back. -/
theorem hin (c : Dev nD) : Pipeline.ΦD osem0 spec0 H0 (V m) c ⊢ (dats m 0 c).Φ 0 := by
  rw [show (dats m 0 c).Φ 0 = PhiR m c 0 from rfl]
  unfold PhiR
  iintro H
  ihave H' := (PhiD_eq m c).1 $$ H
  icases H' with ⟨Hg, HL⟩
  isplitl [Hg]; · iexact Hg
  iapply (rings_in c (arrX m c) (arrLo m c) (arrHi m c))
  iexact HL
theorem hout (c : Dev nD) : (dats m 0 c).Φ (Fin.last cfg0.N) ⊢ Pipeline.ΦD osem0 spec0 H0 (V m) c := by
  rw [show (dats m 0 c).Φ (Fin.last cfg0.N) = PhiR m c grid0.N from rfl]
  unfold PhiR
  rw [show grid0.N = 16 by rw [N_0]]
  iintro ⟨Hg, HL⟩
  iapply (PhiD_eq m c).2
  isplitl [Hg]; · iexact Hg
  iapply (rings_out c (arrX m c) (arrLo m c) (arrHi m c))
  iexact HL

/-! ## The run -/

set_option backward.isDefEq.respectTransparency.types false in
/-- Every execution ends, every counter at zero, every array of the pipeline at what the proof data says and every
    other buffer as the region found it. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every execution ends, the arguments as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (run_main m ρ)) ((θ_run defs _ _).mono (fun _ h => h.2) (run_main_quiescent m ρ))

end Cert.MobaOut

end
-- ==== Proof.OutTile.lean ====
/- The output projection's result at an index: each grid point writes its own block. -/
module

public import proofs.«01_k».proof.Proof.OutFrame
public import Idealize.ShloMosaic.Lib.Pointwise

@[expose] public section

set_option maxRecDepth 16384

noncomputable section

namespace Cert.MobaOut

open Cert.OutIdeal Cert.OutIdeal.Gen
open Idealize.ShloMosaic Idealize.ShloMosaic.TcCoe Idealize.SL.Sem

/-- The heads at a position, from the first array in the sequence's first half and from the second in its second. -/
def heads (lo hi : Vec Ideal ⟨3, ![4, 2048, 1024]⟩ .bf16) (b : Fin 4) (t : ℕ) (k : Fin 1024) : EReal :=
  if h : t < 2048 then lo (ix3 b ⟨t, h⟩ k) else if h : t - 2048 < 2048 then hi (ix3 b ⟨t - 2048, h⟩ k) else 0

/-- The layer's output: the residual and the heads' product with the weights. -/
def proj (x : Vec Ideal ⟨3, ![4, 4096, 1024]⟩ .f32) (lo hi : Vec Ideal ⟨3, ![4, 2048, 1024]⟩ .bf16) (w : Vec Ideal ⟨2, ![1024, 1024]⟩ .f32)
    (b : Fin 4) (t : Fin 4096) (j : Fin 1024) : EReal :=
  x (ix3 b t j) + ∑ k : Fin 1024, heads lo hi b t.val k * w (ix2 k j)

section Loads
variable {F : FTy → Type} [FloatOps F]
variable (c : Dev nD) (t : Fin grid0.N) (X : Held (F := F) c hbmX) (Lo : Held (F := F) c hbmLo) (Hi : Held (F := F) c hbmHi)

/-- A slot loaded at its offsets is the slot read, as one matrix. -/
theorem cast_slotX (s : Fin 4) (o : Fin 3 → ℕ) (h) (e : o = ![s.val, 0, 0]) (f : Held (F := F) c (slotX s)) :
    shapeCast S1024x1024 (bufX.view.readAt (Elt F) (Rect.unit (s := S4x1024x1024) o S1x1024x1024.size h).toLoadRect f) shapeCasts_S1x1024x1024_S1024x1024
      = (slotX s).view.read (Elt F) f := by
  subst e; rfl
theorem cast_slotG (s : Fin 4) (o : Fin 3 → ℕ) (h) (e : o = ![s.val, 0, 0]) (f : Held (F := F) c (slotG s)) :
    shapeCast S1024x1024 (bufG.view.readAt (Elt F) (Rect.unit (s := S4x1024x1024) o S1x1024x1024.size h).toLoadRect f) shapeCasts_S1x1024x1024_S1024x1024
      = (slotG s).view.read (Elt F) f := by
  subst e; rfl
/-- It holds the point's block. -/
theorem cast_loadX : shapeCast S1024x1024 (loadX c t X) shapeCasts_S1x1024x1024_S1024x1024 = (srcX (Ring.bk 16 t.val)).view.read (Elt F) X :=
  (cast_slotX c _ _ _ (off12 t) _).trans (View.read_writes_whole _ _ _)
theorem cast_loadLo : shapeCast S1024x1024 (loadLo c t Lo) shapeCasts_S1x1024x1024_S1024x1024 = (srcLo (Ring.bk 16 t.val)).view.read (Elt F) Lo :=
  (cast_slotG c _ _ _ (off12 t) _).trans (View.read_writes_whole _ _ _)
theorem cast_loadHi : shapeCast S1024x1024 (loadHi c t Hi) shapeCasts_S1x1024x1024_S1024x1024 = (srcHi (Ring.bk 16 t.val)).view.read (Elt F) Hi :=
  (cast_slotG c _ _ _ (off12 t) _).trans (View.read_writes_whole _ _ _)

/-- A block as one matrix. -/
theorem cast_at {α : Type} (v : S1x1024x1024.Idx → α) (r j : Fin 1024) : shapeCast S1024x1024 v shapeCasts_S1x1024x1024_S1024x1024 (ix2 r j) = v (ix3 0 r j) := by
  pointwise
/-- The blocks of the three arrays at an index. -/
theorem srcX_apply (b : Fin 16) (r j : Fin 1024) (i : S4x4096x1024.Idx) (h0 : (i 0).val = b.val / 4) (h1 : (i 1).val = 1024 * (b.val % 4) + r.val) (h2 : (i 2).val = j.val) :
    (srcX b).view.read (Elt F) X (ix2 r j) = X i := by
  refine (cast_at (fun y => (hbmX.slice (Rect.unit (s := S4x4096x1024) ![b.val / 4, 1024 * (b.val % 4), 0] S1x1024x1024.size (inb_srcX b)) (fun _ => rfl)).view.read (Elt F) X y) r j).trans ?_
  refine congrArg X (funext fun a => Fin.ext ?_)
  match a with
  | ⟨0, _⟩ => exact Eq.trans (by show b.val / 4 + 1 * 0 = b.val / 4; omega) h0.symm
  | ⟨1, _⟩ => exact Eq.trans (by show 1024 * (b.val % 4) + 1 * r.val = 1024 * (b.val % 4) + r.val; omega) h1.symm
  | ⟨2, _⟩ => exact Eq.trans (by show 0 + 1 * j.val = j.val; omega) h2.symm
theorem srcLo_apply (b : Fin 16) (r j : Fin 1024) (i : S4x2048x1024.Idx) (h0 : (i 0).val = b.val / 4) (h1 : (i 1).val = 1024 * (b.val % 2) + r.val) (h2 : (i 2).val = j.val) :
    (srcLo b).view.read (Elt F) Lo (ix2 r j) = Lo i := by
  refine (cast_at (fun y => (hbmLo.slice (Rect.unit (s := S4x2048x1024) ![b.val / 4, 1024 * (b.val % 2), 0] S1x1024x1024.size (inb_srcG b)) (fun _ => rfl)).view.read (Elt F) Lo y) r j).trans ?_
  refine congrArg Lo (funext fun a => Fin.ext ?_)
  match a with
  | ⟨0, _⟩ => exact Eq.trans (by show b.val / 4 + 1 * 0 = b.val / 4; omega) h0.symm
  | ⟨1, _⟩ => exact Eq.trans (by show 1024 * (b.val % 2) + 1 * r.val = 1024 * (b.val % 2) + r.val; omega) h1.symm
  | ⟨2, _⟩ => exact Eq.trans (by show 0 + 1 * j.val = j.val; omega) h2.symm
theorem srcHi_apply (b : Fin 16) (r j : Fin 1024) (i : S4x2048x1024.Idx) (h0 : (i 0).val = b.val / 4) (h1 : (i 1).val = 1024 * (b.val % 2) + r.val) (h2 : (i 2).val = j.val) :
    (srcHi b).view.read (Elt F) Hi (ix2 r j) = Hi i := by
  refine (cast_at (fun y => (hbmHi.slice (Rect.unit (s := S4x2048x1024) ![b.val / 4, 1024 * (b.val % 2), 0] S1x1024x1024.size (inb_srcG b)) (fun _ => rfl)).view.read (Elt F) Hi y) r j).trans ?_
  refine congrArg Hi (funext fun a => Fin.ext ?_)
  match a with
  | ⟨0, _⟩ => exact Eq.trans (by show b.val / 4 + 1 * 0 = b.val / 4; omega) h0.symm
  | ⟨1, _⟩ => exact Eq.trans (by show 1024 * (b.val % 2) + 1 * r.val = 1024 * (b.val % 2) + r.val; omega) h1.symm
  | ⟨2, _⟩ => exact Eq.trans (by show 0 + 1 * j.val = j.val; omega) h2.symm
end Loads

section Tile
variable (c : Dev nD) (s : Fin grid0.N) (X : Held (F := Ideal) c hbmX) (Lo : Held (F := Ideal) c hbmLo) (Hi : Held (F := Ideal) c hbmHi)

/-- The heads' block at an index. -/
theorem loadG_at (b : Fin 4) (t : ℕ) (hs : s.val = 4 * b.val + t / 1024) (ht : t < 4096) (k : Fin 1024) :
    shapeCast S1024x1024 (loadG c s Lo Hi) shapeCasts_S1x1024x1024_S1024x1024 (ix2 ⟨t % 1024, Nat.mod_lt _ (by decide)⟩ k) = heads Lo Hi b t k := by
  have e : (Ring.bk 16 s.val).val = s.val := Nat.mod_eq_of_lt (lt_of_lt_of_eq s.isLt N_0)
  unfold loadG heads
  by_cases h : t < 2048
  · rw [if_pos (by omega), dif_pos h, cast_loadLo]
    exact srcLo_apply c Lo _ _ _ _ (by show b.val = _; omega) (by show t = 1024 * _ + t % 1024; omega) rfl
  · rw [if_neg (by omega), dif_neg h, dif_pos (by omega), cast_loadHi]
    exact srcHi_apply c Hi _ _ _ _ (by show b.val = _; omega) (by show t - 2048 = 1024 * _ + t % 1024; omega) rfl

/-- What a point stores, at an index. -/
theorem tile_at (w : Vec Ideal S1024x1024 .bf16) (w' : Vec Ideal ⟨2, ![1024, 1024]⟩ .f32) (hw : ∀ k j, w (ix2 k j) = w' (ix2 k j))
    (b : Fin 4) (t : Fin 4096) (hs : s.val = 4 * b.val + t.val / 1024) (j : Fin 1024) :
    outAt c s X Lo Hi w (ix3 0 ⟨t.val % 1024, Nat.mod_lt _ (by decide)⟩ j) = proj X Lo Hi w' b t j := by
  have e : (Ring.bk 16 s.val).val = s.val := Nat.mod_eq_of_lt (lt_of_lt_of_eq s.isLt N_0)
  unfold outAt k0_pay1 k0_pay2 proj
  have hX : shapeCast S1024x1024 (loadX c s X) shapeCasts_S1x1024x1024_S1024x1024 (ix2 ⟨t.val % 1024, Nat.mod_lt _ (by decide)⟩ j) = X (ix3 b t j) := by
    rw [cast_loadX]
    exact srcX_apply c X _ _ _ _ (by show b.val = _; omega) (by show t.val = 1024 * _ + t.val % 1024; omega) rfl
  have hG := loadG_at c s Lo Hi b t.val hs t.isLt
  generalize shapeCast S1024x1024 (loadX c s X) shapeCasts_S1x1024x1024_S1024x1024 = x at hX ⊢
  generalize shapeCast S1024x1024 (loadG c s Lo Hi) shapeCasts_S1x1024x1024_S1024x1024 = g at hG ⊢
  pointwise [hX, hG, hw]
end Tile

end Cert.MobaOut

end
-- ==== Proof.OutResult.lean ====
/- The output projection's array at an index, after the run; and its reference's. -/
module

public import proofs.«01_k».proof.Proof.Gen.OutReferenceIdeal.Read
public import proofs.«01_k».proof.Proof.OutTile

@[expose] public section

set_option maxRecDepth 16384

noncomputable section

namespace Cert.MobaOut

open Cert.OutIdeal Cert.OutIdeal.Gen
open Idealize.ShloMosaic Idealize.ShloMosaic.TcCoe Idealize.SL.Sem
open Idealize.ShloMosaic.Pipeline (Dat)

section Blocks
variable {F : FTy → Type} [FloatOps F]
variable (m : (ℓ : Loc nD τ sig) → Buf (Elt F) ℓ) (ρ : Dev nD → PrngReg)

/-- What a point writes back is what it stored. -/
theorem flushed1 (c : Dev nD) (t : Fin cfg0.N) :
    (dats m 0 c).flushed 1 t = (cfg0.win 1).cut (grid0.coords t) (outsAt0 m c t) := by
  show (cfg0.win 1).cut (grid0.coords t) ((dats m 0 c).after 1 t) = _
  rw [after0_1]

theorem idx_inj1 : ∀ t t' : Fin cfg0.N, win0_1.index t = win0_1.index t' → t = t' :=
  (by decide +kernel : ∀ t t' : Fin grid0.N, win0_1.index t = win0_1.index t' → t = t')

/-- No two points write the same place, -/
theorem disjoint1 : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (idx_inj1 t t' h)

/-- so a point's block of the array ends as the point wrote it. -/
theorem blocks1 (c : Dev nD) (t : Fin cfg0.N) (hf : (cfg0.win 1).flush t = true) :
    ((cfg0.win 1).blk t).view.read (Elt F) ((dats m 0 c).arrAt 1 cfg0.N) = (dats m 0 c).flushed 1 t :=
  (dats m 0 c).read_blk_arrAt_eq_flushed 1 disjoint1 cfg0.N t t.isLt hf

/-- The run, with the result's array named. -/
theorem run_blocks : θ_run defs (onTc (τ := τ) (main (F := F))) ⟨m, fun _ => 0, ρ⟩ fun r => ∀ c : Dev nD,
      r.2.mem ((c : Thread nD τ).loc main_v1) = (dats m 0 c).arrAt 1 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 1, h.2 c⟩)
    (θ_run_and (run_main m ρ) (frame_of m ρ (dats m) (run_main m ρ)))
end Blocks

variable (m : (ℓ : Loc nD τ sig) → Buf (Elt Ideal) ℓ) (c : Dev nD)

/-- The weights, rounded. -/
theorem V_v0 : V m c main_v0 = (truncf (F := Ideal) (s := S1024x1024) .bf16 (m ((c : Thread nD τ).loc main_arg3)) bitsLt_bf16_f32) := by
  show StableHlo.after hostOps0 _ (Proc.devRef .tc main_v0) = _
  simp only [hostOps0]
  after_results

theorem index_0 : ∀ (t : Fin cfg0.N) (a : Fin 2), win0_0.index t a = 0 := (by decide +kernel : ∀ (t : Fin grid0.N) (a : Fin 2), _)
theorem index_1 : ∀ t : Fin cfg0.N, win0_1.index t (0 : Fin 3) = t.val / 4 ∧ win0_1.index t (1 : Fin 3) = t.val % 4
    ∧ win0_1.index t (2 : Fin 3) = 0 := (by decide +kernel : ∀ t : Fin grid0.N, _)

/-- The weights' window reads them whole. -/
theorem blk_0 (t : Fin cfg0.N) (k j : Fin 1024) : iblk m c 0 t (ix2 k j : S1024x1024.Idx) = (m ((c : Thread nD τ).loc main_arg3) : Vec Ideal S1024x1024 .f32) (ix2 k j) := by
  refine (congrArg (V m c main_v0) (funext fun a => Fin.ext (win0_0.rect_emb_val_of_index_zero t a (index_0 t a) (ix2 k j)))).trans ?_
  rw [V_v0]
  rfl

/-- The result. -/
theorem result_at (b : Fin 4) (t : Fin 4096) (j : Fin 1024) :
    ((dats m 0 c).arrAt 1 cfg0.N : Vec Ideal S4x4096x1024 .f32) (ix3 b t j)
      = proj (m ((c : Thread nD τ).loc main_arg0)) (m ((c : Thread nD τ).loc main_arg1)) (m ((c : Thread nD τ).loc main_arg2)) (m ((c : Thread nD τ).loc main_arg3)) b t j := by
  have hp : ∃ s : Fin cfg0.N, s.val = 4 * b.val + t.val / 1024 := ⟨(⟨4 * b.val + t.val / 1024, by omega⟩ : Fin 16), rfl⟩
  obtain ⟨s, hs⟩ := hp
  obtain ⟨e0, e1, e2⟩ := index_1 s
  have h := congrFun ((blocks1 m c s (flush0_1 s)).trans (flushed1 m c s)) (ix3 0 ⟨t.val % 1024, Nat.mod_lt _ (by decide)⟩ j : S1x1024x1024.Idx)
  refine (congrArg ((dats m 0 c).arrAt 1 cfg0.N) (funext fun a => Fin.ext ?_)).trans (h.trans ?_)
  · refine Eq.trans ?_ (win0_1.rect_emb_val s _ a).symm
    match a with
    | ⟨0, _⟩ => show b.val = win0_1.index s (0 : Fin 3) * 1 + 0; omega
    | ⟨1, _⟩ => show t.val = win0_1.index s (1 : Fin 3) * 1024 + t.val % 1024; omega
    | ⟨2, _⟩ => show j.val = win0_1.index s (2 : Fin 3) * 1024 + j.val; omega
  · refine (tile_at c s _ _ _ _ _ (blk_0 m c s) b t hs j).trans ?_
    unfold arrX arrLo arrHi
    rw [V_kept m c main_arg0 (by decide), V_kept m c main_arg1 (by decide), V_kept m c main_arg2 (by decide)]

/-- The reference, at an index. -/
theorem reference_at (x : Vec Ideal ⟨3, ![4, 4096, 1024]⟩ .f32) (lo hi : Vec Ideal ⟨3, ![4, 2048, 1024]⟩ .bf16) (w : Vec Ideal ⟨2, ![1024, 1024]⟩ .f32)
    (b : Fin 4) (t : Fin 4096) (j : Fin 1024) :
    Cert.OutReferenceIdeal.Read.val_main_v3 (F := Ideal) x lo hi w (ix3 b t j) = proj x lo hi w b t j := by
  unfold proj heads Cert.OutReferenceIdeal.Read.val_main_v3 Cert.OutReferenceIdeal.Read.val_main_v2 Cert.OutReferenceIdeal.Read.val_main_v1 Cert.OutReferenceIdeal.Read.val_main_v0
  pointwise
  refine congrArg _ (Finset.sum_congr rfl fun k _ => congrArg (· * _) ?_)
  by_cases h : t.val < 2048
  · rw [dif_pos h, dif_pos h]
  · rw [dif_neg h, dif_neg h, dif_pos (show t.val - 2048 < 2048 by omega)]

end Cert.MobaOut

end
-- ==== Proof.OutBits.lean ====
/- The output projection's printed program runs as its idealized one does: over words the two are the same program. -/
module

public import proofs.«01_k».proof.Proof.Gen.Out.Launch
public import proofs.«01_k».proof.Proof.OutFrame

@[expose] public section

set_option maxRecDepth 65536

namespace Cert.MobaOut

open Idealize.ShloMosaic Idealize.ShloMosaic.TcCoe Idealize.SL.Sem
variable {F : FTy → Type} [FloatOps F]

/-- The program. -/
theorem main_same : @Cert.Out.main F _ _ = @Cert.OutIdeal.main F _ _ := rfl
/-- The table of bodies, at its one label. -/
theorem defs₀_same : @Cert.Out.defs₀ F _ _ = @Cert.OutIdeal.defs₀ F _ _ := by
  unfold Cert.Out.defs₀ Cert.OutIdeal.defs₀
  refine congrArg Defs.onTc ?_
  funext l
  obtain ⟨n, h⟩ := l
  cases n with
  | zero => rfl
  | succ n => exact absurd h (Nat.not_lt.2 (Nat.le_add_left _ _))
/-- And the whole table, with the transfers of the blocks between points. -/
theorem defs_same : @Cert.Out.defs F _ _ = @Cert.OutIdeal.defs F _ _ :=
  congrArg (Pipeline.defs (Cert.OutIdeal.pcfgs (F := F))) defs₀_same

/-- So the printed program ends, its arguments as launched and every counter at zero. -/
theorem frame_printed (m : (ℓ : Loc Cert.Out.nD Cert.Out.τ Cert.Out.sig) → Buf (Elt F) ℓ) (ρ : Dev Cert.Out.nD → PrngReg) :
    θ_run (Cert.Out.defs (F := F)) (onTc (τ := Cert.Out.τ) (Cert.Out.main (F := F))) ⟨m, fun _ => 0, ρ⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0) := by
  have h := frame (F := F) m ρ
  rw [← defs_same] at h
  exact h

end Cert.MobaOut
-- ==== Proof.lean ====
/- The claims about three of the layer's calls. The kernels and their references end without changing anything but their
   results; each kernel over the ideal scalars and its reference end with the same results: each is read at an index, where
   both are the layer `Cert.PoolConv.out` of the batch's sequence (Proof/Spec.lean), the projection's five results
   `Cert.MobaProj.Q`, `K`, `Vl`, `Gz`, `Km` (Proof/ProjSpec.lean), or the output projection `Cert.MobaOut.proj`
   (Proof/OutTile.lean). -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Proj.Frame
public import proofs.«01_k».proof.Proof.Gen.ProjIdeal.Value
public import proofs.«01_k».proof.Proof.Gen.ProjReferenceIdeal.Run
public import proofs.«01_k».proof.Proof.Gen.ProjReferenceIdeal.Read
public import proofs.«01_k».proof.Proof.Gen.OutReferenceIdeal.Run
public import proofs.«01_k».proof.Proof.Gen.OutReferenceIdeal.Read
public import Idealize.ShloMosaic.Adequacy
public import Idealize.ShloMosaic.Init
public import Idealize.ShloMosaic.Lib.Quiescent
public import proofs.«01_k».proof.Proof.Sweep
public import proofs.«01_k».proof.Proof.RefOut
public import proofs.«01_k».proof.Proof.ProjResult
public import proofs.«01_k».proof.Proof.ProjRef
public import proofs.«01_k».proof.Proof.OutResult
public import proofs.«01_k».proof.Proof.OutBits

@[expose] public section

noncomputable section

namespace Cert.Proof

open Idealize.ShloMosaic Idealize.SL.Sem

/-- The reference ends and leaves its arguments alone. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From launch memories that agree on the arguments the reference's value is the kernel's. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree :
      m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6)
        = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8)
        = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9)
        = m ((c.tc : Thread Cert.KernelIdeal.nD Cert.KernelIdeal.τ).loc Cert.KernelIdeal.main_arg9)) :
    Cert.ReferenceIdeal.Read.val_main_v405 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      = Cert.KernelIdeal.Value.G11 m c := by
  obtain ⟨h0, h1, h2, h3, h4, h5, h6, h7, h8, h9⟩ := hagree
  rw [h0, h1, h2, h3, h4, h5, h6, h7, h8, h9]
  funext i
  idx_vars i
  exact (Cert.PoolConv.Ref.reference_at _ _ _).trans (Cert.PoolConv.result_at m c _ _ _).symm

/-- The kernel over the ideal scalars and the reference have the same results. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine ((h c).1.trans (Cert.ReferenceIdeal.Read.val_main_v405_eq (StableHlo.launchContents m' c))).trans ?_
  exact same_result m m' c (hagree c)

/-- The projection's reference ends and leaves its arguments alone. -/
theorem quiescent_ProjReferenceIdeal : quiescent_ProjReferenceIdeal := fun m ρ _ =>
  (θ_run Cert.ProjReferenceIdeal.defs _ _).mono (fun r h => ⟨fun c => (h c).2.2.2.2.2, sem_eq_zero_of_no_sems (by decide) r.2⟩)
    (Cert.ProjReferenceIdeal.Value.run (F := Ideal) m ρ)

/-- The projection's named constant is the one its reference scales the queries by. -/
theorem preserves_Proj_ProjIdeal : preserves_Proj_ProjIdeal :=
  IdealRules.named_const.statement Cert.ProjIdeal.κ "q_scale" .f32 0x3E38AA3B#32 (((8 * (Real.log 2))⁻¹ : ℝ) : EReal) rfl

/-- The projection over the ideal scalars and its reference have the same results. -/
theorem algebraic_ProjIdeal_ProjReferenceIdeal : algebraic_ProjIdeal_ProjReferenceIdeal := by
  intro m ρ m' ρ' _ hagree
  refine ⟨_, _, _, _, _, Cert.ProjIdeal.Value.run_blocks (F := Ideal) m ρ, ?_⟩
  refine (θ_run Cert.ProjReferenceIdeal.defs _ _).mono (fun _ h c => ⟨?_, ?_, ?_, ?_, ?_, (h c).2.2.2.2.2⟩)
    (Cert.ProjReferenceIdeal.Value.run (F := Ideal) m' ρ')
  all_goals obtain ⟨h0, h1, h2, h3, h4⟩ := hagree c
  · refine ((h c).1.trans (Cert.ProjReferenceIdeal.Read.val_main_v53_eq _ _ _ _)).trans ?_
    rw [h0, h1, h2, h3]
    funext i
    idx_vars i
    exact (Cert.MobaProj.Ref.q_at _ _ _).trans (Cert.MobaProj.result_q m c _ _ _).symm
  · refine ((h c).2.1.trans (Cert.ProjReferenceIdeal.Read.val_main_v54_eq _ _ _ _)).trans ?_
    rw [h0, h1, h2, h4]
    funext i
    idx_vars i
    exact (Cert.MobaProj.Ref.k_at _ _ _).trans (Cert.MobaProj.result_k m c _ _ _).symm
  · refine ((h c).2.2.1.trans (Cert.ProjReferenceIdeal.Read.val_main_v57_eq _ _ _)).trans ?_
    rw [h0, h1, h2]
    funext i
    idx_vars i
    exact (Cert.MobaProj.Ref.v_at _ _ _ _).trans (Cert.MobaProj.result_v m c _ _ _ _).symm
  · refine ((h c).2.2.2.1.trans (Cert.ProjReferenceIdeal.Read.val_main_v65_eq _ _ _)).trans ?_
    rw [h0, h1, h2]
    funext i
    idx_vars i
    exact (Cert.MobaProj.Ref.z_at _ _ _).trans (Cert.MobaProj.result_z m c _ _ _).symm
  · refine ((h c).2.2.2.2.1.trans (Cert.ProjReferenceIdeal.Read.val_main_v70_eq m' c)).trans ?_
    rw [h0, h1, h2, h4]
    funext i
    idx_vars i
    exact (Cert.MobaProj.Ref.m_at _ _ _ _).trans (Cert.MobaProj.result_m m c _ _ _ _).symm

/-- The output projection's reference ends and leaves its arguments alone. -/
theorem quiescent_OutReferenceIdeal : quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

/-- The output projection over the ideal scalars and its reference have the same result. -/
theorem algebraic_OutIdeal_OutReferenceIdeal : algebraic_OutIdeal_OutReferenceIdeal := by
  intro m ρ m' ρ' _ hagree
  refine ⟨_, Cert.MobaOut.run_blocks (F := Ideal) m ρ, ?_⟩
  refine (θ_run Cert.OutReferenceIdeal.defs _ _).mono (fun _ h c => ⟨?_, (h c).2⟩) (Cert.OutReferenceIdeal.Value.run (F := Ideal) m' ρ')
  obtain ⟨h0, h1, h2, h3⟩ := hagree c
  refine ((h c).1.trans (Cert.OutReferenceIdeal.Read.val_main_v3_eq _ _ _ _)).trans ?_
  rw [h0, h1, h2, h3]
  funext i
  idx_vars i
  exact (Cert.MobaOut.reference_at _ _ _ _ _ _ _).trans (Cert.MobaOut.result_at m c _ _ _).symm

/-- All fifteen claims. -/
theorem claim : Cert.Claim := ⟨Cert.Kernel.Gen.facts, Cert.KernelIdeal.Gen.facts, Cert.ReferenceIdeal.Gen.facts,
  Cert.Proj.Gen.facts, Cert.ProjIdeal.Gen.facts, Cert.ProjReferenceIdeal.Gen.facts,
  Cert.Out.Gen.facts, Cert.OutIdeal.Gen.facts, Cert.OutReferenceIdeal.Gen.facts,
  fun m ρ _ => Cert.Kernel.Gen.frame m ρ, fun m ρ _ => Cert.KernelIdeal.Gen.frame m ρ, quiescent_ReferenceIdeal,
  fun m ρ _ => Cert.Proj.Gen.frame m ρ, fun m ρ _ => Cert.ProjIdeal.Gen.frame m ρ, quiescent_ProjReferenceIdeal,
  fun m ρ _ => Cert.MobaOut.frame_printed m ρ, fun m ρ _ => Cert.MobaOut.frame m ρ, quiescent_OutReferenceIdeal,
  (trivial : preserves_Kernel_KernelIdeal), algebraic_KernelIdeal_ReferenceIdeal, preserves_Proj_ProjIdeal,
  algebraic_ProjIdeal_ProjReferenceIdeal, (trivial : preserves_Out_OutIdeal), algebraic_OutIdeal_OutReferenceIdeal⟩

end Cert.Proof

end
